-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_tame [hPre_tame : Cert.Pre_tame.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_tame.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_tame.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_tame [hPre_tame : Cert.Pre_tame.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_tame.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_tame.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_plain [hPre_plain : Cert.Pre_plain.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_plain.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_plain [hPre_plain : Cert.Pre_plain.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_plain.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_tame [hKernel4Ideal : Cert.Kernel4Ideal.Facts] [hPre_tame : Cert.Pre_tame.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_tame m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_tame [hReference4Ideal : Cert.Reference4Ideal.Facts] [hPre_tame : Cert.Pre_tame.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_tame m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_plain [hKernel5Ideal : Cert.Kernel5Ideal.Facts] [hPre_plain : Cert.Pre_plain.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_plain m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_plain [hReference5Ideal : Cert.Reference5Ideal.Facts] [hPre_plain : Cert.Pre_plain.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_plain m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)) (v2 : (c : Dev Cert.Kernel3Ideal.nD) → Buf (Elt Ideal) ((c.tc : Thread Cert.Kernel3Ideal.nD Cert.Kernel3Ideal.τ).loc Cert.Kernel3Ideal.main_v12_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_v12_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_v55) = v1 c
          ∧ r.2.mem ((c.tc : Thread Cert.Reference3Ideal.nD Cert.Reference3Ideal.τ).loc Cert.Reference3Ideal.main_v56) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal_pre_tame [hKernel4Ideal : Cert.Kernel4Ideal.Facts] [hReference4Ideal : Cert.Reference4Ideal.Facts] [hPre_tame : Cert.Pre_tame.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_tame m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v20)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v45) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_plain [hKernel5Ideal : Cert.Kernel5Ideal.Facts] [hReference5Ideal : Cert.Reference5Ideal.Facts] [hPre_plain : Cert.Pre_plain.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_plain m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v106_0)) (v1 : (c : Dev Cert.Kernel5Ideal.nD) → Buf (Elt Ideal) ((c.tc : Thread Cert.Kernel5Ideal.nD Cert.Kernel5Ideal.τ).loc Cert.Kernel5Ideal.main_v106_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v106_0) = v0 c
          ∧ r.2.mem ((c.tc : Thread Cert.Kernel5Ideal.nD Cert.Kernel5Ideal.τ).loc Cert.Kernel5Ideal.main_v106_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v71) = v0 c
          ∧ r.2.mem ((c.tc : Thread Cert.Reference5Ideal.nD Cert.Reference5Ideal.τ).loc Cert.Reference5Ideal.main_v74) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_tame : Cert.Pre_tame.Facts) (hPre_plain : Cert.Pre_plain.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_tame (hKernel4Ideal := hKernel4Ideal) (hPre_tame := hPre_tame)
    ∧ quiescent_Reference4Ideal (hReference4Ideal := hReference4Ideal)
    ∧ quiescent_Reference4Ideal_pre_tame (hReference4Ideal := hReference4Ideal) (hPre_tame := hPre_tame)
    ∧ quiescent_Kernel5 (hKernel5 := hKernel5)
    ∧ quiescent_Kernel5Ideal (hKernel5Ideal := hKernel5Ideal)
    ∧ quiescent_Kernel5Ideal_pre_plain (hKernel5Ideal := hKernel5Ideal) (hPre_plain := hPre_plain)
    ∧ quiescent_Reference5Ideal (hReference5Ideal := hReference5Ideal)
    ∧ quiescent_Reference5Ideal_pre_plain (hReference5Ideal := hReference5Ideal) (hPre_plain := hPre_plain)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_tame (hKernel4Ideal := hKernel4Ideal) (hReference4Ideal := hReference4Ideal) (hPre_tame := hPre_tame)
    ∧ preserves_Kernel5_Kernel5Ideal
    ∧ algebraic_Kernel5Ideal_Reference5Ideal_pre_plain (hKernel5Ideal := hKernel5Ideal) (hReference5Ideal := hReference5Ideal) (hPre_plain := hPre_plain)
-- ==== Pre_finite.lean ====
abbrev S16384x1024 : Shape := ⟨2, ![16384, 1024]⟩
abbrev S16384x5120 : Shape := ⟨2, ![16384, 5120]⟩
abbrev S4x64 : Shape := ⟨2, ![4, 64]⟩
abbrev S1x128 : Shape := ⟨2, ![1, 128]⟩
abbrev S16384x512 : Shape := ⟨2, ![16384, 512]⟩
abbrev S_ : Shape := ⟨0, ![]⟩

class Facts : Prop where
  slices_S16384x5120_S16384x512_0_1024 : S16384x5120.Slices ![0, 1024] S16384x512
  bitsLt_bf16_f32 : FTy.bits .bf16 < FTy.bits .f32
  bcast_S_S16384x512 : S_.BroadcastsInDim S16384x512 (![] : Fin 0 → Fin S16384x512.rank)
  bcast_S_S4x64 : S_.BroadcastsInDim S4x64 (![] : Fin 0 → Fin S4x64.rank)

variable [Facts]

def fn {F : FTy → Type} [FloatOps F] (main_arg0 : FVec F S16384x1024 .bf16) (main_arg1 : FVec F S16384x5120 .bf16) (main_arg2 : FVec F S4x64 .f32) (main_arg3 : FVec F S1x128 .f32) : IVec S16384x512 1 × IVec S4x64 1 :=
  let main_v0 : FVec F S16384x512 .bf16 := (extractStridedSlice S16384x512 ![0, 1024] · slices_S16384x5120_S16384x512_0_1024) main_arg1
  let main_v1 : FVec F S16384x512 .f32 := (extf .f32 · bitsLt_bf16_f32) main_v0
  let main_v2 : FVec F S16384x512 .f32 := Host.absf main_v1
  let main_cst : FVec F S_ .f32 := constant S_ .f32 0x7F800000#32
  let main_v3 : FVec F S16384x512 .f32 := broadcastInDim S16384x512 ![] bcast_S_S16384x512 main_cst
  let main_v4 : IVec S16384x512 1 := cmpf .olt main_v2 main_v3
  let main_v5 : FVec F S4x64 .f32 := Host.absf main_arg2
  let main_cst_0 : FVec F S_ .f32 := constant S_ .f32 0x7F800000#32
  let main_v6 : FVec F S4x64 .f32 := broadcastInDim S4x64 ![] bcast_S_S4x64 main_cst_0
  let main_v7 : IVec S4x64 1 := cmpf .olt main_v5 main_v6
  (main_v4, main_v7)
-- ==== Pre_plain.lean ====
abbrev S1x33x64 : Shape := ⟨3, ![1, 33, 64]⟩
abbrev S1x64 : Shape := ⟨2, ![1, 64]⟩
abbrev S1x64x64 : Shape := ⟨3, ![1, 64, 64]⟩
abbrev S1x64x2048 : Shape := ⟨3, ![1, 64, 2048]⟩
abbrev S_ : Shape := ⟨0, ![]⟩

class Facts : Prop where
  bcast_S_S1x64x2048 : S_.BroadcastsInDim S1x64x2048 (![] : Fin 0 → Fin S1x64x2048.rank)

variable [Facts]

def fn {F : FTy → Type} [FloatOps F] (main_arg0 : FVec F S1x33x64 .f32) (main_arg1 : FVec F S1x64 .f32) (main_arg2 : FVec F S1x64x64 .f32) (main_arg3 : FVec F S1x64 .f32) (main_arg4 : FVec F S1x64x64 .f32) (main_arg5 : FVec F S1x64 .f32) (main_arg6 : FVec F S1x64x2048 .f32) (main_arg7 : FVec F S1x64 .f32) : IVec S1x64x2048 1 :=
  let main_v0 : FVec F S1x64x2048 .f32 := Host.absf main_arg6
  let main_cst : FVec F S_ .f32 := constant S_ .f32 0x7F800000#32
  let main_v1 : FVec F S1x64x2048 .f32 := broadcastInDim S1x64x2048 ![] bcast_S_S1x64x2048 main_cst
  let main_v2 : IVec S1x64x2048 1 := cmpf .olt main_v0 main_v1
  main_v2
-- ==== Pre_tame.lean ====
abbrev S16384x5120 : Shape := ⟨2, ![16384, 5120]⟩
abbrev S4096x8 : Shape := ⟨2, ![4096, 8]⟩
abbrev S1x64 : Shape := ⟨2, ![1, 64]⟩
abbrev S1x16 : Shape := ⟨2, ![1, 16]⟩
abbrev S_ : Shape := ⟨0, ![]⟩

class Facts : Prop where
  slices_S1x64_S1x16_0_0 : S1x64.Slices ![0, 0] S1x16
  bcast_S_S1x16 : S_.BroadcastsInDim S1x16 (![] : Fin 0 → Fin S1x16.rank)

variable [Facts]

def fn {F : FTy → Type} [FloatOps F] (main_arg0 : FVec F S16384x5120 .bf16) (main_arg1 : FVec F S4096x8 .f32) (main_arg2 : FVec F S4096x8 .f32) (main_arg3 : FVec F S1x64 .f32) (main_arg4 : FVec F S1x64 .f32) : IVec S1x16 1 × IVec S1x16 1 :=
  let main_v0 : FVec F S1x16 .f32 := (extractStridedSlice S1x16 ![0, 0] · slices_S1x64_S1x16_0_0) main_arg3
  let main_v1 : FVec F S1x16 .f32 := Host.absf main_v0
  let main_cst : FVec F S_ .f32 := constant S_ .f32 0x7F800000#32
  let main_v2 : FVec F S1x16 .f32 := broadcastInDim S1x16 ![] bcast_S_S1x16 main_cst
  let main_v3 : IVec S1x16 1 := cmpf .olt main_v1 main_v2
  let main_v4 : FVec F S1x16 .f32 := (extractStridedSlice S1x16 ![0, 0] · slices_S1x64_S1x16_0_0) main_arg4
  let main_v5 : FVec F S1x16 .f32 := Host.absf main_v4
  let main_cst_0 : FVec F S_ .f32 := constant S_ .f32 0x7F800000#32
  let main_v6 : FVec F S1x16 .f32 := broadcastInDim S1x16 ![] bcast_S_S1x16 main_cst_0
  let main_v7 : IVec S1x16 1 := cmpf .olt main_v5 main_v6
  (main_v3, main_v7)
-- ==== Kernel.lean ====
abbrev S16384x1024 : Shape := ⟨2, ![16384, 1024]⟩
abbrev S16384x5120 : Shape := ⟨2, ![16384, 5120]⟩
abbrev S4x64 : Shape := ⟨2, ![4, 64]⟩
abbrev S1x128 : Shape := ⟨2, ![1, 128]⟩
abbrev S16384x512 : Shape := ⟨2, ![16384, 512]⟩
abbrev S1024x128 : Shape := ⟨2, ![1024, 128]⟩
abbrev S4096x128 : Shape := ⟨2, ![4096, 128]⟩
abbrev S2048x128 : Shape := ⟨2, ![2048, 128]⟩
abbrev S1x64 : Shape := ⟨2, ![1, 64]⟩
abbrev S1 : Shape := ⟨1, ![1]⟩
abbrev S1x1 : Shape := ⟨2, ![1, 1]⟩
abbrev S2048x1 : Shape := ⟨2, ![2048, 1]⟩
abbrev S256x128 : Shape := ⟨2, ![256, 128]⟩
abbrev S2048x256 : Shape := ⟨2, ![2048, 256]⟩
abbrev S2048 : Shape := ⟨1, ![2048]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S16384x5120, .bf16⟩
  | .hbm, ⟨2, _⟩ => ⟨S4x64, .f32⟩
  | .hbm, ⟨3, _⟩ => ⟨S1x128, .f32⟩
  | .hbm, ⟨4, _⟩ => ⟨S16384x512, .bf16⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4x64, .f32⟩
  | .local _ .vmem, ⟨7, _⟩ => ⟨S1x128, .f32⟩
  | .local _ .vmem, ⟨8, _⟩ => ⟨S1024x128, .bf16⟩
  | .local _ .vmem, ⟨9, _⟩ => ⟨S1024x128, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 4], ![false, false, false]⟩

def k0_mult1 : BitVec 32 :=
  let c0_i32 : BitVec 32 := 0#32
  let c256_i32 : BitVec 32 := 256#32
  let v33 : BitVec 32 := Scalar.muli c0_i32 c256_i32
  v33
def k0_off1 (c0_i32 : BitVec 32) : Fin 2 → Nat :=
  let c256_i32 : BitVec 32 := 256#32
  let v33 : BitVec 32 := Scalar.muli c0_i32 c256_i32
  let v34 : BitVec 32 := v33
  let v35 : Index := Scalar.indexCast v34
  let c0_10 : Index := 0#32
  ![v35.toNat, 0]
def k0_mult2 : BitVec 32 :=
  let c1_i32 : BitVec 32 := 1#32
  let c256_i32_15 : BitVec 32 := 256#32
  let v60 : BitVec 32 := Scalar.muli c1_i32 c256_i32_15
  v60
def k0_mult3 : BitVec 32 :=
  let c2_i32 : BitVec 32 := 2#32
  let c256_i32_21 : BitVec 32 := 256#32
  let v87 : BitVec 32 := Scalar.muli c2_i32 c256_i32_21
  v87
def k0_mult4 : BitVec 32 :=
  let c3_i32 : BitVec 32 := 3#32
  let c256_i32_27 : BitVec 32 := 256#32
  let v114 : BitVec 32 := Scalar.muli c3_i32 c256_i32_27
  v114
def k0_mult5 : BitVec 32 :=
  let c4_i32 : BitVec 32 := 4#32
  let c256_i32_33 : BitVec 32 := 256#32
  let v141 : BitVec 32 := Scalar.muli c4_i32 c256_i32_33
  v141
def k0_mult6 : BitVec 32 :=
  let c5_i32 : BitVec 32 := 5#32
  let c256_i32_39 : BitVec 32 := 256#32
  let v168 : BitVec 32 := Scalar.muli c5_i32 c256_i32_39
  v168
def k0_mult7 : BitVec 32 :=
  let c6_i32 : BitVec 32 := 6#32
  let c256_i32_45 : BitVec 32 := 256#32
  let v195 : BitVec 32 := Scalar.muli c6_i32 c256_i32_45
  v195
def k0_mult8 : BitVec 32 :=
  let c7_i32 : BitVec 32 := 7#32
  let c256_i32_51 : BitVec 32 := 256#32
  let v222 : BitVec 32 := Scalar.muli c7_i32 c256_i32_51
  v222
def k0_mult9 : BitVec 32 :=
  let c8_i32 : BitVec 32 := 8#32
  let c256_i32_57 : BitVec 32 := 256#32
  let v249 : BitVec 32 := Scalar.muli c8_i32 c256_i32_57
  v249
def k0_mult10 : BitVec 32 :=
  let c9_i32 : BitVec 32 := 9#32
  let c256_i32_63 : BitVec 32 := 256#32
  let v276 : BitVec 32 := Scalar.muli c9_i32 c256_i32_63
  v276
def k0_mult11 : BitVec 32 :=
  let c10_i32 : BitVec 32 := 10#32
  let c256_i32_69 : BitVec 32 := 256#32
  let v303 : BitVec 32 := Scalar.muli c10_i32 c256_i32_69
  v303
def k0_mult12 : BitVec 32 :=
  let c11_i32 : BitVec 32 := 11#32
  let c256_i32_75 : BitVec 32 := 256#32
  let v330 : BitVec 32 := Scalar.muli c11_i32 c256_i32_75
  v330
def k0_mult13 : BitVec 32 :=
  let c12_i32 : BitVec 32 := 12#32
  let c256_i32_81 : BitVec 32 := 256#32
  let v357 : BitVec 32 := Scalar.muli c12_i32 c256_i32_81
  v357
def k0_mult14 : BitVec 32 :=
  let c13_i32 : BitVec 32 := 13#32
  let c256_i32_87 : BitVec 32 := 256#32
  let v384 : BitVec 32 := Scalar.muli c13_i32 c256_i32_87
  v384
def k0_mult15 : BitVec 32 :=
  let c14_i32 : BitVec 32 := 14#32
  let c256_i32_93 : BitVec 32 := 256#32
  let v411 : BitVec 32 := Scalar.muli c14_i32 c256_i32_93
  v411
def k0_mult16 : BitVec 32 :=
  let c15_i32 : BitVec 32 := 15#32
  let c256_i32_99 : BitVec 32 := 256#32
  let v438 : BitVec 32 := Scalar.muli c15_i32 c256_i32_99
  v438
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16384x1024 : Shape := ⟨2, ![16384, 1024]⟩
abbrev S16384x5120 : Shape := ⟨2, ![16384, 5120]⟩
abbrev S4x64 : Shape := ⟨2, ![4, 64]⟩
abbrev S1x128 : Shape := ⟨2, ![1, 128]⟩
abbrev S16384x512 : Shape := ⟨2, ![16384, 512]⟩
abbrev S4x4096x4x2x64 : Shape := ⟨5, ![4, 4096, 4, 2, 64]⟩
abbrev S4x4x2x4096x64 : Shape := ⟨5, ![4, 4, 2, 4096, 64]⟩
abbrev S4x4096x4x128 : Shape := ⟨4, ![4, 4096, 4, 128]⟩
abbrev S4x4x4096x128 : Shape := ⟨4, ![4, 4, 4096, 128]⟩
abbrev S1x64 : Shape := ⟨2, ![1, 64]⟩
abbrev S64 : Shape := ⟨1, ![64]⟩
abbrev S_ : Shape := ⟨0, ![]⟩
abbrev S4x4x2x4096x4096 : Shape := ⟨5, ![4, 4, 2, 4096, 4096]⟩
abbrev S4x4x2x4096 : Shape := ⟨4, ![4, 4, 2, 4096]⟩
abbrev S4x4x2x4096x1 : Shape := ⟨5, ![4, 4, 2, 4096, 1]⟩
abbrev S4x4x1x4096x4096 : Shape := ⟨5, ![4, 4, 1, 4096, 4096]⟩
abbrev S4x4x4096x4096 : Shape := ⟨4, ![4, 4, 4096, 4096]⟩
abbrev S4x4x4096 : Shape := ⟨3, ![4, 4, 4096]⟩
abbrev S4x4x4096x1 : Shape := ⟨4, ![4, 4, 4096, 1]⟩
abbrev S128 : Shape := ⟨1, ![128]⟩
abbrev S1x1x1x128 : Shape := ⟨4, ![1, 1, 1, 128]⟩

abbrev nBuf : Space → Nat
  | .hbm => 85
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x5120, .bf16⟩
  | .hbm, ⟨2, _⟩ => ⟨S4x64, .f32⟩
  | .hbm, ⟨3, _⟩ => ⟨S1x128, .f32⟩
  | .hbm, ⟨4, _⟩ => ⟨S16384x1024, .f32⟩
  | .hbm, ⟨5, _⟩ => ⟨S16384x512, .f32⟩
  | .hbm, ⟨6, _⟩ => ⟨S4x4096x4x2x64, .f32⟩
  | .hbm, ⟨7, _⟩ => ⟨S4x4x2x4096x64, .f32⟩
  | .hbm, ⟨8, _⟩ => ⟨S16384x512, .f32⟩
  | .hbm, ⟨9, _⟩ => ⟨S4x4096x4x2x64, .f32⟩
  | .hbm, ⟨10, _⟩ => ⟨S4x4x2x4096x64, .f32⟩
  | .hbm, ⟨11, _⟩ => ⟨S16384x512, .bf16⟩
  | .hbm, ⟨12, _⟩ => ⟨S16384x512, .f32⟩
  | .hbm, ⟨13, _⟩ => ⟨S4x4096x4x128, .f32⟩
  | .hbm, ⟨14, _⟩ => ⟨S4x4x4096x128, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x64, .f32⟩
  | .hbm, ⟨24, _⟩ => ⟨S64, .f32⟩
  | .hbm, ⟨25, _⟩ => ⟨S1x64, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4x4x2x4096x4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S4x4x2x4096x4096, .f32⟩
  | .hbm, ⟨39, _⟩ => ⟨S4x4x2x4096x4096, .f32⟩
  | .hbm, ⟨40, _⟩ => ⟨S_, .f32⟩
  | .hbm, ⟨41, _⟩ => ⟨S4x4x2x4096, .f32⟩
  | .hbm, ⟨42, _⟩ => ⟨S_, .f32⟩
  | .hbm, ⟨43, _⟩ => ⟨S4x4x2x4096, .f32⟩
  | .hbm, ⟨44, _⟩ => ⟨S4x4x2x4096, .f32⟩
  | .hbm, ⟨45, _⟩ => ⟨S4x4x2x4096x1, .f32⟩
  | .hbm, ⟨46, _⟩ => ⟨S4x4x2x4096x4096, .f32⟩
  | .hbm, ⟨47, _⟩ => ⟨S4x4x2x4096x4096, .f32⟩
  | .hbm, ⟨48, _⟩ => ⟨S4x4x2x4096x4096, .f32⟩
  | .hbm, ⟨49, _⟩ => ⟨S_, .f32⟩
  | .hbm, ⟨50, _⟩ => ⟨S4x4x2x4096, .f32⟩
  | .hbm, ⟨51, _⟩ => ⟨S4x4x2x4096x1, .f32⟩
  | .hbm, ⟨52, _⟩ => ⟨S4x4x2x4096x4096, .f32⟩
  | .hbm, ⟨53, _⟩ => ⟨S4x4x2x4096x4096, .f32⟩
  | .hbm, ⟨54, _⟩ => ⟨S4x4x1x4096x4096, .f32⟩
  | .hbm, ⟨55, _⟩ => ⟨S4x4x4096x4096, .f32⟩
  | .hbm, ⟨56, _⟩ => ⟨S4x4x1x4096x4096, .f32⟩
  | .hbm, ⟨57, _⟩ => ⟨S4x4x4096x4096, .f32⟩
  | .hbm, ⟨58, _⟩ => ⟨S4x4x4096x4096, .f32⟩
  | .hbm, ⟨59, _⟩ => ⟨S4x4x4096x4096, .f32⟩
  | .hbm, ⟨60, _⟩ => ⟨S4x4x4096x4096, .f32⟩
  | .hbm, ⟨61, _⟩ => ⟨S4x4x4096x128, .f32⟩
  | .hbm, ⟨62, _⟩ => ⟨S4x4x4096x128, .f32⟩
  | .hbm, ⟨63, _⟩ => ⟨S_, .f32⟩
  | .hbm, ⟨64, _⟩ => ⟨S4x4x4096, .f32⟩
  | .hbm, ⟨65, _⟩ => ⟨S4x4x4096x1, .f32⟩
  | .hbm, ⟨66, _⟩ => ⟨S_, .f32⟩
  | .hbm, ⟨67, _⟩ => ⟨S4x4x4096x1, .f32⟩
  | .hbm, ⟨68, _⟩ => ⟨S4x4x4096x1, .f32⟩
  | .hbm, ⟨69, _⟩ => ⟨S_, .f32⟩
  | .hbm, ⟨70, _⟩ => ⟨S4x4x4096x1, .f32⟩
  | .hbm, ⟨71, _⟩ => ⟨S4x4x4096x1, .f32⟩
  | .hbm, ⟨72, _⟩ => ⟨S4x4x4096x1, .f32⟩
  | .hbm, ⟨73, _⟩ => ⟨S4x4x4096x128, .f32⟩
  | .hbm, ⟨74, _⟩ => ⟨S4x4x4096x128, .f32⟩
  | .hbm, ⟨75, _⟩ => ⟨S128, .f32⟩
  | .hbm, ⟨76, _⟩ => ⟨S1x1x1x128, .f32⟩
  | .hbm, ⟨77, _⟩ => ⟨S4x4x4096x128, .f32⟩
  | .hbm, ⟨78, _⟩ => ⟨S4x4x4096x128, .f32⟩
  | .hbm, ⟨79, _⟩ => ⟨S_, .f32⟩
  | .hbm, ⟨80, _⟩ => ⟨S4x4x4096x128, .f32⟩
  | .hbm, ⟨81, _⟩ => ⟨S4x4x4096x128, .f32⟩
  | .hbm, ⟨82, _⟩ => ⟨S4x4096x4x128, .f32⟩
  | .hbm, ⟨83, _⟩ => ⟨S16384x512, .f32⟩
  | .hbm, ⟨84, _⟩ => ⟨S16384x512, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_6 : Ref sig .tc := ⟨.hbm, 63, rfl⟩
abbrev main_v52 : Ref sig .tc := ⟨.hbm, 64, rfl⟩
abbrev main_v53 : Ref sig .tc := ⟨.hbm, 65, rfl⟩
abbrev main_cst_7 : Ref sig .tc := ⟨.hbm, 66, rfl⟩
abbrev main_v54 : Ref sig .tc := ⟨.hbm, 67, rfl⟩
abbrev main_v55 : Ref sig .tc := ⟨.hbm, 68, rfl⟩
abbrev main_cst_8 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_9 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩

abbrev nD : Nat := 1
abbrev τ : Topo := Topo.v7x

variable {F : FTy → Type} [FloatOps F]
-- ==== Kernel2.lean ====
abbrev S4x4096x1024 : Shape := ⟨3, ![4, 4096, 1024]⟩
abbrev S1x1024 : Shape := ⟨2, ![1, 1024]⟩
abbrev S1x1024x5120 : Shape := ⟨3, ![1, 1024, 5120]⟩
abbrev S16384x1024 : Shape := ⟨2, ![16384, 1024]⟩
abbrev S1024 : Shape := ⟨1, ![1024]⟩
abbrev S1024x5120 : Shape := ⟨2, ![1024, 5120]⟩
abbrev S16384x5120 : Shape := ⟨2, ![16384, 5120]⟩
abbrev S2048x1024 : Shape := ⟨2, ![2048, 1024]⟩
abbrev S1024x1280 : Shape := ⟨2, ![1024, 1280]⟩
abbrev S2048x1280 : Shape := ⟨2, ![2048, 1280]⟩
abbrev S2048 : Shape := ⟨1, ![2048]⟩
abbrev S2048x1 : Shape := ⟨2, ![2048, 1]⟩

abbrev nBuf : Space → Nat
  | .hbm => 9
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5120, .f32⟩
  | .hbm, ⟨3, _⟩ => ⟨S16384x1024, .f32⟩
  | .hbm, ⟨4, _⟩ => ⟨S1024, .f32⟩
  | .hbm, ⟨5, _⟩ => ⟨S1x1024, .f32⟩
  | .hbm, ⟨6, _⟩ => ⟨S1024x5120, .f32⟩
  | .hbm, ⟨7, _⟩ => ⟨S1024x5120, .bf16⟩
  | .hbm, ⟨8, _⟩ => ⟨S16384x5120, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1280, .bf16⟩
  | .local _ .vmem, ⟨4, _⟩ => ⟨S1024x1280, .bf16⟩
  | .local _ .vmem, ⟨5, _⟩ => ⟨S2048x1280, .bf16⟩
  | .local _ .vmem, ⟨6, _⟩ => ⟨S2048x1280, .bf16⟩
  | .local _ .vmem, ⟨7, _⟩ => ⟨S2048x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4x4096x1024 : Shape := ⟨3, ![4, 4096, 1024]⟩
abbrev S1x1024 : Shape := ⟨2, ![1, 1024]⟩
abbrev S1x1024x5120 : Shape := ⟨3, ![1, 1024, 5120]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x5120 : Shape := ⟨2, ![1024, 5120]⟩
abbrev S4x4096x5120 : Shape := ⟨3, ![4, 4096, 5120]⟩
abbrev S16384x5120 : Shape := ⟨2, ![16384, 5120]⟩

abbrev nBuf : Space → Nat
  | .hbm => 24
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5120, .f32⟩
  | .hbm, ⟨3, _⟩ => ⟨S1024, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S1024x5120, .f32⟩
  | .hbm, ⟨21, _⟩ => ⟨S4x4096x5120, .f32⟩
  | .hbm, ⟨22, _⟩ => ⟨S16384x5120, .f32⟩
  | .hbm, ⟨23, _⟩ => ⟨S16384x5120, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel3.lean ====
abbrev S16384x512 : Shape := ⟨2, ![16384, 512]⟩
abbrev S16384x5120 : Shape := ⟨2, ![16384, 5120]⟩
abbrev S4x4096x1024 : Shape := ⟨3, ![4, 4096, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x16 : Shape := ⟨3, ![1, 1024, 16]⟩
abbrev S1024x16 : Shape := ⟨2, ![1024, 16]⟩
abbrev S_ : Shape := ⟨0, ![]⟩
abbrev S1024x128 : Shape := ⟨2, ![1024, 128]⟩
abbrev S16384x1024 : Shape := ⟨2, ![16384, 1024]⟩
abbrev S512x1024 : Shape := ⟨2, ![512, 1024]⟩
abbrev S1024x1024 : Shape := ⟨2, ![1024, 1024]⟩
abbrev S1024 : Shape := ⟨1, ![1024]⟩
abbrev S16384x128 : Shape := ⟨2, ![16384, 128]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩
abbrev S512x128 : Shape := ⟨2, ![512, 128]⟩

abbrev nBuf : Space → Nat
  | .hbm => 26
  | .vmem => 21
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x5120, .bf16⟩
  | .hbm, ⟨3, _⟩ => ⟨S4x4096x1024, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x16, .f32⟩
  | .hbm, ⟨9, _⟩ => ⟨S1024x16, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S16384x1024, .f32⟩
  | .hbm, ⟨15, _⟩ => ⟨S512x1024, .f32⟩
  | .hbm, ⟨16, _⟩ => ⟨S512x1024, .bf16⟩
  | .hbm, ⟨17, _⟩ => ⟨S512x1024, .f32⟩
  | .hbm, ⟨18, _⟩ => ⟨S512x1024, .bf16⟩
  | .hbm, ⟨19, _⟩ => ⟨S1024x1024, .f32⟩
  | .hbm, ⟨20, _⟩ => ⟨S1024x1024, .bf16⟩
  | .hbm, ⟨21, _⟩ => ⟨S1024, .f32⟩
  | .hbm, ⟨22, _⟩ => ⟨S1x1024, .f32⟩
  | .hbm, ⟨23, _⟩ => ⟨S16384x1024, .f32⟩
  | .hbm, ⟨24, _⟩ => ⟨S16384x1024, .bf16⟩
  | .hbm, ⟨25, _⟩ => ⟨S16384x128, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x128, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .bf16⟩
  | .local _ .vmem, ⟨19, _⟩ => ⟨S1024x128, .f32⟩
  | .local _ .vmem, ⟨20, _⟩ => ⟨S1024x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S16384x512 : Shape := ⟨2, ![16384, 512]⟩
abbrev S16384x5120 : Shape := ⟨2, ![16384, 5120]⟩
abbrev S4x4096x1024 : Shape := ⟨3, ![4, 4096, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x16 : Shape := ⟨3, ![1, 1024, 16]⟩
abbrev S4x4096x5120 : Shape := ⟨3, ![4, 4096, 5120]⟩
abbrev S4x4096x2048 : Shape := ⟨3, ![4, 4096, 2048]⟩
abbrev S_ : Shape := ⟨0, ![]⟩
abbrev S4x4096x512 : Shape := ⟨3, ![4, 4096, 512]⟩
abbrev S512x1024 : Shape := ⟨2, ![512, 1024]⟩
abbrev S1024x1024 : Shape := ⟨2, ![1024, 1024]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩
abbrev S1024x16 : Shape := ⟨2, ![1024, 16]⟩
abbrev S4x4096x16 : Shape := ⟨3, ![4, 4096, 16]⟩
abbrev S4x4096x128 : Shape := ⟨3, ![4, 4096, 128]⟩
abbrev S16384x1024 : Shape := ⟨2, ![16384, 1024]⟩
abbrev S16384x128 : Shape := ⟨2, ![16384, 128]⟩

abbrev nBuf : Space → Nat
  | .hbm => 76
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x5120, .bf16⟩
  | .hbm, ⟨3, _⟩ => ⟨S4x4096x1024, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x16, .f32⟩
  | .hbm, ⟨9, _⟩ => ⟨S16384x5120, .f32⟩
  | .hbm, ⟨10, _⟩ => ⟨S4x4096x5120, .f32⟩
  | .hbm, ⟨11, _⟩ => ⟨S4x4096x2048, .f32⟩
  | .hbm, ⟨12, _⟩ => ⟨S4x4096x2048, .f32⟩
  | .hbm, ⟨13, _⟩ => ⟨S4x4096x2048, .f32⟩
  | .hbm, ⟨14, _⟩ => ⟨S_, .f32⟩
  | .hbm, ⟨15, _⟩ => ⟨S4x4096x2048, .f32⟩
  | .hbm, ⟨16, _⟩ => ⟨S4x4096x2048, .f32⟩
  | .hbm, ⟨17, _⟩ => ⟨S_, .f32⟩
  | .hbm, ⟨18, _⟩ => ⟨S4x4096x2048, .f32⟩
  | .hbm, ⟨19, _⟩ => ⟨S4x4096x2048, .f32⟩
  | .hbm, ⟨20, _⟩ => ⟨S4x4096x1024, .f32⟩
  | .hbm, ⟨21, _⟩ => ⟨S4x4096x1024, .f32⟩
  | .hbm, ⟨22, _⟩ => ⟨S16384x512, .f32⟩
  | .hbm, ⟨23, _⟩ => ⟨S4x4096x512, .f32⟩
  | .hbm, ⟨24, _⟩ => ⟨S512x1024, .f32⟩
  | .hbm, ⟨25, _⟩ => ⟨S4x4096x1024, .f32⟩
  | .hbm, ⟨26, _⟩ => ⟨S4x4096x1024, .f32⟩
  | .hbm, ⟨27, _⟩ => ⟨S16384x512, .f32⟩
  | .hbm, ⟨28, _⟩ => ⟨S4x4096x512, .f32⟩
  | .hbm, ⟨29, _⟩ => ⟨S512x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S1024x1024, .f32⟩
  | .hbm, ⟨34, _⟩ => ⟨S4x4096x1024, .f32⟩
  | .hbm, ⟨35, _⟩ => ⟨S4x4096x1024, .f32⟩
  | .hbm, ⟨36, _⟩ => ⟨S1024, .f32⟩
  | .hbm, ⟨37, _⟩ => ⟨S4x4096x1024, .f32⟩
  | .hbm, ⟨38, _⟩ => ⟨S_, .f32⟩
  | .hbm, ⟨39, _⟩ => ⟨S4x4096, .f32⟩
  | .hbm, ⟨40, _⟩ => ⟨S4x4096x1, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S_, .f32⟩
  | .hbm, ⟨45, _⟩ => ⟨S4x4096x1, .f32⟩
  | .hbm, ⟨46, _⟩ => ⟨S4x4096x1, .f32⟩
  | .hbm, ⟨47, _⟩ => ⟨S4x4096x1, .f32⟩
  | .hbm, ⟨48, _⟩ => ⟨S4x4096x1024, .f32⟩
  | .hbm, ⟨49, _⟩ => ⟨S4x4096x1024, .f32⟩
  | .hbm, ⟨50, _⟩ => ⟨S1x1x1024, .f32⟩
  | .hbm, ⟨51, _⟩ => ⟨S4x4096x1024, .f32⟩
  | .hbm, ⟨52, _⟩ => ⟨S4x4096x1024, .f32⟩
  | .hbm, ⟨53, _⟩ => ⟨S1024x16, .f32⟩
  | .hbm, ⟨54, _⟩ => ⟨S4x4096x16, .f32⟩
  | .hbm, ⟨55, _⟩ => ⟨S_, .f32⟩
  | .hbm, ⟨56, _⟩ => ⟨S_, .f32⟩
  | .hbm, ⟨57, _⟩ => ⟨S4x4096x128, .f32⟩
  | .hbm, ⟨58, _⟩ => ⟨S_, .f32⟩
  | .hbm, ⟨59, _⟩ => ⟨S4x4096, .f32⟩
  | .hbm, ⟨60, _⟩ => ⟨S_, .f32⟩
  | .hbm, ⟨61, _⟩ => ⟨S4x4096, .f32⟩
  | .hbm, ⟨62, _⟩ => ⟨S4x4096, .f32⟩
  | .hbm, ⟨63, _⟩ => ⟨S4x4096x1, .f32⟩
  | .hbm, ⟨64, _⟩ => ⟨S4x4096x128, .f32⟩
  | .hbm, ⟨65, _⟩ => ⟨S4x4096x128, .f32⟩
  | .hbm, ⟨66, _⟩ => ⟨S4x4096x128, .f32⟩
  | .hbm, ⟨67, _⟩ => ⟨S_, .f32⟩
  | .hbm, ⟨68, _⟩ => ⟨S4x4096, .f32⟩
  | .hbm, ⟨69, _⟩ => ⟨S4x4096x1, .f32⟩
  | .hbm, ⟨70, _⟩ => ⟨S4x4096x128, .f32⟩
  | .hbm, ⟨71, _⟩ => ⟨S4x4096x128, .f32⟩
  | .hbm, ⟨72, _⟩ => ⟨S16384x1024, .f32⟩
  | .hbm, ⟨73, _⟩ => ⟨S16384x1024, .f32⟩
  | .hbm, ⟨74, _⟩ => ⟨S16384x1024, .bf16⟩
  | .hbm, ⟨75, _⟩ => ⟨S16384x128, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_4 : Ref sig .tc := ⟨.hbm, 55, rfl⟩
abbrev main_call0_v0 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Kernel4.lean ====
abbrev S16384x5120 : Shape := ⟨2, ![16384, 5120]⟩
abbrev S4096x8 : Shape := ⟨2, ![4096, 8]⟩
abbrev S1x64 : Shape := ⟨2, ![1, 64]⟩
abbrev S128x128 : Shape := ⟨2, ![128, 128]⟩
abbrev S_ : Shape := ⟨0, ![]⟩
abbrev S4096x48 : Shape := ⟨2, ![4096, 48]⟩
abbrev S4096x64 : Shape := ⟨2, ![4096, 64]⟩
abbrev S4096x128 : Shape := ⟨2, ![4096, 128]⟩
abbrev S64 : Shape := ⟨1, ![64]⟩
abbrev S8x64 : Shape := ⟨2, ![8, 64]⟩
abbrev S512 : Shape := ⟨1, ![512]⟩
abbrev S1024 : Shape := ⟨1, ![1024]⟩
abbrev S1x1024 : Shape := ⟨2, ![1, 1024]⟩
abbrev S16384x1024 : Shape := ⟨2, ![16384, 1024]⟩
abbrev S1024x1024 : Shape := ⟨2, ![1024, 1024]⟩
abbrev S1024x128 : Shape := ⟨2, ![1024, 128]⟩
abbrev S1x128 : Shape := ⟨2, ![1, 128]⟩
abbrev S1024x1 : Shape := ⟨2, ![1024, 1]⟩

abbrev nBuf : Space → Nat
  | .hbm => 30
  | .vmem => 10
  | .smem => 0
  | _ => 0

abbrev bufTy : (tb : Table) → Fin (tcTables nBuf tb) → BufTy
  | .hbm, ⟨0, _⟩ => ⟨S16384x5120, .bf16⟩
  | .hbm, ⟨1, _⟩ => ⟨S4096x8, .f32⟩
  | .hbm, ⟨2, _⟩ => ⟨S4096x8, .f32⟩
  | .hbm, ⟨3, _⟩ => ⟨S1x64, .f32⟩
  | .hbm, ⟨4, _⟩ => ⟨S1x64, .f32⟩
  | .hbm, ⟨5, _⟩ => ⟨S128x128, .f32⟩
  | .hbm, ⟨6, _⟩ => ⟨S_, .f32⟩
  | .hbm, ⟨7, _⟩ => ⟨S4096x48, .f32⟩
  | .hbm, ⟨8, _⟩ => ⟨S4096x64, .f32⟩
  | .hbm, ⟨9, _⟩ => ⟨S4096x8, .f32⟩
  | .hbm, ⟨10, _⟩ => ⟨S_, .f32⟩
  | .hbm, ⟨11, _⟩ => ⟨S4096x48, .f32⟩
  | .hbm, ⟨12, _⟩ => ⟨S4096x64, .f32⟩
  | .hbm, ⟨13, _⟩ => ⟨S4096x128, .f32⟩
  | .hbm, ⟨14, _⟩ => ⟨S4096x128, .f32⟩
  | .hbm, ⟨15, _⟩ => ⟨S128x128, .bf16⟩
  | .hbm, ⟨16, _⟩ => ⟨S64, .f32⟩
  | .hbm, ⟨17, _⟩ => ⟨S1x64, .f32⟩
  | .hbm, ⟨18, _⟩ => ⟨S8x64, .f32⟩
  | .hbm, ⟨19, _⟩ => ⟨S512, .f32⟩
  | .hbm, ⟨20, _⟩ => ⟨S_, .f32⟩
  | .hbm, ⟨21, _⟩ => ⟨S512, .f32⟩
  | .hbm, ⟨22, _⟩ => ⟨S512, .f32⟩
  | .hbm, ⟨23, _⟩ => ⟨S64, .f32⟩
  | .hbm, ⟨24, _⟩ => ⟨S1x64, .f32⟩
  | .hbm, ⟨25, _⟩ => ⟨S8x64, .f32⟩
  | .hbm, ⟨26, _⟩ => ⟨S512, .f32⟩
  | .hbm, ⟨27, _⟩ => ⟨S1024, .f32⟩
  | .hbm, ⟨28, _⟩ => ⟨S1x1024, .f32⟩
  | .hbm, ⟨29, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S128x128, .bf16⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | _, _ => ⟨S16384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S16384x5120 : Shape := ⟨2, ![16384, 5120]⟩
abbrev S4096x8 : Shape := ⟨2, ![4096, 8]⟩
abbrev S1x64 : Shape := ⟨2, ![1, 64]⟩
abbrev S64 : Shape := ⟨1, ![64]⟩
abbrev S_ : Shape := ⟨0, ![]⟩
abbrev S2x64 : Shape := ⟨2, ![2, 64]⟩
abbrev S16384x1024 : Shape := ⟨2, ![16384, 1024]⟩
abbrev S4x4096x2x8x64 : Shape := ⟨5, ![4, 4096, 2, 8, 64]⟩
abbrev S2x1x64 : Shape := ⟨3, ![2, 1, 64]⟩
abbrev S4x4096x2x8 : Shape := ⟨4, ![4, 4096, 2, 8]⟩
abbrev S4x4096x2x8x1 : Shape := ⟨5, ![4, 4096, 2, 8, 1]⟩
abbrev S1x1x2x1x64 : Shape := ⟨5, ![1, 1, 2, 1, 64]⟩
abbrev S4096x1x1x8 : Shape := ⟨4, ![4096, 1, 1, 8]⟩
abbrev S4x4096x2x8x8 : Shape := ⟨5, ![4, 4096, 2, 8, 8]⟩
abbrev S1x4096x1x1x8 : Shape := ⟨5, ![1, 4096, 1, 1, 8]⟩
abbrev S4x4096x2x8x48 : Shape := ⟨5, ![4, 4096, 2, 8, 48]⟩

abbrev nBuf : Space → Nat
  | .hbm => 55
  | .vmem => 0
  | .smem => 0
  | _ => 0

abbrev bufTy : (tb : Table) → Fin (tcTables nBuf tb) → BufTy
  | .hbm, ⟨0, _⟩ => ⟨S16384x5120, .bf16⟩
  | .hbm, ⟨1, _⟩ => ⟨S4096x8, .f32⟩
  | .hbm, ⟨2, _⟩ => ⟨S4096x8, .f32⟩
  | .hbm, ⟨3, _⟩ => ⟨S1x64, .f32⟩
  | .hbm, ⟨4, _⟩ => ⟨S1x64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S1x64, .f32⟩
  | .hbm, ⟨11, _⟩ => ⟨S1x64, .f32⟩
  | .hbm, ⟨12, _⟩ => ⟨S2x64, .f32⟩
  | .hbm, ⟨13, _⟩ => ⟨S16384x1024, .bf16⟩
  | .hbm, ⟨14, _⟩ => ⟨S16384x1024, .f32⟩
  | .hbm, ⟨15, _⟩ => ⟨S4x4096x2x8x64, .f32⟩
  | .hbm, ⟨16, _⟩ => ⟨S2x1x64, .f32⟩
  | .hbm, ⟨17, _⟩ => ⟨S4x4096x2x8x64, .f32⟩
  | .hbm, ⟨18, _⟩ => ⟨S_, .f32⟩
  | .hbm, ⟨19, _⟩ => ⟨S4x4096x2x8, .f32⟩
  | .hbm, ⟨20, _⟩ => ⟨S4x4096x2x8x1, .f32⟩
  | .hbm, ⟨21, _⟩ => ⟨S_, .f32⟩
  | .hbm, ⟨22, _⟩ => ⟨S4x4096x2x8x1, .f32⟩
  | .hbm, ⟨23, _⟩ => ⟨S4x4096x2x8x1, .f32⟩
  | .hbm, ⟨24, _⟩ => ⟨S_, .f32⟩
  | .hbm, ⟨25, _⟩ => ⟨S4x4096x2x8x1, .f32⟩
  | .hbm, ⟨26, _⟩ => ⟨S4x4096x2x8x1, .f32⟩
  | .hbm, ⟨27, _⟩ => ⟨S4x4096x2x8x1, .f32⟩
  | .hbm, ⟨28, _⟩ => ⟨S4x4096x2x8x64, .f32⟩
  | .hbm, ⟨29, _⟩ => ⟨S4x4096x2x8x64, .f32⟩
  | .hbm, ⟨30, _⟩ => ⟨S1x1x2x1x64, .f32⟩
  | .hbm, ⟨31, _⟩ => ⟨S4x4096x2x8x64, .f32⟩
  | .hbm, ⟨32, _⟩ => ⟨S4x4096x2x8x64, .f32⟩
  | .hbm, ⟨33, _⟩ => ⟨S4096x1x1x8, .f32⟩
  | .hbm, ⟨34, _⟩ => ⟨S4096x1x1x8, .f32⟩
  | .hbm, ⟨35, _⟩ => ⟨S4x4096x2x8x8, .f32⟩
  | .hbm, ⟨36, _⟩ => ⟨S4x4096x2x8x8, .f32⟩
  | .hbm, ⟨37, _⟩ => ⟨S1x4096x1x1x8, .f32⟩
  | .hbm, ⟨38, _⟩ => ⟨S4x4096x2x8x8, .f32⟩
  | .hbm, ⟨39, _⟩ => ⟨S4x4096x2x8x8, .f32⟩
  | .hbm, ⟨40, _⟩ => ⟨S1x4096x1x1x8, .f32⟩
  | .hbm, ⟨41, _⟩ => ⟨S4x4096x2x8x8, .f32⟩
  | .hbm, ⟨42, _⟩ => ⟨S4x4096x2x8x8, .f32⟩
  | .hbm, ⟨43, _⟩ => ⟨S4x4096x2x8x8, .f32⟩
  | .hbm, ⟨44, _⟩ => ⟨S1x4096x1x1x8, .f32⟩
  | .hbm, ⟨45, _⟩ => ⟨S4x4096x2x8x8, .f32⟩
  | .hbm, ⟨46, _⟩ => ⟨S4x4096x2x8x8, .f32⟩
  | .hbm, ⟨47, _⟩ => ⟨S1x4096x1x1x8, .f32⟩
  | .hbm, ⟨48, _⟩ => ⟨S4x4096x2x8x8, .f32⟩
  | .hbm, ⟨49, _⟩ => ⟨S4x4096x2x8x8, .f32⟩
  | .hbm, ⟨50, _⟩ => ⟨S4x4096x2x8x8, .f32⟩
  | .hbm, ⟨51, _⟩ => ⟨S4x4096x2x8x48, .f32⟩
  | .hbm, ⟨52, _⟩ => ⟨S4x4096x2x8x64, .f32⟩
  | .hbm, ⟨53, _⟩ => ⟨S16384x1024, .f32⟩
  | .hbm, ⟨54, _⟩ => ⟨S16384x1024, .bf16⟩
  | _, _ => ⟨S16384x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩

abbrev nD : Nat := 1
abbrev τ : Topo := Topo.v7x

variable {F : FTy → Type} [FloatOps F]
-- ==== Kernel5.lean ====
abbrev S1x33x64 : Shape := ⟨3, ![1, 33, 64]⟩
abbrev S1x64 : Shape := ⟨2, ![1, 64]⟩
abbrev S1x64x64 : Shape := ⟨3, ![1, 64, 64]⟩
abbrev S1x64x2048 : Shape := ⟨3, ![1, 64, 2048]⟩
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S8x8 : Shape := ⟨2, ![8, 8]⟩
abbrev S_ : Shape := ⟨0, ![]⟩
abbrev S15 : Shape := ⟨1, ![15]⟩
abbrev S1 : Shape := ⟨1, ![1]⟩
abbrev S16 : Shape := ⟨1, ![16]⟩
abbrev S1x16 : Shape := ⟨2, ![1, 16]⟩
abbrev S1x1x1x16 : Shape := ⟨4, ![1, 1, 1, 16]⟩
abbrev S1x1x8x16 : Shape := ⟨4, ![1, 1, 8, 16]⟩
abbrev S1x128 : Shape := ⟨2, ![1, 128]⟩
abbrev S511 : Shape := ⟨1, ![511]⟩
abbrev S512 : Shape := ⟨1, ![512]⟩
abbrev S64x2x2x512 : Shape := ⟨4, ![64, 2, 2, 512]⟩
abbrev S16x64 : Shape := ⟨2, ![16, 64]⟩
abbrev S8x1x8x1 : Shape := ⟨4, ![8, 1, 8, 1]⟩
abbrev S1x16x1x64 : Shape := ⟨4, ![1, 16, 1, 64]⟩
abbrev S8x16x8x64 : Shape := ⟨4, ![8, 16, 8, 64]⟩
abbrev S128x512 : Shape := ⟨2, ![128, 512]⟩
abbrev S1x1x1x64 : Shape := ⟨4, ![1, 1, 1, 64]⟩
abbrev S1x1x8x64 : Shape := ⟨4, ![1, 1, 8, 64]⟩
abbrev S1x512 : Shape := ⟨2, ![1, 512]⟩
abbrev S1x64x1x64 : Shape := ⟨4, ![1, 64, 1, 64]⟩
abbrev S8x64x8x64 : Shape := ⟨4, ![8, 64, 8, 64]⟩
abbrev S512x512 : Shape := ⟨2, ![512, 512]⟩
abbrev S64x2x1x512 : Shape := ⟨4, ![64, 2, 1, 512]⟩
abbrev S64x2x512 : Shape := ⟨3, ![64, 2, 512]⟩
abbrev S64x1024 : Shape := ⟨2, ![64, 1024]⟩
abbrev S2x512 : Shape := ⟨2, ![2, 512]⟩
abbrev S1024 : Shape := ⟨1, ![1024]⟩
abbrev S1x1024 : Shape := ⟨2, ![1, 1024]⟩
abbrev S1x128x512 : Shape := ⟨3, ![1, 128, 512]⟩
abbrev S2x128x512 : Shape := ⟨3, ![2, 128, 512]⟩
abbrev S1x512x512 : Shape := ⟨3, ![1, 512, 512]⟩
abbrev S2x512x512 : Shape := ⟨3, ![2, 512, 512]⟩
abbrev S1x64x1024 : Shape := ⟨3, ![1, 64, 1024]⟩
abbrev S2x64x1024 : Shape := ⟨3, ![2, 64, 1024]⟩
abbrev S4096x1024 : Shape := ⟨2, ![4096, 1024]⟩
abbrev S512x1024 : Shape := ⟨2, ![512, 1024]⟩
abbrev S64x128 : Shape := ⟨2, ![64, 128]⟩
abbrev S64x512 : Shape := ⟨2, ![64, 512]⟩
abbrev S64x1 : Shape := ⟨2, ![64, 1]⟩

abbrev nBuf : Space → Nat
  | .hbm => 188
  | .vmem => 17
  | .smem => 0
  | _ => 0

abbrev hbmTy0_0 (i : Nat) : BufTy := match i % 128 with
  | 0 => ⟨S1x33x64, .f32⟩
  | 1 => ⟨S1x64, .f32⟩
  | 2 => ⟨S1x64x64, .f32⟩
  | 3 => ⟨S1x64, .f32⟩
  | 4 => ⟨S1x64x64, .f32⟩
  | 5 => ⟨S1x64, .f32⟩
  | 6 => ⟨S1x64x2048, .f32⟩
  | 7 => ⟨S1x64, .f32⟩
  | 8 => ⟨S33x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64x2048, .f32⟩
  | 15 => ⟨S64, .f32⟩
  | 16 => ⟨S8x8, .i32⟩
  | 17 => ⟨S8x8, .i32⟩
  | 18 => ⟨S_, .i32⟩
  | 19 => ⟨S8x8, .i32⟩
  | 20 => ⟨S8x8, .i32⟩
  | 21 => ⟨S8x8, .i1⟩
  | 22 => ⟨S8x8, .f32⟩
  | 23 => ⟨S_, .f32⟩
  | 24 => ⟨S_, .i32⟩
  | 25 => ⟨S_, .f32⟩
  | 26 => ⟨S_, .f32⟩
  | 27 => ⟨S_, .f32⟩
  | 28 => ⟨S_, .f32⟩
  | 29 => ⟨S_, .f32⟩
  | 30 => ⟨S15, .f32⟩
  | 31 => ⟨S_, .f32⟩
  | 32 => ⟨S15, .f32⟩
  | 33 => ⟨S15, .f32⟩
  | 34 => ⟨S1, .f32⟩
  | 35 => ⟨S_, .f32⟩
  | 36 => ⟨S15, .f32⟩
  | 37 => ⟨S15, .f32⟩
  | 38 => ⟨S15, .f32⟩
  | 39 => ⟨S15, .f32⟩
  | 40 => ⟨S1, .f32⟩
  | 41 => ⟨S15, .f32⟩
  | 42 => ⟨S15, .f32⟩
  | 43 => ⟨S15, .f32⟩
  | 44 => ⟨S1, .f32⟩
  | 45 => ⟨S16, .f32⟩
  | 46 => ⟨S1x16, .f32⟩
  | 47 => ⟨S1x1x1x16, .f32⟩
  | 48 => ⟨S1x1x8x16, .f32⟩
  | 49 => ⟨S1x128, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S511, .f32⟩
  | 58 => ⟨S_, .f32⟩
  | 59 => ⟨S511, .f32⟩
  | 60 => ⟨S511, .f32⟩
  | 61 => ⟨S1, .f32⟩
  | 62 => ⟨S_, .f32⟩
  | 63 => ⟨S511, .f32⟩
  | 64 => ⟨S511, .f32⟩
  | 65 => ⟨S511, .f32⟩
  | 66 => ⟨S511, .f32⟩
  | 67 => ⟨S1, .f32⟩
  | 68 => ⟨S511, .f32⟩
  | 69 => ⟨S511, .f32⟩
  | 70 => ⟨S511, .f32⟩
  | 71 => ⟨S1, .f32⟩
  | 72 => ⟨S512, .f32⟩
  | 73 => ⟨S512, .f32⟩
  | 74 => ⟨S64x2x2x512, .f32⟩
  | 75 => ⟨S1x64, .f32⟩
  | 76 => ⟨S_, .i32⟩
  | 77 => ⟨S_, .f32⟩
  | 78 => ⟨S16x64, .f32⟩
  | 79 => ⟨S8x1x8x1, .f32⟩
  | 80 => ⟨S1x16x1x64, .f32⟩
  | 81 => ⟨S8x16x8x64, .f32⟩
  | 82 => ⟨S8x16x8x64, .f32⟩
  | 83 => ⟨S8x16x8x64, .f32⟩
  | 84 => ⟨S128x512, .f32⟩
  | 85 => ⟨S16x64, .f32⟩
  | 86 => ⟨S8x1x8x1, .f32⟩
  | 87 => ⟨S1x16x1x64, .f32⟩
  | 88 => ⟨S8x16x8x64, .f32⟩
  | 89 => ⟨S8x16x8x64, .f32⟩
  | 90 => ⟨S8x16x8x64, .f32⟩
  | 91 => ⟨S128x512, .f32⟩
  | 92 => ⟨S16x64, .f32⟩
  | 93 => ⟨S8x1x8x1, .f32⟩
  | 94 => ⟨S1x16x1x64, .f32⟩
  | 95 => ⟨S8x16x8x64, .f32⟩
  | 96 => ⟨S8x16x8x64, .f32⟩
  | 97 => ⟨S8x16x8x64, .f32⟩
  | 98 => ⟨S128x512, .f32⟩
  | 99 => ⟨S1x64, .f32⟩
  | 100 => ⟨S1x1x1x64, .f32⟩
  | 101 => ⟨S1x1x8x64, .f32⟩
  | 102 => ⟨S1x512, .f32⟩
  | 103 => ⟨S8x1x8x1, .f32⟩
  | 104 => ⟨S1x64x1x64, .f32⟩
  | 105 => ⟨S8x64x8x64, .f32⟩
  | 106 => ⟨S8x64x8x64, .f32⟩
  | 107 => ⟨S8x64x8x64, .f32⟩
  | 108 => ⟨S512x512, .f32⟩
  | 109 => ⟨S1x64, .f32⟩
  | 110 => ⟨S1x1x1x64, .f32⟩
  | 111 => ⟨S1x1x8x64, .f32⟩
  | 112 => ⟨S1x512, .f32⟩
  | 113 => ⟨S8x1x8x1, .f32⟩
  | 114 => ⟨S1x64x1x64, .f32⟩
  | 115 => ⟨S8x64x8x64, .f32⟩
  | 116 => ⟨S8x64x8x64, .f32⟩
  | 117 => ⟨S8x64x8x64, .f32⟩
  | 118 => ⟨S512x512, .f32⟩
  | 119 => ⟨S1x64, .f32⟩
  | 120 => ⟨S1x1x1x64, .f32⟩
  | 121 => ⟨S1x1x8x64, .f32⟩
  | 122 => ⟨S1x512, .f32⟩
  | 123 => ⟨S1x64, .f32⟩
  | 124 => ⟨S1x1x1x64, .f32⟩
  | 125 => ⟨S1x1x8x64, .f32⟩
  | 126 => ⟨S1x512, .f32⟩
  | 127 => ⟨S64x2x1x512, .f32⟩
  | _ => ⟨S1x33x64, .f32⟩

abbrev hbmTy0_1 (i : Nat) : BufTy := match i % 128 with
  | 0 => ⟨S64x2x512, .f32⟩
  | 1 => ⟨S64x1024, .f32⟩
  | 2 => ⟨S64x2x1x512, .f32⟩
  | 3 => ⟨S64x2x512, .f32⟩
  | 4 => ⟨S64x1024, .f32⟩
  | 5 => ⟨S1x512, .f32⟩
  | 6 => ⟨S2x512, .f32⟩
  | 7 => ⟨S1024, .f32⟩
  | 8 => ⟨S1x1024, .f32⟩
  | 9 => ⟨S128x512, .bf16⟩
  | 10 => ⟨S128x512, .f32⟩
  | 11 => ⟨S128x512, .f32⟩
  | 12 => ⟨S128x512, .bf16⟩
  | 13 => ⟨S1x128x512, .bf16⟩
  | 14 => ⟨S1x128x512, .bf16⟩
  | 15 => ⟨S2x128x512, .bf16⟩
  | 16 => ⟨S128x512, .bf16⟩
  | 17 => ⟨S128x512, .f32⟩
  | 18 => ⟨S128x512, .f32⟩
  | 19 => ⟨S128x512, .bf16⟩
  | 20 => ⟨S1x128x512, .bf16⟩
  | 21 => ⟨S1x128x512, .bf16⟩
  | 22 => ⟨S2x128x512, .bf16⟩
  | 23 => ⟨S128x512, .bf16⟩
  | 24 => ⟨S128x512, .f32⟩
  | 25 => ⟨S128x512, .f32⟩
  | 26 => ⟨S128x512, .bf16⟩
  | 27 => ⟨S1x128x512, .bf16⟩
  | 28 => ⟨S1x128x512, .bf16⟩
  | 29 => ⟨S2x128x512, .bf16⟩
  | 30 => ⟨S512x512, .bf16⟩
  | 31 => ⟨S512x512, .f32⟩
  | 32 => ⟨S512x512, .f32⟩
  | 33 => ⟨S512x512, .bf16⟩
  | 34 => ⟨S1x512x512, .bf16⟩
  | 35 => ⟨S1x512x512, .bf16⟩
  | 36 => ⟨S2x512x512, .bf16⟩
  | 37 => ⟨S512x512, .bf16⟩
  | 38 => ⟨S512x512, .f32⟩
  | 39 => ⟨S512x512, .f32⟩
  | 40 => ⟨S512x512, .bf16⟩
  | 41 => ⟨S1x512x512, .bf16⟩
  | 42 => ⟨S1x512x512, .bf16⟩
  | 43 => ⟨S2x512x512, .bf16⟩
  | 44 => ⟨S64x1024, .bf16⟩
  | 45 => ⟨S64x1024, .f32⟩
  | 46 => ⟨S64x1024, .f32⟩
  | 47 => ⟨S64x1024, .bf16⟩
  | 48 => ⟨S1x64x1024, .bf16⟩
  | 49 => ⟨S1x64x1024, .bf16⟩
  | 50 => ⟨S2x64x1024, .bf16⟩
  | 51 => ⟨S64x1024, .bf16⟩
  | 52 => ⟨S64x1024, .f32⟩
  | 53 => ⟨S64x1024, .f32⟩
  | 54 => ⟨S64x1024, .bf16⟩
  | 55 => ⟨S1x64x1024, .bf16⟩
  | 56 => ⟨S1x64x1024, .bf16⟩
  | 57 => ⟨S2x64x1024, .bf16⟩
  | 58 => ⟨S4096x1024, .bf16⟩
  | 59 => ⟨S4096x1024, .bf16⟩
  | _ => ⟨S1x33x64, .f32⟩

abbrev hbmTy (i : Nat) : BufTy := match i / 128 with
  | 0 => hbmTy0_0 i
  | 1 => hbmTy0_1 i
  | _ => ⟨S1x33x64, .f32⟩

abbrev bufTy : (tb : Table) → Fin (tcTables nBuf tb) → BufTy
  | .hbm, ⟨i, _⟩ => hbmTy i
  | .local _ .vmem, ⟨0, _⟩ => ⟨S1x128, .f32⟩
  | .local _ .vmem, ⟨1, _⟩ => ⟨S2x128x512, .bf16⟩
  | .local _ .vmem, ⟨2, _⟩ => ⟨S2x128x512, .bf16⟩
  | .local _ .vmem, ⟨3, _⟩ => ⟨S2x128x512, .bf16⟩
  | .local _ .vmem, ⟨4, _⟩ => ⟨S1x512, .f32⟩
  | .local _ .vmem, ⟨5, _⟩ => ⟨S2x512x512, .bf16⟩
  | .local _ .vmem, ⟨6, _⟩ => ⟨S1x512, .f32⟩
  | .local _ .vmem, ⟨7, _⟩ => ⟨S2x512x512, .bf16⟩
  | .local _ .vmem, ⟨8, _⟩ => ⟨S1x512, .f32⟩
  | .local _ .vmem, ⟨9, _⟩ => ⟨S1x512, .f32⟩
  | .local _ .vmem, ⟨10, _⟩ => ⟨S2x64x1024, .bf16⟩
  | .local _ .vmem, ⟨11, _⟩ => ⟨S2x64x1024, .bf16⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S1x33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_c_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_cst : Ref sig .tc := ⟨.hbm, 28, rfl⟩
abbrev main_call0_v3 : Ref sig .tc := ⟨.hbm, 29, rfl⟩
abbrev main_call0_v4 : Ref sig .tc := ⟨.hbm, 30, rfl⟩
abbrev main_call0_cst_0 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_cst_1 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_v15 : Ref sig .tc := ⟨.hbm, 43, rfl⟩
abbrev main_call0_v16 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_1 : Ref sig .tc := ⟨.hbm, 50, rfl⟩
abbrev main_cst_2 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_cst : Ref sig .tc := ⟨.hbm, 55, rfl⟩
abbrev main_call1_v3 : Ref sig .tc := ⟨.hbm, 56, rfl⟩
abbrev main_call1_v4 : Ref sig .tc := ⟨.hbm, 57, rfl⟩
abbrev main_call1_cst_0 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_cst_1 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_v15 : Ref sig .tc := ⟨.hbm, 70, rfl⟩
abbrev main_call1_v16 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_c_3 : Ref sig .tc := ⟨.hbm, 76, rfl⟩
abbrev main_call2_v0 : Ref sig .tc := ⟨.hbm, 77, rfl⟩
abbrev main_v23 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_v24 : Ref sig .tc := ⟨.hbm, 84, rfl⟩
abbrev main_v25 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_call4_v3 : Ref sig .tc := ⟨.hbm, 89, rfl⟩
abbrev main_call4_v4 : Ref sig .tc := ⟨.hbm, 90, rfl⟩
abbrev main_v26 : Ref sig .tc := ⟨.hbm, 91, rfl⟩
abbrev main_v27 : Ref sig .tc := ⟨.hbm, 92, rfl⟩
abbrev main_call5_v0 : Ref sig .tc := ⟨.hbm, 93, rfl⟩
abbrev main_call5_v1 : Ref sig .tc := ⟨.hbm, 94, rfl⟩
abbrev main_call5_v2 : Ref sig .tc := ⟨.hbm, 95, rfl⟩
abbrev main_call5_v3 : Ref sig .tc := ⟨.hbm, 96, rfl⟩
abbrev main_call5_v4 : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_call6_v0 : Ref sig .tc := ⟨.hbm, 103, rfl⟩
abbrev main_call6_v1 : Ref sig .tc := ⟨.hbm, 104, rfl⟩
abbrev main_call6_v2 : Ref sig .tc := ⟨.hbm, 105, rfl⟩
abbrev main_call6_v3 : Ref sig .tc := ⟨.hbm, 106, rfl⟩
abbrev main_call6_v4 : Ref sig .tc := ⟨.hbm, 107, rfl⟩
abbrev main_v33 : Ref sig .tc := ⟨.hbm, 108, rfl⟩
abbrev main_v34 : Ref sig .tc := ⟨.hbm, 109, rfl⟩
abbrev main_v35 : Ref sig .tc := ⟨.hbm, 110, rfl⟩
abbrev main_v36 : Ref sig .tc := ⟨.hbm, 111, rfl⟩
abbrev main_v37 : Ref sig .tc := ⟨.hbm, 112, rfl⟩
abbrev main_call7_v0 : Ref sig .tc := ⟨.hbm, 113, rfl⟩
abbrev main_call7_v1 : Ref sig .tc := ⟨.hbm, 114, rfl⟩
abbrev main_call7_v2 : Ref sig .tc := ⟨.hbm, 115, rfl⟩
abbrev main_call7_v3 : Ref sig .tc := ⟨.hbm, 116, rfl⟩
abbrev main_call7_v4 : Ref sig .tc := ⟨.hbm, 117, rfl⟩
abbrev main_v38 : Ref sig .tc := ⟨.hbm, 118, rfl⟩
abbrev main_v39 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_v106_0 : Ref sig .tc := ⟨.hbm, 186, rfl⟩
abbrev main_v106_1 : Ref sig .tc := ⟨.hbm, 187, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg13_1 : Ref sig .tc := ⟨.vmem, 14, rfl⟩
abbrev cc0_stg14_0 : Ref sig .tc := ⟨.vmem, 15, rfl⟩
abbrev cc0_stg14_1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem13_1 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x64x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x64x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference5Ideal.lean ====
abbrev S1x33x64 : Shape := ⟨3, ![1, 33, 64]⟩
abbrev S1x64 : Shape := ⟨2, ![1, 64]⟩
abbrev S1x64x64 : Shape := ⟨3, ![1, 64, 64]⟩
abbrev S1x64x2048 : Shape := ⟨3, ![1, 64, 2048]⟩
abbrev S4096 : Shape := ⟨1, ![4096]⟩
abbrev S_ : Shape := ⟨0, ![]⟩
abbrev S15 : Shape := ⟨1, ![15]⟩
abbrev S1 : Shape := ⟨1, ![1]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x33 : Shape := ⟨2, ![4096, 33]⟩
abbrev S64 : Shape := ⟨1, ![64]⟩
abbrev S33x64 : Shape := ⟨2, ![33, 64]⟩
abbrev S4096x64 : Shape := ⟨2, ![4096, 64]⟩
abbrev S64x64 : Shape := ⟨2, ![64, 64]⟩
abbrev S64x2048 : Shape := ⟨2, ![64, 2048]⟩
abbrev S4096x2048 : Shape := ⟨2, ![4096, 2048]⟩
abbrev S4096x2x2x512 : Shape := ⟨4, ![4096, 2, 2, 512]⟩
abbrev S511 : Shape := ⟨1, ![511]⟩
abbrev S512 : Shape := ⟨1, ![512]⟩
abbrev S1x512 : Shape := ⟨2, ![1, 512]⟩
abbrev S4096x512 : Shape := ⟨2, ![4096, 512]⟩
abbrev S4096x1x1x512 : Shape := ⟨4, ![4096, 1, 1, 512]⟩
abbrev S4096x2x1x512 : Shape := ⟨4, ![4096, 2, 1, 512]⟩
abbrev S4096x2x512 : Shape := ⟨3, ![4096, 2, 512]⟩
abbrev S1x2x512 : Shape := ⟨3, ![1, 2, 512]⟩
abbrev S4095x2x1x512 : Shape := ⟨4, ![4095, 2, 1, 512]⟩
abbrev S4095x2x512 : Shape := ⟨3, ![4095, 2, 512]⟩
abbrev S4096x1024 : Shape := ⟨2, ![4096, 1024]⟩

abbrev nBuf : Space → Nat
  | .hbm => 130
  | .vmem => 0
  | .smem => 0
  | _ => 0

abbrev hbmTy0_0 (i : Nat) : BufTy := match i % 128 with
  | 0 => ⟨S1x33x64, .f32⟩
  | 1 => ⟨S1x64, .f32⟩
  | 2 => ⟨S1x64x64, .f32⟩
  | 3 => ⟨S1x64, .f32⟩
  | 4 => ⟨S1x64x64, .f32⟩
  | 5 => ⟨S1x64, .f32⟩
  | 6 => ⟨S1x64x2048, .f32⟩
  | 7 => ⟨S1x64, .f32⟩
  | 8 => ⟨S4096, .f32⟩
  | 9 => ⟨S_, .f32⟩
  | 10 => ⟨S4096, .f32⟩
  | 11 => ⟨S4096, .f32⟩
  | 12 => ⟨S_, .f32⟩
  | 13 => ⟨S_, .i32⟩
  | 14 => ⟨S_, .f32⟩
  | 15 => ⟨S_, .f32⟩
  | 16 => ⟨S_, .f32⟩
  | 17 => ⟨S_, .f32⟩
  | 18 => ⟨S_, .f32⟩
  | 19 => ⟨S15, .f32⟩
  | 20 => ⟨S_, .f32⟩
  | 21 => ⟨S15, .f32⟩
  | 22 => ⟨S15, .f32⟩
  | 23 => ⟨S1, .f32⟩
  | 24 => ⟨S_, .f32⟩
  | 25 => ⟨S15, .f32⟩
  | 26 => ⟨S15, .f32⟩
  | 27 => ⟨S15, .f32⟩
  | 28 => ⟨S15, .f32⟩
  | 29 => ⟨S1, .f32⟩
  | 30 => ⟨S15, .f32⟩
  | 31 => ⟨S15, .f32⟩
  | 32 => ⟨S15, .f32⟩
  | 33 => ⟨S1, .f32⟩
  | 34 => ⟨S16, .f32⟩
  | 35 => ⟨S4096x1, .f32⟩
  | 36 => ⟨S_, .f32⟩
  | 37 => ⟨S4096x1, .f32⟩
  | 38 => ⟨S4096x1, .f32⟩
  | 39 => ⟨S1x16, .f32⟩
  | 40 => ⟨S4096x16, .f32⟩
  | 41 => ⟨S4096x16, .f32⟩
  | 42 => ⟨S4096x16, .f32⟩
  | 43 => ⟨S4096x1, .f32⟩
  | 44 => ⟨S4096x16, .f32⟩
  | 45 => ⟨S4096x16, .f32⟩
  | 46 => ⟨S4096x16, .f32⟩
  | 47 => ⟨S4096x33, .f32⟩
  | 48 => ⟨S64, .f32⟩
  | 49 => ⟨S33x64, .f32⟩
  | 50 => ⟨S4096x64, .f32⟩
  | 51 => ⟨S64, .f32⟩
  | 52 => ⟨S1x64, .f32⟩
  | 53 => ⟨S4096x64, .f32⟩
  | 54 => ⟨S4096x64, .f32⟩
  | 55 => ⟨S1x64, .f32⟩
  | 56 => ⟨S4096x64, .f32⟩
  | 57 => ⟨S4096x64, .f32⟩
  | 58 => ⟨S4096x64, .f32⟩
  | 59 => ⟨S64x64, .f32⟩
  | 60 => ⟨S4096x64, .f32⟩
  | 61 => ⟨S64, .f32⟩
  | 62 => ⟨S1x64, .f32⟩
  | 63 => ⟨S4096x64, .f32⟩
  | 64 => ⟨S4096x64, .f32⟩
  | 65 => ⟨S1x64, .f32⟩
  | 66 => ⟨S4096x64, .f32⟩
  | 67 => ⟨S4096x64, .f32⟩
  | 68 => ⟨S4096x64, .f32⟩
  | 69 => ⟨S64x64, .f32⟩
  | 70 => ⟨S4096x64, .f32⟩
  | 71 => ⟨S64, .f32⟩
  | 72 => ⟨S1x64, .f32⟩
  | 73 => ⟨S4096x64, .f32⟩
  | 74 => ⟨S4096x64, .f32⟩
  | 75 => ⟨S1x64, .f32⟩
  | 76 => ⟨S4096x64, .f32⟩
  | 77 => ⟨S4096x64, .f32⟩
  | 78 => ⟨S4096x64, .f32⟩
  | 79 => ⟨S64x2048, .f32⟩
  | 80 => ⟨S4096x2048, .f32⟩
  | 81 => ⟨S4096x2x2x512, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S511, .f32⟩
  | 90 => ⟨S_, .f32⟩
  | 91 => ⟨S511, .f32⟩
  | 92 => ⟨S511, .f32⟩
  | 93 => ⟨S1, .f32⟩
  | 94 => ⟨S_, .f32⟩
  | 95 => ⟨S511, .f32⟩
  | 96 => ⟨S511, .f32⟩
  | 97 => ⟨S511, .f32⟩
  | 98 => ⟨S511, .f32⟩
  | 99 => ⟨S1, .f32⟩
  | 100 => ⟨S511, .f32⟩
  | 101 => ⟨S511, .f32⟩
  | 102 => ⟨S511, .f32⟩
  | 103 => ⟨S1, .f32⟩
  | 104 => ⟨S512, .f32⟩
  | 105 => ⟨S512, .f32⟩
  | 106 => ⟨S4096x1, .f32⟩
  | 107 => ⟨S4096x1, .f32⟩
  | 108 => ⟨S1x512, .f32⟩
  | 109 => ⟨S4096x512, .f32⟩
  | 110 => ⟨S4096x512, .f32⟩
  | 111 => ⟨S4096x512, .f32⟩
  | 112 => ⟨S4096x512, .f32⟩
  | 113 => ⟨S4096x1x1x512, .f32⟩
  | 114 => ⟨S4096x2x2x512, .f32⟩
  | 115 => ⟨S4096x2x2x512, .f32⟩
  | 116 => ⟨S4096x2x1x512, .f32⟩
  | 117 => ⟨S4096x2x512, .f32⟩
  | 118 => ⟨S_, .f32⟩
  | 119 => ⟨S1x2x512, .f32⟩
  | 120 => ⟨S4095x2x1x512, .f32⟩
  | 121 => ⟨S4095x2x1x512, .f32⟩
  | 122 => ⟨S4095x2x512, .f32⟩
  | 123 => ⟨S4096x2x512, .f32⟩
  | 124 => ⟨S4096x2x512, .f32⟩
  | 125 => ⟨S4096x1024, .f32⟩
  | 126 => ⟨S4096x1024, .bf16⟩
  | 127 => ⟨S4096x2x512, .f32⟩
  | _ => ⟨S1x33x64, .f32⟩

abbrev hbmTy0_1 (i : Nat) : BufTy := match i % 128 with
  | 0 => ⟨S4096x1024, .f32⟩
  | 1 => ⟨S4096x1024, .bf16⟩
  | _ => ⟨S1x33x64, .f32⟩

abbrev hbmTy (i : Nat) : BufTy := match i / 128 with
  | 0 => hbmTy0_0 i
  | 1 => hbmTy0_1 i
  | _ => ⟨S1x33x64, .f32⟩

abbrev bufTy : (tb : Table) → Fin (tcTables nBuf tb) → BufTy
  | .hbm, ⟨i, _⟩ => hbmTy i
  | _, _ => ⟨S1x33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_cst : Ref sig .tc := ⟨.hbm, 17, rfl⟩
abbrev main_call0_v3 : Ref sig .tc := ⟨.hbm, 18, rfl⟩
abbrev main_call0_v4 : Ref sig .tc := ⟨.hbm, 19, rfl⟩
abbrev main_call0_cst_0 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_v3 : Ref sig .tc := ⟨.hbm, 34, rfl⟩
abbrev main_v4 : Ref sig .tc := ⟨.hbm, 35, rfl⟩
abbrev main_cst_1 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_2 : Ref sig .tc := ⟨.hbm, 82, rfl⟩
abbrev main_cst_3 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_cst : Ref sig .tc := ⟨.hbm, 87, rfl⟩
abbrev main_call1_v3 : Ref sig .tc := ⟨.hbm, 88, rfl⟩
abbrev main_call1_v4 : Ref sig .tc := ⟨.hbm, 89, rfl⟩
abbrev main_call1_cst_0 : Ref sig .tc := ⟨.hbm, 90, rfl⟩
abbrev main_call1_v5 : Ref sig .tc := ⟨.hbm, 91, rfl⟩
abbrev main_call1_v6 : Ref sig .tc := ⟨.hbm, 92, rfl⟩
abbrev main_call1_v7 : Ref sig .tc := ⟨.hbm, 93, rfl⟩
abbrev main_call1_cst_1 : Ref sig .tc := ⟨.hbm, 94, rfl⟩
abbrev main_call1_v8 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_call1_v12 : Ref sig .tc := ⟨.hbm, 99, rfl⟩
abbrev main_call1_v13 : Ref sig .tc := ⟨.hbm, 100, rfl⟩
abbrev main_call1_v14 : Ref sig .tc := ⟨.hbm, 101, rfl⟩
abbrev main_call1_v15 : Ref sig .tc := ⟨.hbm, 102, rfl⟩
abbrev main_call1_v16 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_cst_4 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩

abbrev nD : Nat := 1
abbrev τ : Topo := Topo.v7x

variable {F : FTy → Type} [FloatOps F]
-- ==== Proof.AttnLoop.lean ====
/-
  What one grid point of the attention kernel leaves in its output block, as a loop over the sixteen chunks of keys. The
  kernel's body is printed unrolled; here the loop is written once, as a recursion on the number of chunks read, and the
  block is shown to be that recursion's sixteenth state, normalized and combined.
-/
module

public import proofs.«01_k».proof.Proof.Gen.KernelIdeal.Value
public import Idealize.ShloMosaic.Lib.Pipeline.ValueKit

@[expose] public section

set_option maxRecDepth 65536

noncomputable section

namespace Cert.KernelIdeal.Attn

open Cert.KernelIdeal Cert.KernelIdeal.Gen Idealize.ShloMosaic Idealize.ShloMosaic.TcCoe Idealize.SL.Sem
open Facts

variable {F : FTy → Type} [FloatOps F]

/-- A chunk's rows lie inside the block. -/
theorem chunk_inb (c : Fin 16) :
    ∀ a, (![256 * c.val, 0] : Fin 2 → ℕ) a + (![256, 128] : Fin 2 → ℕ) a ≤ S4096x128.size a := by
  intro a
  have := c.isLt
  match a with
  | 0 => show 256 * c.val + 256 ≤ 4096; omega
  | 1 => show 0 + 128 ≤ 128; omega

/-- Chunk `c` of a keys (or values) block: its rows `256 c … 256 c + 255`. -/
def chunk (x : Vec F S4096x128 .bf16) (c : Fin 16) : Vec F S256x128 .bf16 :=
  View.ld x (Rect.unit (s := S4096x128) ![256 * c.val, 0] ![256, 128]
    (chunk_inb c))

/-- The scores of both maps' queries against one chunk of keys. -/
def scores (q : FVec F S2048x128 .bf16) (k : Vec F S256x128 .bf16) : FVec F S2048x256 .f32 :=
  matmul dot_S2048x128_S256x128_S2048x256_1_1_0_0_n_n none q k (constant S2048x256 .f32 0x00000000#32)

/-- The running maximum after a chunk. -/
def maxNext (q : FVec F S2048x128 .bf16) (k : Vec F S256x128 .bf16) (mx : FVec F S2048x1 .f32) : FVec F S2048x1 .f32 :=
  maximumf mx (shapeCast S2048x1 (multiReduction .maximumf [1] S2048 (scores q k) 0xFF800000#32 reduces_S2048x256_S2048
    (.inl rfl) rfl) shapeCasts_S2048_S2048x1)

/-- The chunk's weights, relative to the running maximum. -/
def weights (q : FVec F S2048x128 .bf16) (k : Vec F S256x128 .bf16) (mn : FVec F S2048x1 .f32) : FVec F S2048x256 .bf16 :=
  exp2 (truncf .bf16 (subf (scores q k) (broadcastTo S2048x256 mn broadcasts_S2048x1_S2048x256)) bitsLt_bf16_f32)

/-- The factor by which what was summed under the old maximum is scaled down to the new one. -/
def rescale (mx mn : FVec F S2048x1 .f32) : FVec F S2048x128 .f32 :=
  broadcastTo S2048x128 (exp2 (subf mx mn)) broadcasts_S2048x1_S2048x128

/-- The sums of weights by lane after a chunk: lane `t` takes the weights of the chunk's keys `t` and `128 + t`. -/
def lanesNext (p : FVec F S2048x256 .bf16) (al l : FVec F S2048x128 .f32) : FVec F S2048x128 .f32 :=
  addf (mulf al l)
    (addf (extractStridedSlice S2048x128 ![0, 0] (extf .f32 p bitsLt_bf16_f32) slices_S2048x256_o0_0_S2048x128)
      (extractStridedSlice S2048x128 ![0, 128] (extf .f32 p bitsLt_bf16_f32) slices_S2048x256_o0_128_S2048x128))

/-- The weighted sums of values after a chunk. -/
def accNext (p : FVec F S2048x256 .bf16) (v : Vec F S256x128 .bf16) (al a : FVec F S2048x128 .f32) : FVec F S2048x128 .f32 :=
  addf (mulf al a) (matmul dot_S2048x256_S256x128_S2048x128_1_0_0_1_n_n none p v (constant S2048x128 .f32 0x00000000#32))

/-- The running maximum after `n` chunks, from `-∞`. -/
def maxAt (q : FVec F S2048x128 .bf16) (k : Vec F S4096x128 .bf16) : ℕ → FVec F S2048x1 .f32
  | 0 => broadcast S2048x1 (Scalar.ofBits .f32 0xFF800000#32)
  | n + 1 => maxNext q (chunk k (Fin.ofNat 16 n)) (maxAt q k n)

/-- The weights of chunk `n`. -/
def weightsAt (q : FVec F S2048x128 .bf16) (k : Vec F S4096x128 .bf16) (n : ℕ) : FVec F S2048x256 .bf16 :=
  weights q (chunk k (Fin.ofNat 16 n)) (maxAt q k (n + 1))

/-- The lanes' sums of weights after `n` chunks, from zero. -/
def lanesAt (q : FVec F S2048x128 .bf16) (k : Vec F S4096x128 .bf16) : ℕ → FVec F S2048x128 .f32
  | 0 => broadcast S2048x128 (Scalar.ofBits .f32 0x00000000#32)
  | n + 1 => lanesNext (weightsAt q k n) (rescale (maxAt q k n) (maxAt q k (n + 1))) (lanesAt q k n)

/-- The weighted sums of values after `n` chunks, from zero. -/
def accAt (q : FVec F S2048x128 .bf16) (k v : Vec F S4096x128 .bf16) : ℕ → FVec F S2048x128 .f32
  | 0 => broadcast S2048x128 (Scalar.ofBits .f32 0x00000000#32)
  | n + 1 => accNext (weightsAt q k n) (chunk v (Fin.ofNat 16 n)) (rescale (maxAt q k n) (maxAt q k (n + 1))) (accAt q k v n)

/-- Both maps' attention: the weighted sums over the sums of weights. -/
def attnMaps (a l : FVec F S2048x128 .f32) : FVec F S2048x128 .f32 :=
  divf a (broadcastTo S2048x128 (shapeCast S2048x1 (multiReduction .add [1] S2048 l 0x00000000#32 reduces_S2048x128_S2048
    (.inl rfl) rfl) shapeCasts_S2048_S2048x1) broadcasts_S2048x1_S2048x128)

/-- One grid point's output block, from its blocks of queries, keys and values, the vectors of lambda and the gain. -/
def block (q : Vec F S1024x128 .bf16) (k v : Vec F S4096x128 .bf16) (lv : Vec F S4x64 .f32) (g : Vec F S1x128 .f32) :
    FVec F S1024x128 .bf16 :=
  k0_pay1 (k0_pay3 lv) (attnMaps (accAt (k0_pay2 q) k v 16) (lanesAt (k0_pay2 q) k 16))
    (extractStridedSlice S1024x128 ![0, 0] (attnMaps (accAt (k0_pay2 q) k v 16) (lanesAt (k0_pay2 q) k 16))
      slices_S2048x128_o0_0_S1024x128) g

variable (m : (ℓ : Loc nD τ sig) → Buf (Elt F) ℓ)

set_option maxHeartbeats 4000000 in
/-- After grid point `t` the output block is `block` of the point's input blocks. -/
theorem after_eq (c : Dev nD) (t : Fin cfg0.N) :
    (dats m 0 c).after 5 t = block (iblk m c 0 t) (iblk m c 1 t) (iblk m c 2 t) (iblk m c 3 t) (iblk m c 4 t) := by
  rw [after0_5]
  unfold outsAt0
  frame_out
  generalize iblk m c 0 t = q
  generalize iblk m c 1 t = k
  generalize iblk m c 2 t = v
  generalize iblk m c 3 t = lv
  generalize iblk m c 4 t = g
  rfl

end Cert.KernelIdeal.Attn

end
-- ==== Proof.AttnMath.lean ====
/-
  The arithmetic of softmax attention on the extended reals, with no program in sight: a running softmax that rescales what
  it has summed whenever its maximum grows; the same weights in base two and in base `e`; and the difference of two maps'
  attention, taken before or after the sum over the keys.
-/
module

public import Idealize.ShloMosaic.PureOps.Ideal
public import Idealize.ShloMosaic.PureOps.Ideal.Laws

@[expose] public section

noncomputable section

namespace Cert.AttnMath

open Idealize.ShloMosaic
open scoped BigOperators

/-- The weight of a score `s` under a maximum `m`, a real number. -/
def wt (s m : EReal) : ℝ := (Ideal.exp2 (s - m)).toReal

theorem exp2_real (r : ℝ) : Ideal.exp2 (r : EReal) = ((Real.rpow 2 r : ℝ) : EReal) := rfl

theorem exp2_bot : Ideal.exp2 ⊥ = 0 := rfl

theorem exp_bot : Ideal.exp ⊥ = 0 := rfl

/-- A sum of reals is real. -/
theorem coe_sum {K : Type} (t : Finset K) (f : K → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- Under a maximum no weight is infinite. -/
theorem exp2_eq_wt {s m : EReal} (h : s ≤ m) : Ideal.exp2 (s - m) = (wt s m : EReal) := by
  unfold wt
  induction s using EReal.rec with
  | bot => rw [EReal.bot_sub]; simp [exp2_bot]
  | top => obtain rfl := top_le_iff.1 h; simp [exp2_bot]
  | coe s =>
    induction m using EReal.rec with
    | bot => simp at h
    | top => simp [exp2_bot]
    | coe m => rw [← EReal.coe_sub, exp2_real, EReal.toReal_coe]

theorem wt_nonneg {s m : EReal} (h : s ≤ m) : 0 ≤ wt s m := by
  unfold wt
  induction s using EReal.rec with
  | bot => rw [EReal.bot_sub]; simp [exp2_bot]
  | top => obtain rfl := top_le_iff.1 h; simp [exp2_bot]
  | coe s =>
    induction m using EReal.rec with
    | bot => simp at h
    | top => simp [exp2_bot]
    | coe m => rw [← EReal.coe_sub, exp2_real, EReal.toReal_coe]; exact Real.rpow_nonneg (by norm_num) _

/-- Raising the maximum from `m` to `m'` scales every weight by the weight of `m` under `m'`. -/
theorem wt_mul {s m m' : EReal} (h : s ≤ m) (h' : m ≤ m') : wt m m' * wt s m = wt s m' := by
  unfold wt
  induction s using EReal.rec with
  | bot => simp [EReal.bot_sub, exp2_bot]
  | top =>
    obtain rfl := top_le_iff.1 h
    obtain rfl := top_le_iff.1 h'
    simp [exp2_bot]
  | coe s =>
    induction m using EReal.rec with
    | bot => simp at h
    | top => obtain rfl := top_le_iff.1 h'; simp [exp2_bot]
    | coe m =>
      induction m' using EReal.rec with
      | bot => simp at h'
      | top => simp [exp2_bot]
      | coe m' =>
        simp only [← EReal.coe_sub, exp2_real, EReal.toReal_coe]
        show (2 : ℝ) ^ (m - m') * (2 : ℝ) ^ (s - m) = (2 : ℝ) ^ (s - m')
        rw [← Real.rpow_add (by norm_num)]
        congr 1
        ring

/-- A running sum that is rescaled as its maximum grows is the sum of all the terms under the last maximum: `S n j` are the
    scores of step `n`, `w n j` their factors, `M n` the maximum before step `n`, `X n` the sum before it. -/
theorem running {J : Type} [Fintype J] (S : ℕ → J → EReal) (w : ℕ → J → ℝ) (M X : ℕ → EReal)
    (hM : ∀ n, M n ≤ M (n + 1)) (hS : ∀ n j, S n j ≤ M (n + 1)) (h0 : X 0 = 0)
    (hX : ∀ n, X (n + 1) = Ideal.exp2 (M n - M (n + 1)) * X n + ∑ j, Ideal.exp2 (S n j - M (n + 1)) * (w n j : EReal))
    (n : ℕ) : X n = ((∑ c ∈ Finset.range n, ∑ j, wt (S c j) (M n) * w c j : ℝ) : EReal) := by
  have hmono : Monotone M := monotone_nat_of_le_succ hM
  induction n with
  | zero => simp [h0]
  | succ n ih =>
    have hstep : ∑ j, Ideal.exp2 (S n j - M (n + 1)) * (w n j : EReal) = ((∑ j, wt (S n j) (M (n + 1)) * w n j : ℝ) : EReal) := by
      rw [coe_sum]
      refine Finset.sum_congr rfl fun j _ => ?_
      rw [exp2_eq_wt (hS n j), EReal.coe_mul]
    rw [hX, ih, hstep, exp2_eq_wt (hM n), ← EReal.coe_mul, ← EReal.coe_add, Finset.sum_range_succ, Finset.mul_sum]
    congr 2
    refine Finset.sum_congr rfl fun c hc => ?_
    rw [Finset.mul_sum]
    refine Finset.sum_congr rfl fun j _ => ?_
    rw [← mul_assoc, wt_mul ((hS c j).trans (hmono (Finset.mem_range.1 hc))) (hM n)]

/-- Scaling by a positive real commutes with the maximum of finitely many scores. -/
theorem fold_max_mul {K : Type} [Fintype K] [Nonempty K] (s : K → EReal) (M : EReal) (hle : ∀ k, s k ≤ M)
    (hlub : ∀ x, (∀ k, s k ≤ x) → M ≤ x) {c : ℝ} (hc : 0 < c) :
    max ⊥ (Finset.univ.fold max ⊥ fun k => s k * (c : EReal)) = M * (c : EReal) := by
  have hc' : (0 : EReal) ≤ (c : EReal) := by exact_mod_cast hc.le
  obtain ⟨k0, -, hk0⟩ := Finset.exists_max_image Finset.univ s Finset.univ_nonempty
  have hM : M = s k0 := le_antisymm (hlub _ fun k => hk0 k (Finset.mem_univ k)) (hle k0)
  rw [max_eq_right bot_le]
  refine le_antisymm ?_ ?_
  · exact (Finset.fold_max_le _).2 ⟨bot_le, fun k _ => mul_le_mul_of_nonneg_right (hle k) hc'⟩
  · rw [hM]
    exact (Finset.le_fold_max _).2 (Or.inr ⟨k0, Finset.mem_univ _, le_rfl⟩)

/-- A weight in base `e` of scores scaled by `log 2` is the weight in base two. -/
theorem exp_eq_wt {s m : EReal} (h : s ≤ m) :
    Ideal.exp (s * ((Real.log 2 : ℝ) : EReal) - m * ((Real.log 2 : ℝ) : EReal)) = (wt s m : EReal) := by
  have hl : (0 : ℝ) < Real.log 2 := Real.log_pos (by norm_num)
  rw [← exp2_eq_wt h]
  induction s using EReal.rec with
  | bot => rw [EReal.bot_mul_coe_of_pos hl, EReal.bot_sub, EReal.bot_sub]; rfl
  | top =>
    obtain rfl := top_le_iff.1 h
    rw [EReal.top_mul_coe_of_pos hl]; simp [exp_bot, exp2_bot]
  | coe s =>
    induction m using EReal.rec with
    | bot => simp at h
    | top => rw [EReal.top_mul_coe_of_pos hl]; simp [exp_bot, exp2_bot, ← EReal.coe_mul]
    | coe m =>
      rw [← EReal.coe_mul, ← EReal.coe_mul, ← EReal.coe_sub, ← EReal.coe_sub, exp2_real]
      show ((Real.exp _ : ℝ) : EReal) = (((2 : ℝ) ^ (s - m) : ℝ) : EReal)
      rw [Real.rpow_def_of_pos (by norm_num)]
      congr 2
      ring

/-- Nothing or an infinity. -/
def Wild (x : EReal) : Prop := x = 0 ∨ x = ⊤ ∨ x = ⊥

theorem Wild.add {x y : EReal} (hx : Wild x) (hy : Wild y) : Wild (x + y) := by
  rcases hx with rfl | rfl | rfl <;> rcases hy with rfl | rfl | rfl <;> simp [Wild]

theorem Wild.sum {K : Type} (t : Finset K) (f : K → EReal) (h : ∀ k, Wild (f k)) : Wild (∑ k ∈ t, f k) := by
  classical
  induction t using Finset.induction_on with
  | empty => exact Or.inl rfl
  | insert a t ha ih => rw [Finset.sum_insert ha]; exact (h a).add ih

/-- An infinity times a real. -/
theorem Wild.mul_coe {x : EReal} (h : x = ⊤ ∨ x = ⊥) (r : ℝ) : Wild (x * (r : EReal)) := by
  rcases lt_trichotomy r 0 with hr | rfl | hr
  · rcases h with rfl | rfl
    · exact Or.inr (Or.inr (EReal.top_mul_coe_of_neg hr))
    · exact Or.inr (Or.inl (EReal.bot_mul_coe_of_neg hr))
  · left; simp
  · rcases h with rfl | rfl
    · exact Or.inr (Or.inl (EReal.top_mul_coe_of_pos hr))
    · exact Or.inr (Or.inr (EReal.bot_mul_coe_of_pos hr))

/-- The root mean square normalization of a row, before its gain. -/
def rms {D : Type} [Fintype D] (cnt eps : EReal) (o : D → EReal) (d : D) : EReal :=
  o d * Ideal.rsqrt (Ideal.div (∑ x, o x * o x) cnt + eps)

/-- A row that holds only zeros and infinities is normalized to zero. -/
theorem rms_wild {D : Type} [Fintype D] {c e : ℝ} (hc : 0 < c) (o : D → EReal) (h : ∀ d, Wild (o d)) (d : D) :
    rms (c : EReal) (e : EReal) o d = 0 := by
  unfold rms
  rcases h d with h0 | hd
  · rw [h0, zero_mul]
  have hsq : ∀ x, 0 ≤ o x * o x := fun x => by
    rcases h x with h | h | h <;> rw [h] <;> simp
  have ht : o d * o d = ⊤ := by rcases hd with h | h <;> rw [h] <;> simp
  have hsum : ∑ x, o x * o x = ⊤ := by
    refine top_le_iff.1 ?_
    rw [← ht]
    exact Finset.single_le_sum (f := fun x => o x * o x) (fun x _ => hsq x) (Finset.mem_univ d)
  rw [hsum, Ideal.div_coe hc.ne', EReal.top_mul_coe_of_pos (by positivity), EReal.top_add_coe]
  show o d * (0 : EReal) = 0
  rw [mul_zero]

theorem div_real (x : ℝ) {y : ℝ} (h : y ≠ 0) : Ideal.div (x : EReal) (y : EReal) = ((x / y : ℝ) : EReal) := by
  rw [Ideal.div_coe h, ← EReal.coe_mul, mul_one_div]

theorem div_zero_zero : Ideal.div ((0 : ℝ) : EReal) ((0 : ℝ) : EReal) = ⊥ := by
  simp [Ideal.div]

/-- The difference of two maps' attention, normalized: the weights are subtracted before the sum over the keys or after it.
    `p₀`, `p₁` are the maps' unnormalized weights, none negative; a map whose weights are all zero has no attention, and then
    both sides are zero. -/
theorem diff_attention {K D : Type} [Fintype K] [Fintype D] (p₀ p₁ : K → ℝ) (h₀ : ∀ k, 0 ≤ p₀ k) (h₁ : ∀ k, 0 ≤ p₁ k)
    (v : K → D → ℝ) (lam : ℝ) {c e : ℝ} (hc : 0 < c) (d : D) :
    rms (c : EReal) (e : EReal) (fun d => Ideal.div ((∑ k, p₀ k * v k d : ℝ) : EReal) ((∑ k, p₀ k : ℝ) : EReal)
        - (lam : EReal) * Ideal.div ((∑ k, p₁ k * v k d : ℝ) : EReal) ((∑ k, p₁ k : ℝ) : EReal)) d
      = rms (c : EReal) (e : EReal) (fun d => ∑ k, (Ideal.div (p₀ k : EReal) ((∑ k, p₀ k : ℝ) : EReal)
        - (lam : EReal) * Ideal.div (p₁ k : EReal) ((∑ k, p₁ k : ℝ) : EReal)) * (v k d : EReal)) d := by
  have zero_of {p : K → ℝ} (hp : ∀ k, 0 ≤ p k) (h : ∑ k, p k = 0) (k : K) : p k = 0 :=
    (Finset.sum_eq_zero_iff_of_nonneg fun k _ => hp k).1 h k (Finset.mem_univ k)
  have wild_sum {x : EReal} (hx : x = ⊤ ∨ x = ⊥) (d : D) : Wild (∑ k, x * (v k d : EReal)) :=
    Wild.sum _ _ fun k => Wild.mul_coe hx _
  by_cases e₀ : ∑ k, p₀ k = 0
  · rw [rms_wild hc _ fun d => ?_, rms_wild hc _ fun d => ?_]
    · simp only [e₀]
      simp only [zero_of h₀ e₀, div_zero_zero, EReal.bot_sub]
      exact wild_sum (Or.inr rfl) d
    · simp only [zero_of h₀ e₀, zero_mul, Finset.sum_const_zero, div_zero_zero, EReal.bot_sub]
      exact Or.inr (Or.inr rfl)
  by_cases e₁ : ∑ k, p₁ k = 0
  · by_cases hl : lam = 0
    · subst hl
      congr 1
      funext d
      simp only [EReal.coe_zero, zero_mul, sub_zero, div_real _ e₀, ← EReal.coe_mul]
      rw [← coe_sum, Finset.sum_div]
      congr 1
      exact Finset.sum_congr rfl fun k _ => by ring
    · have hinf : ∀ r : ℝ, (r : EReal) - (lam : EReal) * ⊥ = (if 0 < lam then ⊤ else ⊥) := fun r => by
        split_ifs with h
        · rw [EReal.coe_mul_bot_of_pos h]; rfl
        · rw [EReal.coe_mul_bot_of_neg (lt_of_le_of_ne (not_lt.1 h) hl)]; rfl
      have hx : (if 0 < lam then (⊤ : EReal) else ⊥) = ⊤ ∨ (if 0 < lam then (⊤ : EReal) else ⊥) = ⊥ := by
        split_ifs <;> simp
      rw [rms_wild hc _ fun d => ?_, rms_wild hc _ fun d => ?_]
      · simp only [e₁]
        simp only [zero_of h₁ e₁, div_zero_zero, div_real _ e₀, hinf]
        exact wild_sum hx d
      · simp only [zero_of h₁ e₁, zero_mul, Finset.sum_const_zero, div_zero_zero, div_real _ e₀, hinf]
        exact Or.inr hx
  · congr 1
    funext d
    simp only [div_real _ e₀, div_real _ e₁, ← EReal.coe_mul, ← EReal.coe_sub]
    rw [← coe_sum, Finset.sum_div, Finset.sum_div, Finset.mul_sum, ← Finset.sum_sub_distrib]
    congr 1
    exact Finset.sum_congr rfl fun k _ => by ring

end Cert.AttnMath

end
-- ==== Proof.AttnRow.lean ====
/-
  One row of the attention kernel's output block: the running maximum, the sums of weights by lane and the weighted sums of
  values of `AttnLoop`, read at an index, are those of a softmax over all the keys.
-/
module

public import proofs.«01_k».proof.Proof.AttnLoop
public import proofs.«01_k».proof.Proof.AttnMath
public import Idealize.ShloMosaic.Lib.Pointwise

@[expose] public section

set_option maxRecDepth 65536

noncomputable section

namespace Cert.KernelIdeal.Attn

open Cert.KernelIdeal Cert.KernelIdeal.Gen Idealize.ShloMosaic Idealize.ShloMosaic.TcCoe Idealize.SL.Sem
open Cert.AttnMath
open scoped BigOperators

theorem neg_inf : Ideal.ofBits .f32 4286578688#32 = ⊥ := by
  simp [Ideal.ofBits, Ideal.ieee, -EReal.coe_mul]

section loop

variable (q : FVec Ideal S2048x128 .bf16) (k v : Vec Ideal S4096x128 .bf16)

/-- The score of key `j` for row `r` of the stacked queries. -/
def score (r : Fin 2048) (j : Fin 4096) : EReal := ∑ x : Fin 128, q (ix2 r x) * k (ix2 j x)

/-- Key `j` of chunk `c`. -/
def key (c : ℕ) (j : Fin 256) : Fin 4096 := ⟨256 * (c % 16) + j, by have := Nat.mod_lt c (show 0 < 16 by norm_num); omega⟩

theorem chunk_apply (x : Vec Ideal S4096x128 .bf16) (c : ℕ) (j : Fin 256) (d : Fin 128) :
    chunk x (Fin.ofNat 16 c) (ix2 j d) = x (ix2 (key c j) d) := by
  pointwise [chunk]
  rfl

theorem scores_apply (c : ℕ) (r : Fin 2048) (j : Fin 256) :
    scores q (chunk k (Fin.ofNat 16 c)) (ix2 r j) = score q k r (key c j) := by
  unfold score
  simp only [← chunk_apply]
  generalize chunk k (Fin.ofNat 16 c) = y
  pointwise [scores]

/-- The running maximum of row `r` after `n` chunks. -/
def rowMax (r : Fin 2048) (n : ℕ) : EReal := maxAt q k n (ix2 r 0)

theorem rowMax_zero (r : Fin 2048) : rowMax q k r 0 = ⊥ := neg_inf

theorem rowMax_succ (r : Fin 2048) (n : ℕ) :
    rowMax q k r (n + 1) = max (rowMax q k r n) (Finset.univ.fold max ⊥ fun j => score q k r (key n j)) := by
  simp only [rowMax, maxAt, ← scores_apply, ← neg_inf]
  generalize chunk k (Fin.ofNat 16 n) = y
  generalize maxAt q k n = z
  pointwise [maxNext]

theorem rowMax_le_succ (r : Fin 2048) (n : ℕ) : rowMax q k r n ≤ rowMax q k r (n + 1) := by
  rw [rowMax_succ]; exact le_max_left _ _

theorem score_le_rowMax (r : Fin 2048) (n : ℕ) (j : Fin 256) : score q k r (key n j) ≤ rowMax q k r (n + 1) := by
  rw [rowMax_succ]
  exact le_max_of_le_right ((Finset.le_fold_max _).2 (Or.inr ⟨j, Finset.mem_univ _, le_rfl⟩))

theorem rowMax_le (r : Fin 2048) (x : EReal) (h : ∀ j, score q k r j ≤ x) (n : ℕ) : rowMax q k r n ≤ x := by
  induction n with
  | zero => rw [rowMax_zero]; exact bot_le
  | succ n ih => rw [rowMax_succ]; exact max_le ih ((Finset.fold_max_le _).2 ⟨bot_le, fun j _ => h _⟩)

/-- Every key is in one of the sixteen chunks. -/
theorem key_surj (j : Fin 4096) : key (j / 256) ⟨j % 256, Nat.mod_lt _ (by norm_num)⟩ = j := by
  apply Fin.ext
  show 256 * (j.val / 256 % 16) + j.val % 256 = j.val
  have := j.isLt
  omega

theorem score_le_last (r : Fin 2048) (j : Fin 4096) : score q k r j ≤ rowMax q k r 16 := by
  rw [← key_surj j]
  refine (score_le_rowMax q k r _ _).trans ?_
  refine monotone_nat_of_le_succ (rowMax_le_succ q k r) ?_
  have := j.isLt
  omega

theorem weightsAt_apply (r : Fin 2048) (n : ℕ) (j : Fin 256) :
    weightsAt q k n (ix2 r j) = Ideal.exp2 (score q k r (key n j) - rowMax q k r (n + 1)) := by
  simp only [weightsAt, ← scores_apply, rowMax]
  generalize chunk k (Fin.ofNat 16 n) = y
  generalize maxAt q k (n + 1) = z
  pointwise [weights]
  rfl

theorem rescale_apply (r : Fin 2048) (n : ℕ) (d : Fin 128) :
    rescale (maxAt q k n) (maxAt q k (n + 1)) (ix2 r d) = Ideal.exp2 (rowMax q k r n - rowMax q k r (n + 1)) := by
  simp only [rowMax]
  generalize maxAt q k (n + 1) = z
  generalize maxAt q k n = y
  pointwise [rescale]
  rfl

/-- Lane `l` of a chunk takes the chunk's keys `l` and `128 + l`. -/
def lane (l : Fin 128) (u : Fin 2) : Fin 256 := ⟨128 * u + l, by omega⟩

theorem lanesAt_succ (r : Fin 2048) (l : Fin 128) (n : ℕ) :
    lanesAt q k (n + 1) (ix2 r l) = Ideal.exp2 (rowMax q k r n - rowMax q k r (n + 1)) * lanesAt q k n (ix2 r l)
      + ∑ u : Fin 2, Ideal.exp2 (score q k r (key n (lane l u)) - rowMax q k r (n + 1)) * ((1 : ℝ) : EReal) := by
  simp only [← weightsAt_apply, ← rescale_apply q k r n l, lanesAt, Fin.sum_univ_two, EReal.coe_one, mul_one]
  generalize weightsAt q k n = p
  generalize rescale (maxAt q k n) (maxAt q k (n + 1)) = al
  generalize lanesAt q k n = y
  pointwise [lanesNext]
  simp [lane]

theorem accAt_succ (hv : ∀ i, ((v i).toReal : EReal) = v i) (r : Fin 2048) (d : Fin 128) (n : ℕ) :
    accAt q k v (n + 1) (ix2 r d) = Ideal.exp2 (rowMax q k r n - rowMax q k r (n + 1)) * accAt q k v n (ix2 r d)
      + ∑ j : Fin 256, Ideal.exp2 (score q k r (key n j) - rowMax q k r (n + 1)) * ((v (ix2 (key n j) d)).toReal : EReal) := by
  simp only [← weightsAt_apply, ← rescale_apply q k r n d, accAt]
  generalize weightsAt q k n = p
  generalize rescale (maxAt q k n) (maxAt q k (n + 1)) = al
  generalize accAt q k v n = y
  pointwise [accNext]
  refine congrArg _ (Finset.sum_congr rfl fun x _ => ?_)
  rw [chunk_apply, hv]

/-- A sum over the sixteen chunks and their keys is a sum over all the keys. -/
theorem sum_keys {M : Type} [AddCommMonoid M] (f : Fin 4096 → M) :
    ∑ c ∈ Finset.range 16, ∑ j : Fin 256, f (key c j) = ∑ j, f j := by
  rw [Finset.sum_range (fun c => ∑ j : Fin 256, f (key c j)), ← Fintype.sum_prod_type' (f := fun (c : Fin 16) j => f (key c j))]
  refine Fintype.sum_equiv (finProdFinEquiv (m := 16) (n := 256)) _ _ fun ⟨c, j⟩ => congrArg f (Fin.ext ?_)
  show 256 * (c.val % 16) + j.val = j.val + 256 * c.val
  have := c.isLt
  omega

/-- A sum over the lanes and the two keys each takes is a sum over a chunk's keys. -/
theorem sum_lanes {M : Type} [AddCommMonoid M] (f : Fin 256 → M) :
    ∑ l : Fin 128, ∑ u : Fin 2, f (lane l u) = ∑ j, f j := by
  rw [Finset.sum_comm, ← Fintype.sum_prod_type' (f := fun (u : Fin 2) l => f (lane l u))]
  refine Fintype.sum_equiv (finProdFinEquiv (m := 2) (n := 128)) _ _ fun ⟨u, l⟩ => congrArg f (Fin.ext ?_)
  show 128 * u.val + l.val = l.val + 128 * u.val
  omega

/-- The weight of key `j` in row `r` of the stacked queries. -/
def weight (r : Fin 2048) (j : Fin 4096) : ℝ := wt (score q k r j) (rowMax q k r 16)

/-- The sixteenth state's weighted sums are those over all the keys. -/
theorem accAt_last (hv : ∀ i, ((v i).toReal : EReal) = v i) (r : Fin 2048) (d : Fin 128) :
    accAt q k v 16 (ix2 r d) = ((∑ j, weight q k r j * (v (ix2 j d)).toReal : ℝ) : EReal) := by
  rw [running (fun n j => score q k r (key n j)) (fun n j => (v (ix2 (key n j) d)).toReal) (rowMax q k r)
    (fun n => accAt q k v n (ix2 r d)) (rowMax_le_succ q k r) (score_le_rowMax q k r) Ideal.ofBits_zero_f32
    (accAt_succ q k v hv r d) 16]
  exact congrArg _ (sum_keys fun j => weight q k r j * (v (ix2 j d)).toReal)

/-- The sixteenth state's lanes sum to the sum of all the weights. -/
theorem lanesAt_last (r : Fin 2048) : ∑ l : Fin 128, lanesAt q k 16 (ix2 r l) = ((∑ j, weight q k r j : ℝ) : EReal) := by
  have h (l : Fin 128) := running (fun n u => score q k r (key n (lane l u))) (fun _ _ => 1) (rowMax q k r)
    (fun n => lanesAt q k n (ix2 r l)) (rowMax_le_succ q k r) (fun n u => score_le_rowMax q k r n (lane l u)) Ideal.ofBits_zero_f32
    (lanesAt_succ q k r l) 16
  rw [Finset.sum_congr rfl fun l _ => h l, ← coe_sum, Finset.sum_comm]
  simp only [mul_one]
  rw [Finset.sum_congr rfl fun c _ => sum_lanes fun j => wt (score q k r (key c j)) (rowMax q k r 16)]
  exact congrArg _ (sum_keys fun j => weight q k r j)

/-- Both maps' attention at a row. -/
theorem attnMaps_apply (hv : ∀ i, ((v i).toReal : EReal) = v i) (r : Fin 2048) (d : Fin 128) :
    attnMaps (accAt q k v 16) (lanesAt q k 16) (ix2 r d)
      = Ideal.div ((∑ j, weight q k r j * (v (ix2 j d)).toReal : ℝ) : EReal) ((∑ j, weight q k r j : ℝ) : EReal) := by
  rw [← accAt_last q k v hv, ← lanesAt_last]
  generalize accAt q k v 16 = a
  generalize lanesAt q k 16 = l
  pointwise [attnMaps]

end loop

end Cert.KernelIdeal.Attn

end
-- ==== Proof.AttnSpec.lean ====
/-
  What the attention is, index by index, of whole arrays: the meeting point of the kernel and the reference.
-/
module

public import proofs.«01_k».proof.Proof.AttnMath
public import Idealize.ShloMosaic.Lib.Pointwise

@[expose] public section

noncomputable section

namespace Cert.AttnSpec

open Idealize.ShloMosaic Cert.AttnMath
open scoped BigOperators

/-- Lane `x` of map `u` among a head's 128 lanes. -/
def half (u : Fin 2) (x : Fin 64) : Fin 128 := ⟨64 * u + x, by omega⟩

/-- Lambda, from its four vectors. -/
def lambdaOf (lv : (⟨2, ![4, 64]⟩ : Shape).Idx → EReal) : EReal :=
  Ideal.exp (∑ x : Fin 64, lv (ix2 0 x) * lv (ix2 1 x)) - Ideal.exp (∑ x : Fin 64, lv (ix2 2 x) * lv (ix2 3 x))
    + Ideal.ofBits .f32 1045220557#32

/-- The unnormalized weights of a row of scores. -/
def soft {K : Type} (s : K → EReal) (j : K) : ℝ := wt (s j) (⨆ j, s j)

theorem soft_nonneg {K : Type} (s : K → EReal) (j : K) : 0 ≤ soft s j := wt_nonneg (le_iSup s j)

/-- The difference of two maps' attention over the keys, normalized by its root mean square. -/
def attend {K D : Type} [Fintype K] [Fintype D] (s : Fin 2 → K → EReal) (v : K → D → EReal) (lam : EReal) (d : D) : EReal :=
  rms (Ideal.ofBits .f32 1124073472#32) (Ideal.ofBits .f32 897988541#32)
    (fun d => ∑ j, (Ideal.div (soft (s 0) j : EReal) ((∑ j, soft (s 0) j : ℝ) : EReal)
      - lam * Ideal.div (soft (s 1) j : EReal) ((∑ j, soft (s 1) j : ℝ) : EReal)) * v j d) d

/-- The row of key `j` of the sequence that row `y` belongs to. -/
def keyRow (y : Fin 16384) (j : Fin 4096) : Fin 16384 := ⟨y.val / 4096 * 4096 + j, by omega⟩

/-- The head that column `z` of the result belongs to, and the column's place in it. -/
def head (z : Fin 512) : Fin 4 := ⟨z.val / 128, by omega⟩
def place (z : Fin 512) : Fin 128 := ⟨z.val % 128, by omega⟩

/-- Column `x` of head `h`'s queries, keys and values. -/
def qCol (h : Fin 4) (x : Fin 128) : Fin 1024 := ⟨h.val * 128 + x, by omega⟩
def kCol (h : Fin 4) (x : Fin 128) : Fin 1024 := ⟨(4 + h.val) * 128 + x, by omega⟩
def vCol (h : Fin 4) (x : Fin 128) : Fin 5120 := ⟨(8 + h.val) * 128 + x, by omega⟩

/-- The attention of the arrays at row `y`, column `z`. -/
def attnAt (qk : (⟨2, ![16384, 1024]⟩ : Shape).Idx → EReal) (proj : (⟨2, ![16384, 5120]⟩ : Shape).Idx → EReal)
    (lv : (⟨2, ![4, 64]⟩ : Shape).Idx → EReal) (g : (⟨2, ![1, 128]⟩ : Shape).Idx → EReal) (y : Fin 16384) (z : Fin 512) : EReal :=
  attend (fun u j => ∑ x : Fin 64, qk (ix2 y (qCol (head z) (half u x))) * qk (ix2 (keyRow y j) (kCol (head z) (half u x))))
      (fun j d => proj (ix2 (keyRow y j) (vCol (head z) d))) (lambdaOf lv) (place z)
    * g (ix2 0 (place z)) * Ideal.ofBits .f32 1061997773#32

theorem cnt_eq : Ideal.ofBits .f32 1124073472#32 = ((128 : ℝ) : EReal) := by
  simp [Ideal.ofBits, Ideal.ieee, -EReal.coe_mul]; norm_num

theorem eps_real : ∃ e : ℝ, Ideal.ofBits .f32 897988541#32 = (e : EReal) := by
  simp [Ideal.ofBits, Ideal.ieee, -EReal.coe_mul]

theorem init_real : ∃ e : ℝ, Ideal.ofBits .f32 1045220557#32 = (e : EReal) := by
  simp [Ideal.ofBits, Ideal.ieee, -EReal.coe_mul]

theorem log_two : Ideal.log (Ideal.ofBits .f32 1073741824#32) = ((Real.log 2 : ℝ) : EReal) := by
  have h : Ideal.ofBits .f32 1073741824#32 = ((2 : ℝ) : EReal) := by
    simp [Ideal.ofBits, Ideal.ieee, -EReal.coe_mul]; norm_num
  rw [h]
  show (if (2 : ℝ) ≤ 0 then (⊥ : EReal) else ((Real.log 2 : ℝ) : EReal)) = _
  rw [if_neg (by norm_num)]

/-- Lambda of finite vectors is finite. -/
theorem lambda_real (lv : (⟨2, ![4, 64]⟩ : Shape).Idx → EReal) (h : ∀ i, ((lv i).toReal : EReal) = lv i) :
    ((lambdaOf lv).toReal : EReal) = lambdaOf lv := by
  have hs (a b : Fin 4) : ∑ x : Fin 64, lv (ix2 a x) * lv (ix2 b x)
      = ((∑ x : Fin 64, (lv (ix2 a x)).toReal * (lv (ix2 b x)).toReal : ℝ) : EReal) := by
    rw [coe_sum]
    exact Finset.sum_congr rfl fun x _ => by rw [EReal.coe_mul, h, h]
  obtain ⟨e, he⟩ := init_real
  have hr : ∃ r : ℝ, lambdaOf lv = (r : EReal) := by
    unfold lambdaOf
    rw [hs, hs, he]
    exact ⟨_, rfl⟩
  obtain ⟨r, hr⟩ := hr
  rw [hr, EReal.toReal_coe]

end Cert.AttnSpec

end
-- ==== Proof.AttnBlock.lean ====
/-
  The attention kernel's output block at an index: the two maps' attention over all the keys, their difference normalized.
  The queries are stacked with the other map's lanes masked, so that a score over the 128 lanes is one over the map's 64.
-/
module

public import proofs.«01_k».proof.Proof.AttnRow
public import proofs.«01_k».proof.Proof.AttnSpec

@[expose] public section

set_option maxRecDepth 65536

noncomputable section

namespace Cert.KernelIdeal.Attn

open Cert.KernelIdeal Cert.KernelIdeal.Gen Idealize.ShloMosaic Idealize.ShloMosaic.TcCoe Idealize.SL.Sem
open Cert.AttnMath Cert.AttnSpec
open scoped BigOperators

/-- Row `r` of map `u` among the stacked queries. -/
def stacked (u : Fin 2) (r : Fin 1024) : Fin 2048 := ⟨1024 * u + r, by omega⟩

theorem lane_lt (n : ℕ) (hn : n < 128) : IntOp.cmpi .slt (BitVec.ofNat 32 n) 64#32 = if n < 64 then 1#1 else 0#1 := by
  decide +revert

theorem masked_split (q : Vec Ideal S1024x128 .bf16) (R : Fin 2048) (x : Fin 128) :
    k0_pay2 q (ix2 R x) = if h : R.val < 1024
      then Scalar.select (IntOp.cmpi .slt (BitVec.ofNat 32 x.val) 64#32) (q (ix2 ⟨R.val, h⟩ x)) 0
      else Scalar.select (IntOp.cmpi .slt (BitVec.ofNat 32 x.val) 64#32) 0 (q (ix2 ⟨R.val - 1024, by omega⟩ x)) := by
  pointwise [k0_pay2]

/-- A stacked row keeps its map's lanes of the query and is zero in the others. -/
theorem masked_apply (q : Vec Ideal S1024x128 .bf16) (u : Fin 2) (r : Fin 1024) (x : Fin 128) :
    k0_pay2 q (ix2 (stacked u r) x) = if (x.val < 64 ↔ u = 0) then q (ix2 r x) else 0 := by
  rw [masked_split, lane_lt _ x.isLt]
  match u with
  | 0 =>
    have e : (stacked 0 r).val = r.val := by simp [stacked]
    rw [dif_pos (by omega)]
    have e' : (⟨(stacked 0 r).val, by omega⟩ : Fin 1024) = r := Fin.ext e
    rw [e']
    by_cases hx : x.val < 64 <;> simp [hx, Scalar.select]
  | 1 =>
    have e : (stacked 1 r).val = 1024 + r.val := by simp [stacked]
    rw [dif_neg (by omega)]
    have e' : (⟨(stacked 1 r).val - 1024, by omega⟩ : Fin 1024) = r := Fin.ext (by show (stacked 1 r).val - 1024 = r.val; omega)
    rw [e']
    by_cases hx : x.val < 64 <;> simp [hx, Scalar.select]

/-- The score of a stacked row is the score of its map. -/
theorem score_stacked (q : Vec Ideal S1024x128 .bf16) (k : Vec Ideal S4096x128 .bf16) (u : Fin 2) (r : Fin 1024) (j : Fin 4096) :
    score (k0_pay2 q) k (stacked u r) j = ∑ x : Fin 64, q (ix2 r (half u x)) * k (ix2 j (half u x)) := by
  unfold score
  simp only [masked_apply]
  rw [Fin.sum_univ_two_halves 64 64 rfl]
  match u with
  | 0 => simp [half]
  | 1 => simp [half]

theorem lambda_apply (lv : Vec Ideal S4x64 .f32) : k0_pay3 lv (ix2 0 0) = lambdaOf lv := by
  unfold lambdaOf
  pointwise [k0_pay3]

/-- What follows the two maps' attention, at an index. -/
theorem combine_apply (lam : FVec Ideal S1x1 .f32) (a : FVec Ideal S2048x128 .f32) (g : Vec Ideal S1x128 .f32) (r : Fin 1024)
    (d : Fin 128) :
    k0_pay1 lam a (extractStridedSlice S1024x128 ![0, 0] a slices_S2048x128_o0_0_S1024x128) g (ix2 r d)
      = rms (Ideal.ofBits .f32 1124073472#32) (Ideal.ofBits .f32 897988541#32)
          (fun d => a (ix2 (stacked 0 r) d) - lam (ix2 0 0) * a (ix2 (stacked 1 r) d)) d
        * g (ix2 0 d) * Ideal.ofBits .f32 1061997773#32 := by
  have e0 : stacked 0 r = ⟨r.val, by omega⟩ := Fin.ext (by simp [stacked])
  have e1 : stacked 1 r = ⟨1024 + r.val, by omega⟩ := Fin.ext (by simp [stacked])
  rw [e0, e1]
  unfold rms
  pointwise [k0_pay1]

/-- The running maximum ends as the scores' supremum. -/
theorem rowMax_last (q : FVec Ideal S2048x128 .bf16) (k : Vec Ideal S4096x128 .bf16) (r : Fin 2048) :
    rowMax q k r 16 = ⨆ j, score q k r j :=
  le_antisymm (rowMax_le q k r _ (fun j => le_iSup (score q k r) j) 16) (iSup_le (score_le_last q k r))

theorem weight_stacked (q : Vec Ideal S1024x128 .bf16) (k : Vec Ideal S4096x128 .bf16) (u : Fin 2) (r : Fin 1024) (j : Fin 4096) :
    weight (k0_pay2 q) k (stacked u r) j = soft (fun j => ∑ x : Fin 64, q (ix2 r (half u x)) * k (ix2 j (half u x))) j := by
  unfold weight soft
  simp only [rowMax_last, score_stacked]

/-- The output block at an index is the difference of the two maps' attention, normalized. -/
theorem block_apply (q : Vec Ideal S1024x128 .bf16) (k v : Vec Ideal S4096x128 .bf16) (lv : Vec Ideal S4x64 .f32)
    (g : Vec Ideal S1x128 .f32) (hv : ∀ i, ((v i).toReal : EReal) = v i) (hl : ((lambdaOf lv).toReal : EReal) = lambdaOf lv)
    (r : Fin 1024) (d : Fin 128) :
    block q k v lv g (ix2 r d)
      = attend (fun u j => ∑ x : Fin 64, q (ix2 r (half u x)) * k (ix2 j (half u x))) (fun j d => v (ix2 j d)) (lambdaOf lv) d
        * g (ix2 0 d) * Ideal.ofBits .f32 1061997773#32 := by
  unfold block
  rw [combine_apply]
  simp only [attnMaps_apply _ _ _ hv, weight_stacked, lambda_apply]
  congr 2
  unfold attend
  obtain ⟨e, he⟩ := eps_real
  rw [cnt_eq, he, ← hl]
  refine (diff_attention _ _ (fun _ => soft_nonneg _ _) (fun _ => soft_nonneg _ _) (fun j d => (v (ix2 j d)).toReal) _
    (by norm_num) d).trans ?_
  simp only [hv]

end Cert.KernelIdeal.Attn

end
-- ==== Proof.AttnArray.lean ====
/-
  The attention kernel's result as a whole array: every grid point writes one block of rows of one head's columns, and the
  sixty-four blocks tile the array.
-/
module

public import proofs.«01_k».proof.Proof.AttnBlock

@[expose] public section

set_option maxRecDepth 65536

noncomputable section

namespace Cert.KernelIdeal.Attn

open Cert.KernelIdeal Cert.KernelIdeal.Gen Idealize.ShloMosaic Idealize.ShloMosaic.TcCoe Idealize.SL.Sem
open Cert.AttnMath Cert.AttnSpec
open scoped BigOperators

/-- The windows' blocks at a point: the sequence is `t / 16`, the head `t / 4 % 4`, the block of rows `t % 4`. -/
theorem idx : ∀ t : Fin cfg0.N,
    win0_0.index t = ![t.val / 16 * 4 + t.val % 4, t.val / 4 % 4] ∧ win0_1.index t = ![t.val / 16, 4 + t.val / 4 % 4]
    ∧ win0_2.index t = ![t.val / 16, 8 + t.val / 4 % 4] ∧ win0_3.index t = ![0, 0] ∧ win0_4.index t = ![0, 0]
    ∧ win0_5.index t = ![t.val / 16 * 4 + t.val % 4, t.val / 4 % 4] :=
  (by decide +kernel : ∀ t : Fin grid0.N,
    win0_0.index t = ![t.val / 16 * 4 + t.val % 4, t.val / 4 % 4] ∧ win0_1.index t = ![t.val / 16, 4 + t.val / 4 % 4]
    ∧ win0_2.index t = ![t.val / 16, 8 + t.val / 4 % 4] ∧ win0_3.index t = ![0, 0] ∧ win0_4.index t = ![0, 0]
    ∧ win0_5.index t = ![t.val / 16 * 4 + t.val % 4, t.val / 4 % 4])

theorem lt_points (t : Fin cfg0.N) : t.val < 64 := t.isLt

/-- The head, the rows of the queries and the rows of the keys of a point. -/
def hd (t : Fin cfg0.N) : Fin 4 := ⟨t.val / 4 % 4, by omega⟩
def qRow (t : Fin cfg0.N) (r : Fin 1024) : Fin 16384 :=
  ⟨(t.val / 16 * 4 + t.val % 4) * 1024 + r, by have := lt_points t; omega⟩
def kRow (t : Fin cfg0.N) (j : Fin 4096) : Fin 16384 := ⟨t.val / 16 * 4096 + j, by have := lt_points t; omega⟩
def outCol (t : Fin cfg0.N) (d : Fin 128) : Fin 512 := ⟨t.val / 4 % 4 * 128 + d, by omega⟩

variable (m : (ℓ : Loc nD τ sig) → Buf (Elt Ideal) ℓ) (c : Dev nD)

theorem q_read (t : Fin cfg0.N) (r : Fin 1024) (x : Fin 128) :
    iblk m c 0 t (ix2 r x) = m ((c : Thread nD τ).loc main_arg0) (ix2 (qRow t r) (qCol (hd t) x)) := by
  blk_ext [iblk, V, idx t, qRow, qCol, hd]

theorem k_read (t : Fin cfg0.N) (j : Fin 4096) (x : Fin 128) :
    iblk m c 1 t (ix2 j x) = m ((c : Thread nD τ).loc main_arg0) (ix2 (kRow t j) (kCol (hd t) x)) := by
  blk_ext [iblk, V, idx t, kRow, kCol, hd]

theorem v_read (t : Fin cfg0.N) (j : Fin 4096) (d : Fin 128) :
    iblk m c 2 t (ix2 j d) = m ((c : Thread nD τ).loc main_arg1) (ix2 (kRow t j) (vCol (hd t) d)) := by
  blk_ext [iblk, V, idx t, kRow, vCol, hd]

theorem lam_read (t : Fin cfg0.N) : iblk m c 3 t = m ((c : Thread nD τ).loc main_arg2) := by
  funext i
  blk_ext [iblk, V, idx t]

theorem gain_read (t : Fin cfg0.N) : iblk m c 4 t = m ((c : Thread nD τ).loc main_arg3) := by
  funext i
  blk_ext [iblk, V, idx t]

theorem out_place (t : Fin cfg0.N) (r : Fin 1024) (d : Fin 128) :
    ((cfg0.win 5).blk t).view.emb (ix2 r d) = ix2 (qRow t r) (outCol t d) := by
  blk_ext [idx t, qRow, outCol]

theorem keyRow_qRow (t : Fin cfg0.N) (r : Fin 1024) (j : Fin 4096) : keyRow (qRow t r) j = kRow t j := by
  apply Fin.ext
  show ((t.val / 16 * 4 + t.val % 4) * 1024 + r.val) / 4096 * 4096 + j.val = t.val / 16 * 4096 + j.val
  omega

theorem head_outCol (t : Fin cfg0.N) (d : Fin 128) : head (outCol t d) = hd t := by
  apply Fin.ext
  show (t.val / 4 % 4 * 128 + d.val) / 128 = t.val / 4 % 4
  omega

theorem place_outCol (t : Fin cfg0.N) (d : Fin 128) : place (outCol t d) = d := by
  apply Fin.ext
  show (t.val / 4 % 4 * 128 + d.val) % 128 = d.val
  omega

/-- The result array is the attention at every index, when the values and lambda's vectors are finite. -/
theorem array_eq
    (hv : ∀ (y : Fin 16384) (h : Fin 4) (d : Fin 128),
      ((m ((c : Thread nD τ).loc main_arg1) (ix2 y (vCol h d))).toReal : EReal) = m ((c : Thread nD τ).loc main_arg1) (ix2 y (vCol h d)))
    (hl : ∀ i, ((m ((c : Thread nD τ).loc main_arg2) i).toReal : EReal) = m ((c : Thread nD τ).loc main_arg2) i) :
    (dats m 0 c).arrAt 5 cfg0.N = fun y => attnAt (m ((c : Thread nD τ).loc main_arg0)) (m ((c : Thread nD τ).loc main_arg1))
      (m ((c : Thread nD τ).loc main_arg2)) (m ((c : Thread nD τ).loc main_arg3)) (y 0) (y 1) := by
  refine (dats m 0 c).arrAt_eq_of_covers 5 _ (by decide +kernel) fun t hf y => ?_
  blk_simp
  rw [after_eq]
  obtain ⟨r, d, rfl⟩ : ∃ (r : Fin 1024) (d : Fin 128), y = ix2 r d := ⟨y 0, y 1, eq_ix2 y⟩
  have hv' : ∀ i, ((iblk m c 2 t i).toReal : EReal) = iblk m c 2 t i := fun i => by
    obtain ⟨j, d, rfl⟩ : ∃ (j : Fin 4096) (d : Fin 128), i = ix2 j d := ⟨i 0, i 1, eq_ix2 i⟩
    rw [v_read]
    exact hv _ _ _
  rw [out_place, block_apply _ _ _ _ _ hv' (lambda_real _ (by rw [lam_read]; exact hl))]
  simp only [q_read, k_read, v_read, lam_read, gain_read]
  show _ = attnAt _ _ _ _ (qRow t r) (outCol t d)
  simp only [attnAt, keyRow_qRow, head_outCol, place_outCol]

end Cert.KernelIdeal.Attn

end
-- ==== Proof.AttnRefProbs.lean ====
/-
  The reference's probabilities at an index: the scores in base `e`, their maximum, the exponentials and the difference of the
  two maps.
-/
module

public import proofs.«01_k».proof.Proof.Gen.ReferenceIdeal.Read
public import proofs.«01_k».proof.Proof.AttnSpec
public import Idealize.ShloMosaic.Lib.Pointwise

@[expose] public section

set_option maxRecDepth 65536

noncomputable section

namespace Cert.ReferenceIdeal.Attn

open Cert.ReferenceIdeal Cert.ReferenceIdeal.Gen Cert.ReferenceIdeal.Read Idealize.ShloMosaic Idealize.ShloMosaic.TcCoe Idealize.SL.Sem
open Cert.AttnMath Cert.AttnSpec
open scoped BigOperators

variable (x0 : (⟨S16384x1024, .bf16⟩ : BufTy).Contents (Elt Ideal)) (x1 : (⟨S16384x5120, .bf16⟩ : BufTy).Contents (Elt Ideal))
  (x2 : (⟨S4x64, .f32⟩ : BufTy).Contents (Elt Ideal)) (x3 : (⟨S1x128, .f32⟩ : BufTy).Contents (Elt Ideal))

/-- Row `i` of sequence `b`. -/
def row (b : Fin 4) (i : Fin 4096) : Fin 16384 := ⟨b.val * 4096 + i, by omega⟩

/-- The score of key `k` for query `i` of map `u` of head `h` in sequence `b`. -/
def score (b h : Fin 4) (u : Fin 2) (i k : Fin 4096) : EReal :=
  ∑ x : Fin 64, x0 (ix2 (row b i) (qCol h (half u x))) * x0 (ix2 (row b k) (kCol h (half u x)))

theorem scores_apply (b h : Fin 4) (u : Fin 2) (i k : Fin 4096) :
    val_main_v31 (F := Ideal) x0 (ix5 b h u i k) = score x0 b h u i k * ((Real.log 2 : ℝ) : EReal) := by
  have e : val_main_v31 (F := Ideal) x0 (ix5 b h u i k)
      = (∑ x : Fin 64, x0 (ix2 ⟨b.val * 4096 + i.val, by omega⟩ ⟨h.val * 128 + u.val * 64 + x.val, by omega⟩)
          * x0 (ix2 ⟨b.val * 4096 + k.val, by omega⟩ ⟨512 + (h.val * 128 + u.val * 64 + x.val), by omega⟩))
        * id (Host.log (constant (F := Ideal) S_ .f32 1073741824#32)) ix0 := by
    pointwise [val_main_v31, val_main_v30, val_main_v29, val_main_v28, val_main_cst_2, val_main_v27, val_main_v6, val_main_v5,
      val_main_v4, val_main_v3, val_main_v2, val_main_v1, val_main_v0]
  rw [e]
  have hl : id (Host.log (constant (F := Ideal) S_ .f32 1073741824#32)) ix0 = ((Real.log 2 : ℝ) : EReal) := log_two
  rw [hl]
  unfold score
  congr 1
  refine Finset.sum_congr rfl fun x _ => ?_
  congr 3
  all_goals
    apply Fin.ext
    simp only [qCol, kCol, half]
    omega

theorem max_apply (b h : Fin 4) (u : Fin 2) (i : Fin 4096) :
    val_main_v32 (F := Ideal) x0 (ix4 b h u i)
      = Finset.fold max (Ideal.ofBits .f32 4286578688#32) (fun k => val_main_v31 (F := Ideal) x0 (ix5 b h u i k)) Finset.univ := by
  unfold val_main_v32
  generalize val_main_v31 (F := Ideal) x0 = y
  pointwise [val_main_cst_3]

theorem exp_apply (b h : Fin 4) (u : Fin 2) (i k : Fin 4096) :
    val_main_v38 (F := Ideal) x0 (ix5 b h u i k)
      = Ideal.exp (val_main_v31 (F := Ideal) x0 (ix5 b h u i k)
          - max (Ideal.ofBits .f32 4286578688#32) (val_main_v32 (F := Ideal) x0 (ix4 b h u i))) := by
  rw [val_main_v38_apply, val_main_v37_apply, val_main_v36_apply, val_main_v35_apply, val_main_v34_apply, val_main_v33_apply,
    val_main_cst_4_apply]
  have e : idx_main_v35 (idx_main_v36 (ix5 b h u i k)) = ix4 b h u i := by
    funext a
    match a with
    | ⟨0, _⟩ => rfl
    | ⟨1, _⟩ => rfl
    | ⟨2, _⟩ => rfl
    | ⟨3, _⟩ => rfl
  rw [e]
  rfl

/-- The exponentials are the weights of the scores. -/
theorem exp_eq (b h : Fin 4) (u : Fin 2) (i k : Fin 4096) :
    val_main_v38 (F := Ideal) x0 (ix5 b h u i k) = (soft (score x0 b h u i) k : EReal) := by
  have hb : Ideal.ofBits .f32 4286578688#32 = ⊥ := by simp [Ideal.ofBits, Ideal.ieee, -EReal.coe_mul]
  rw [exp_apply, max_apply, hb]
  simp only [scores_apply]
  rw [fold_max_mul (score x0 b h u i) (⨆ k, score x0 b h u i k) (le_iSup _) (fun _ => iSup_le) (Real.log_pos (by norm_num))]
  exact exp_eq_wt (le_iSup _ k)

theorem probs_apply (b h : Fin 4) (u : Fin 2) (i k : Fin 4096) :
    val_main_v42 (F := Ideal) x0 (ix5 b h u i k)
      = Ideal.div (soft (score x0 b h u i) k : EReal) ((∑ k, soft (score x0 b h u i) k : ℝ) : EReal) := by
  rw [coe_sum]
  simp only [← exp_eq]
  unfold val_main_v42 val_main_v41 val_main_v40 val_main_v39
  generalize val_main_v38 (F := Ideal) x0 = y
  pointwise [val_main_cst_5]

theorem lambda_apply : val_main_v26 (F := Ideal) x2 ix0 = lambdaOf x2 := by
  unfold lambdaOf
  pointwise [val_main_v26, val_main_v25, val_main_v24, val_main_v23, val_main_v22, val_main_v21, val_main_v20, val_main_v19,
    val_main_v18, val_main_v17, val_main_v16, val_main_v15, val_main_v14, val_main_v13, val_main_v12, val_main_v11,
    val_main_cst_1, val_main_cst_0, val_main_cst]

/-- The difference of the two maps' probabilities. -/
theorem diff_apply (b h : Fin 4) (i k : Fin 4096) :
    val_main_v49 (F := Ideal) x0 x2 (ix4 b h i k)
      = val_main_v42 (F := Ideal) x0 (ix5 b h 0 i k) - lambdaOf x2 * val_main_v42 (F := Ideal) x0 (ix5 b h 1 i k) := by
  rw [val_main_v49_apply, val_main_v48_apply, val_main_v47_apply, val_main_v46_apply, val_main_v45_apply, val_main_v44_apply,
    val_main_v43_apply, ← lambda_apply]
  have e0 : idx_main_v43 (idx_main_v44 (ix4 b h i k)) = ix5 b h 0 i k := by
    funext a
    apply Fin.ext
    match a with
    | ⟨0, _⟩ => show (((b.val * 4 + h.val) * 4096 + i.val) * 4096 + k.val) / 67108864 = b.val; omega
    | ⟨1, _⟩ => show (((b.val * 4 + h.val) * 4096 + i.val) * 4096 + k.val) / 16777216 % 4 = h.val; omega
    | ⟨2, _⟩ => rfl
    | ⟨3, _⟩ => show (((b.val * 4 + h.val) * 4096 + i.val) * 4096 + k.val) / 4096 % 4096 = i.val; omega
    | ⟨4, _⟩ => show (((b.val * 4 + h.val) * 4096 + i.val) * 4096 + k.val) % 4096 = k.val; omega
  have e1 : idx_main_v45 (idx_main_v46 (ix4 b h i k)) = ix5 b h 1 i k := by
    funext a
    apply Fin.ext
    match a with
    | ⟨0, _⟩ => show (((b.val * 4 + h.val) * 4096 + i.val) * 4096 + k.val) / 67108864 = b.val; omega
    | ⟨1, _⟩ => show (((b.val * 4 + h.val) * 4096 + i.val) * 4096 + k.val) / 16777216 % 4 = h.val; omega
    | ⟨2, _⟩ => rfl
    | ⟨3, _⟩ => show (((b.val * 4 + h.val) * 4096 + i.val) * 4096 + k.val) / 4096 % 4096 = i.val; omega
    | ⟨4, _⟩ => show (((b.val * 4 + h.val) * 4096 + i.val) * 4096 + k.val) % 4096 = k.val; omega
  rw [e0, e1, Subsingleton.elim (idx_main_v47 (ix4 b h i k)) ix0]
  rfl

end Cert.ReferenceIdeal.Attn

end
-- ==== Proof.AttnRef.lean ====
/-
  The reference's attention at an index.
-/
module

public import proofs.«01_k».proof.Proof.Gen.ReferenceIdeal.Read
public import proofs.«01_k».proof.Proof.AttnRefProbs
public import Idealize.ShloMosaic.Lib.Pointwise

@[expose] public section

set_option maxRecDepth 65536

noncomputable section

namespace Cert.ReferenceIdeal.Attn

open Cert.ReferenceIdeal Cert.ReferenceIdeal.Gen Cert.ReferenceIdeal.Read Idealize.ShloMosaic Idealize.ShloMosaic.TcCoe Idealize.SL.Sem
open Cert.AttnMath Cert.AttnSpec
open scoped BigOperators

variable (x0 : (⟨S16384x1024, .bf16⟩ : BufTy).Contents (Elt Ideal)) (x1 : (⟨S16384x5120, .bf16⟩ : BufTy).Contents (Elt Ideal))
  (x2 : (⟨S4x64, .f32⟩ : BufTy).Contents (Elt Ideal)) (x3 : (⟨S1x128, .f32⟩ : BufTy).Contents (Elt Ideal))

/-- The attention before its normalization. -/
theorem out_apply (b h : Fin 4) (i : Fin 4096) (d : Fin 128) :
    val_main_v50 (F := Ideal) x0 x1 x2 (ix4 b h i d)
      = ∑ k : Fin 4096, val_main_v49 (F := Ideal) x0 x2 (ix4 b h i k) * x1 (ix2 (row b k) (vCol h d)) := by
  have e : val_main_v50 (F := Ideal) x0 x1 x2 (ix4 b h i d)
      = ∑ k : Fin 4096, val_main_v49 (F := Ideal) x0 x2 (ix4 b h i k)
          * x1 (ix2 ⟨b.val * 4096 + k.val, by omega⟩ ⟨1024 + (h.val * 128 + d.val), by omega⟩) := by
    pointwise [val_main_v50, val_main_v10, val_main_v9, val_main_v8, val_main_v7]
  rw [e]
  refine Finset.sum_congr rfl fun k _ => ?_
  congr 2
  refine congrArg₂ ix2 (Fin.ext ?_) (Fin.ext ?_)
  · rfl
  · show 1024 + (h.val * 128 + d.val) = (8 + h.val) * 128 + d.val
    omega

/-- A row's sum of squares. -/
theorem squares_apply (b h : Fin 4) (i : Fin 4096) :
    val_main_v52 (F := Ideal) x0 x1 x2 (ix3 b h i)
      = ∑ d : Fin 128, val_main_v50 (F := Ideal) x0 x1 x2 (ix4 b h i d) * val_main_v50 (F := Ideal) x0 x1 x2 (ix4 b h i d) := by
  have e (d : Fin 128) : idx_main_v52 (ix3 b h i) d = ix4 b h i d := by
    funext a
    match a with
    | ⟨0, _⟩ => rfl
    | ⟨1, _⟩ => rfl
    | ⟨2, _⟩ => rfl
    | ⟨3, _⟩ => rfl
  have z : val_main_cst_6 (F := Ideal) (Shape.Idx.first h_S_) = 0 := by
    rw [val_main_cst_6_apply]
    exact Ideal.ofBits_zero_f32
  have t (d : Fin 128) : val_main_v51 (F := Ideal) x0 x1 x2 (ix4 b h i d)
      = val_main_v50 (F := Ideal) x0 x1 x2 (ix4 b h i d) * val_main_v50 (F := Ideal) x0 x1 x2 (ix4 b h i d) := by
    rw [val_main_v51_apply]
    generalize val_main_v50 (F := Ideal) x0 x1 x2 (ix4 b h i d) = y
    rfl
  rw [val_main_v52_apply, z, zero_add]
  exact Finset.sum_congr rfl fun d _ => by rw [e, t]

/-- A row's normalizing factor. -/
theorem factor_apply (b h : Fin 4) (i : Fin 4096) :
    val_main_v58 (F := Ideal) x0 x1 x2 (ix4 b h i 0)
      = Ideal.rsqrt (Ideal.div (val_main_v52 (F := Ideal) x0 x1 x2 (ix3 b h i)) (Ideal.ofBits .f32 1124073472#32)
          + Ideal.ofBits .f32 897988541#32) := by
  have e : idx_main_v53 (ix4 b h i 0) = ix3 b h i := by
    funext a
    match a with
    | ⟨0, _⟩ => rfl
    | ⟨1, _⟩ => rfl
    | ⟨2, _⟩ => rfl
  rw [val_main_v58_apply, val_main_v57_apply, val_main_v56_apply, val_main_v55_apply, val_main_v54_apply, val_main_v53_apply,
    val_main_cst_7_apply, val_main_cst_8_apply, e]
  generalize val_main_v52 (F := Ideal) x0 x1 x2 (ix3 b h i) = y
  rfl

/-- The gain, spread over the array. -/
theorem gain_apply (b h : Fin 4) (i : Fin 4096) (d : Fin 128) : val_main_v63 (F := Ideal) x3 (ix4 b h i d) = x3 (ix2 0 d) := by
  have e : idx_main_v61 (idx_main_v62 (idx_main_v63 (ix4 b h i d))) = ix2 0 d := by
    funext a
    match a with
    | ⟨0, _⟩ => rfl
    | ⟨1, _⟩ => exact Fin.ext (Nat.mod_eq_of_lt d.isLt)
  rw [val_main_v63_apply, val_main_v62_apply, val_main_v61_apply, e]

/-- The normalized attention. -/
theorem norm_apply (b h : Fin 4) (i : Fin 4096) (d : Fin 128) :
    val_main_v66 (F := Ideal) x0 x1 x2 x3 (ix4 b h i d)
      = rms (Ideal.ofBits .f32 1124073472#32) (Ideal.ofBits .f32 897988541#32)
          (fun d => val_main_v50 (F := Ideal) x0 x1 x2 (ix4 b h i d)) d
        * x3 (ix2 0 d) * Ideal.ofBits .f32 1061997773#32 := by
  have e : idx_main_v59 (ix4 b h i d) = ix4 b h i 0 := by
    funext a
    match a with
    | ⟨0, _⟩ => rfl
    | ⟨1, _⟩ => rfl
    | ⟨2, _⟩ => rfl
    | ⟨3, _⟩ => rfl
  rw [val_main_v66_apply, val_main_v65_apply, val_main_v64_apply, gain_apply, val_main_v60_apply, val_main_v59_apply,
    val_main_cst_9_apply, e, factor_apply, squares_apply]
  unfold rms
  generalize val_main_v50 (F := Ideal) x0 x1 x2 = y
  rfl

theorem row_eq (y : Fin 16384) (j : Fin 4096) : row (⟨y.val / 4096, by omega⟩ : Fin 4) j = keyRow y j := rfl

/-- The reference's result at row `y`, column `z`. -/
theorem result_apply (y : Fin 16384) (z : Fin 512) :
    val_main_v69 (F := Ideal) x0 x1 x2 x3 (ix2 y z) = attnAt x0 x1 x2 x3 y z := by
  have e : idx_main_v67 (idx_main_v68 (ix2 y z))
      = ix4 (⟨y.val / 4096, by omega⟩ : Fin 4) (head z) (⟨y.val % 4096, by omega⟩ : Fin 4096) (place z) := by
    funext a
    apply Fin.ext
    match a with
    | ⟨0, _⟩ => show (y.val * 512 + z.val) / 2097152 = y.val / 4096; omega
    | ⟨1, _⟩ => show (y.val * 512 + z.val) / 128 % 4 = z.val / 128; omega
    | ⟨2, _⟩ => show (y.val * 512 + z.val) / 512 % 4096 = y.val % 4096; omega
    | ⟨3, _⟩ => show (y.val * 512 + z.val) % 128 = z.val % 128; omega
  have ey : row (⟨y.val / 4096, by omega⟩ : Fin 4) (⟨y.val % 4096, by omega⟩ : Fin 4096) = y := by
    apply Fin.ext
    show y.val / 4096 * 4096 + y.val % 4096 = y.val
    omega
  rw [val_main_v69_apply, val_main_v68_apply, val_main_v67_apply, e]
  show val_main_v66 (F := Ideal) x0 x1 x2 x3 _ = _
  rw [norm_apply]
  simp only [out_apply, diff_apply, probs_apply]
  unfold attnAt attend score
  rw [ey]
  simp only [row_eq]

end Cert.ReferenceIdeal.Attn

end
-- ==== Proof.ProjSpec.lean ====
/-
  What the input projection is, index by index, of whole arrays.
-/
module

public import proofs.«01_k».proof.Proof.AttnMath
public import Idealize.ShloMosaic.Lib.Pointwise

@[expose] public section

noncomputable section

namespace Cert.ProjSpec

open Idealize.ShloMosaic Cert.AttnMath
open scoped BigOperators

/-- A vector of the model's width divided by its root mean square, times the gain. -/
def normed (x g : Fin 1024 → EReal) (k : Fin 1024) : EReal :=
  rms (Ideal.ofBits .f32 0x44800000#32) (Ideal.ofBits .f32 0x358637BD#32) x k * g k

/-- The sequence that a row of the flattened array belongs to, and the row's place in it. -/
def seqOf (y : Fin 16384) : Fin 4 := ⟨y.val / 4096, by omega⟩
def posOf (y : Fin 16384) : Fin 4096 := ⟨y.val % 4096, by omega⟩

/-- The projection of the normalized row `y` on column `z`. -/
def projAt (x : (⟨3, ![4, 4096, 1024]⟩ : Shape).Idx → EReal) (g : (⟨2, ![1, 1024]⟩ : Shape).Idx → EReal)
    (w : (⟨3, ![1, 1024, 5120]⟩ : Shape).Idx → EReal) (y : Fin 16384) (z : Fin 5120) : EReal :=
  ∑ k : Fin 1024, normed (fun k => x (ix3 (seqOf y) (posOf y) k)) (fun k => g (ix2 0 k)) k * w (ix3 0 k z)

end Cert.ProjSpec

end
-- ==== Proof.ProjBlock.lean ====
/-
  The input projection's block: what a grid point leaves in its output block and in the scratch that keeps the normalized
  rows from one block of columns to the next.
-/
module

public import proofs.«01_k».proof.Proof.Gen.Kernel2Ideal.Frame
public import proofs.«01_k».proof.Proof.ProjSpec
public import Idealize.ShloMosaic.Lib.Pipeline.ValueKit.Held

@[expose] public section

set_option maxRecDepth 65536

noncomputable section

namespace Cert.Kernel2Ideal.Proj

open Cert.Kernel2Ideal Cert.Kernel2Ideal.Gen Idealize.ShloMosaic Idealize.ShloMosaic.TcCoe Idealize.SL.Sem
open Cert.AttnMath Cert.ProjSpec
open scoped BigOperators

/-- The rows that the scratch is given, normalized. -/
theorem rows_apply (x : Vec Ideal S2048x1024 .f32) (g : Vec Ideal S1x1024 .f32) (r : Fin 2048) (k : Fin 1024) :
    k0_pay1 x g (ix2 r k) = normed (fun k => x (ix2 r k)) (fun k => g (ix2 0 k)) k := by
  unfold normed rms
  pointwise [k0_pay1]

theorem kept_apply (x : Vec Ideal S2048x1024 .f32) (g : Vec Ideal S1x1024 .f32) (r : Fin 2048) (k : Fin 1024) :
    k0_pay2 x g (ix2 r k) = normed (fun k => x (ix2 r k)) (fun k => g (ix2 0 k)) k := by
  have e : k0_pay2 x g (ix2 r k) = k0_pay1 x g (ix2 r k) := by
    unfold k0_pay2
    generalize k0_pay1 x g = u
    pointwise []
  rw [e, rows_apply]

/-- A block of the product, from the rows in the scratch. -/
theorem product_apply (u : Vec Ideal S2048x1024 .bf16) (w : Vec Ideal S1024x1280 .bf16) (r : Fin 2048) (d : Fin 1280) :
    k0_pay4 u w (ix2 r d) = ∑ k : Fin 1024, u (ix2 r k) * w (ix2 k d) := by
  pointwise [k0_pay4]

theorem first_eq (x : Vec Ideal S2048x1024 .f32) (g : Vec Ideal S1x1024 .f32) (w : Vec Ideal S1024x1280 .bf16) :
    k0_pay3 x g w = k0_pay4 (k0_pay1 x g) w := rfl

variable (m : (ℓ : Loc nD τ sig) → Buf (Elt Ideal) ℓ) (c : Dev nD)

/-- At a first block of columns: the scratch takes the normalized rows, the output their product. -/
theorem after_first (t : Fin cfg0.N) (h : t.val % 4 = 0) :
    outsAt0 m c t.val t.isLt = (k0_pay3 (iblk m c 0 t) (iblk m c 1 t) (iblk m c 2 t), k0_pay2 (iblk m c 0 t) (iblk m c 1 t)) := by
  rw [outsAt0_A m c t h (by omega)]
  refine Prod.ext ?_ ?_
  · dsimp only
    generalize iblk m c 0 t = x
    generalize iblk m c 1 t = g
    generalize iblk m c 2 t = w
    frame_out
  · dsimp only
    generalize iblk m c 0 t = x
    generalize iblk m c 1 t = g
    generalize iblk m c 2 t = w
    frame_out

/-- At the others: the output takes the product of the rows in the scratch, which stays as it was. -/
theorem after_next (t : Fin cfg0.N) (h : ¬t.val % 4 = 0) :
    outsAt0 m c t.val t.isLt
      = (k0_pay4 (outsAt0 m c (t.val - 1) (Nat.lt_of_le_of_lt (Nat.sub_le _ _) t.isLt)).2 (iblk m c 2 t),
          (outsAt0 m c (t.val - 1) (Nat.lt_of_le_of_lt (Nat.sub_le _ _) t.isLt)).2) := by
  rw [outsAt0_B m c t h (by omega)]
  refine Prod.ext ?_ rfl
  dsimp only
  generalize (outsAt0 m c (t.val - 1) (Nat.lt_of_le_of_lt (Nat.sub_le _ _) t.isLt)).2 = u
  generalize iblk m c 0 t = x
  generalize iblk m c 1 t = g
  generalize iblk m c 2 t = w
  frame_out
  congr 1
  exact Memref.IsWhole.read_unread _ _

end Cert.Kernel2Ideal.Proj

end
-- ==== Proof.ProjArray.lean ====
/-
  The input projection's result as a whole array: the scratch holds the normalized rows through a block of rows' four
  blocks of columns, and the thirty-two blocks tile the array.
-/
module

public import proofs.«01_k».proof.Proof.ProjBlock
public import Idealize.ShloMosaic.Lib.Pipeline.ValueKit

@[expose] public section

set_option maxRecDepth 65536

noncomputable section

namespace Cert.Kernel2Ideal.Proj

open Cert.Kernel2Ideal Cert.Kernel2Ideal.Gen Idealize.ShloMosaic Idealize.ShloMosaic.TcCoe Idealize.SL.Sem
open Cert.AttnMath Cert.ProjSpec
open scoped BigOperators

/-- The windows' blocks at a point: the block of rows is `t / 4`, the block of columns `t % 4`. -/
theorem idx : ∀ t : Fin cfg0.N,
    win0_0.index t = ![t.val / 4, 0] ∧ win0_1.index t = ![0, 0] ∧ win0_2.index t = ![0, t.val % 4]
    ∧ win0_3.index t = ![t.val / 4, t.val % 4] :=
  (by decide +kernel : ∀ t : Fin grid0.N,
    win0_0.index t = ![t.val / 4, 0] ∧ win0_1.index t = ![0, 0] ∧ win0_2.index t = ![0, t.val % 4]
    ∧ win0_3.index t = ![t.val / 4, t.val % 4])

theorem lt_points (t : Fin cfg0.N) : t.val < 32 := t.isLt

/-- The row and the column of the array at a place of a point's block. -/
def rowOf (t : Fin cfg0.N) (r : Fin 2048) : Fin 16384 := ⟨t.val / 4 * 2048 + r, by have := lt_points t; omega⟩
def colOf (t : Fin cfg0.N) (d : Fin 1280) : Fin 5120 := ⟨t.val % 4 * 1280 + d, by omega⟩

variable (m : (ℓ : Loc nD τ sig) → Buf (Elt Ideal) ℓ) (c : Dev nD)

/-- What the host passes to the kernel: the rows of all the sequences one after another, the gain, the weights. -/
theorem x_host (y : Fin 16384) (k : Fin 1024) :
    V m c main_v0 (ix2 y k) = m ((c : Thread nD τ).loc main_arg0) (ix3 (seqOf y) (posOf y) k) := by
  entry_read
  pointwise [seqOf, posOf]

theorem g_host (k : Fin 1024) : V m c main_v2 (ix2 0 k) = m ((c : Thread nD τ).loc main_arg1) (ix2 0 k) := by
  entry_read
  pointwise

theorem w_host (k : Fin 1024) (z : Fin 5120) : V m c main_v4 (ix2 k z) = m ((c : Thread nD τ).loc main_arg2) (ix3 0 k z) := by
  entry_read
  pointwise

theorem x_read (t : Fin cfg0.N) (r : Fin 2048) (k : Fin 1024) :
    iblk m c 0 t (ix2 r k)
      = m ((c : Thread nD τ).loc main_arg0) (ix3 (seqOf (rowOf t r)) (posOf (rowOf t r)) k) := by
  have e : iblk m c 0 t (ix2 r k) = V m c main_v0 (ix2 (rowOf t r) k) := by
    blk_ext [iblk, idx t, rowOf]
  rw [e, x_host]

theorem g_read (t : Fin cfg0.N) (k : Fin 1024) :
    iblk m c 1 t (ix2 0 k) = m ((c : Thread nD τ).loc main_arg1) (ix2 0 k) := by
  have e : iblk m c 1 t (ix2 0 k) = V m c main_v2 (ix2 0 k) := by
    blk_ext [iblk, idx t]
  rw [e, g_host]

theorem w_read (t : Fin cfg0.N) (k : Fin 1024) (d : Fin 1280) :
    iblk m c 2 t (ix2 k d) = m ((c : Thread nD τ).loc main_arg2) (ix3 0 k (colOf t d)) := by
  have e : iblk m c 2 t (ix2 k d) = V m c main_v4 (ix2 k (colOf t d)) := by
    blk_ext [iblk, idx t, colOf]
  rw [e, w_host]

theorem out_place (t : Fin cfg0.N) (r : Fin 2048) (d : Fin 1280) :
    ((cfg0.win 3).blk t).view.emb (ix2 r d) = ix2 (rowOf t r) (colOf t d) := by
  blk_ext [idx t, rowOf, colOf]

/-- The normalized rows of the arrays that a point's block of rows is. -/
def kept (t : Fin cfg0.N) (i : S2048x1024.Idx) : EReal :=
  normed (fun k => m ((c : Thread nD τ).loc main_arg0) (ix3 (seqOf (rowOf t (i 0))) (posOf (rowOf t (i 0))) k))
    (fun k => m ((c : Thread nD τ).loc main_arg1) (ix2 0 k)) (i 1)

theorem kept_first (t : Fin cfg0.N) (h : t.val % 4 = 0) (i : S2048x1024.Idx) : (outsAt0 m c t.val t.isLt).2 i = kept m c t i := by
  obtain ⟨r, k, rfl⟩ : ∃ (r : Fin 2048) (k : Fin 1024), i = ix2 r k := ⟨i 0, i 1, eq_ix2 i⟩
  rw [after_first m c t h]
  refine (kept_apply _ _ r k).trans ?_
  simp only [x_read, g_read]
  rfl

theorem kept_next (t : Fin cfg0.N) (h : ¬t.val % 4 = 0) (i : S2048x1024.Idx) :
    (outsAt0 m c t.val t.isLt).2 i = (outsAt0 m c (t.val - 1) (Nat.lt_of_le_of_lt (Nat.sub_le _ _) t.isLt)).2 i :=
  congrFun (congrArg Prod.snd (after_next m c t h)) i

theorem rowOf_run (t t' : Fin cfg0.N) (h : t.val / 4 = t'.val / 4) (r : Fin 2048) : rowOf t r = rowOf t' r := by
  apply Fin.ext
  show t.val / 4 * 2048 + r.val = t'.val / 4 * 2048 + r.val
  rw [h]

theorem kept_run (t t' : Fin cfg0.N) (h : t.val / 4 = t'.val / 4) (i : S2048x1024.Idx) : kept m c t i = kept m c t' i := by
  obtain ⟨r, k, rfl⟩ : ∃ (r : Fin 2048) (k : Fin 1024), i = ix2 r k := ⟨i 0, i 1, eq_ix2 i⟩
  exact congrArg (fun y => normed (fun k => m ((c : Thread nD τ).loc main_arg0) (ix3 (seqOf y) (posOf y) k))
    (fun k => m ((c : Thread nD τ).loc main_arg1) (ix2 0 k)) k) (rowOf_run t t' h r)

/-- After every point the scratch holds the normalized rows of the point's block of rows. -/
theorem scratch_eq (t : Fin cfg0.N) (i : S2048x1024.Idx) : (outsAt0 m c t.val t.isLt).2 i = kept m c t i := by
  rw [Pipeline.eq_of_write_hold_apply (fun n h => (outsAt0 m c n h).2) 4 (kept m c) (kept_first m c) (kept_next m c) t i]
  refine kept_run m c _ _ ?_ i
  show 4 * (t.val / 4) / 4 = t.val / 4
  omega

/-- Every point's output block, at an index. -/
theorem block_apply (t : Fin cfg0.N) (r : Fin 2048) (d : Fin 1280) :
    (outsAt0 m c t.val t.isLt).1 (ix2 r d) = projAt (m ((c : Thread nD τ).loc main_arg0)) (m ((c : Thread nD τ).loc main_arg1))
      (m ((c : Thread nD τ).loc main_arg2)) (rowOf t r) (colOf t d) := by
  unfold projAt
  by_cases h : t.val % 4 = 0
  · rw [after_first m c t h]
    show k0_pay3 _ _ _ (ix2 r d) = _
    rw [first_eq, product_apply]
    simp only [rows_apply, x_read, g_read, w_read]
  · have hs : ∀ k : Fin 1024, (outsAt0 m c (t.val - 1) (Nat.lt_of_le_of_lt (Nat.sub_le _ _) t.isLt)).2 (ix2 r k)
        = kept m c t (ix2 r k) := fun k => (kept_next m c t h _).symm.trans (scratch_eq m c t _)
    rw [after_next m c t h]
    refine (product_apply _ _ r d).trans ?_
    simp only [hs, w_read]
    rfl

/-- The result array is the projection at every index. -/
theorem array_eq :
    (dats m 0 c).arrAt 3 cfg0.N = fun y => projAt (m ((c : Thread nD τ).loc main_arg0)) (m ((c : Thread nD τ).loc main_arg1))
      (m ((c : Thread nD τ).loc main_arg2)) (y 0) (y 1) := by
  refine (dats m 0 c).arrAt_eq_of_covers 3 _ (by decide +kernel) fun t hf y => ?_
  blk_simp
  rw [after0_3]
  obtain ⟨r, d, rfl⟩ : ∃ (r : Fin 2048) (d : Fin 1280), y = ix2 r d := ⟨y 0, y 1, eq_ix2 y⟩
  rw [out_place]
  exact block_apply m c t r d

end Cert.Kernel2Ideal.Proj

end
-- ==== Proof.ProjRef.lean ====
/-
  The reference's input projection at an index.
-/
module

public import proofs.«01_k».proof.Proof.Gen.Reference2Ideal.Read
public import proofs.«01_k».proof.Proof.ProjSpec

@[expose] public section

set_option maxRecDepth 65536

noncomputable section

namespace Cert.Reference2Ideal.Proj

open Cert.Reference2Ideal Cert.Reference2Ideal.Gen Cert.Reference2Ideal.Read Idealize.ShloMosaic Idealize.ShloMosaic.TcCoe Idealize.SL.Sem
open Cert.AttnMath Cert.ProjSpec
open scoped BigOperators

variable (x0 : (⟨S4x4096x1024, .f32⟩ : BufTy).Contents (Elt Ideal)) (x1 : (⟨S1x1024, .f32⟩ : BufTy).Contents (Elt Ideal))
  (x2 : (⟨S1x1024x5120, .f32⟩ : BufTy).Contents (Elt Ideal))

/-- A row's sum of squares. -/
theorem squares_apply (b : Fin 4) (l : Fin 4096) :
    val_main_v2 (F := Ideal) x0 (ix2 b l) = ∑ k : Fin 1024, x0 (ix3 b l k) * x0 (ix3 b l k) := by
  have e (k : Fin 1024) : idx_main_v2 (ix2 b l) k = ix3 b l k := by
    funext a
    match a with
    | ⟨0, _⟩ => rfl
    | ⟨1, _⟩ => rfl
    | ⟨2, _⟩ => rfl
  have z : val_main_cst (F := Ideal) (Shape.Idx.first h_S_) = 0 := by
    rw [val_main_cst_apply]
    exact Ideal.ofBits_zero_f32
  rw [val_main_v2_apply, z, zero_add]
  exact Finset.sum_congr rfl fun k _ => by rw [e, val_main_v1_apply]; rfl

/-- A row's normalizing factor. -/
theorem factor_apply (b : Fin 4) (l : Fin 4096) :
    val_main_v8 (F := Ideal) x0 (ix3 b l 0)
      = Ideal.rsqrt (Ideal.div (∑ k : Fin 1024, x0 (ix3 b l k) * x0 (ix3 b l k)) (Ideal.ofBits .f32 0x44800000#32)
          + Ideal.ofBits .f32 0x358637BD#32) := by
  have e : idx_main_v3 (ix3 b l 0) = ix2 b l := by
    funext a
    match a with
    | ⟨0, _⟩ => rfl
    | ⟨1, _⟩ => rfl
  rw [val_main_v8_apply, val_main_v7_apply, val_main_v6_apply, val_main_v5_apply, val_main_v4_apply, val_main_v3_apply,
    val_main_cst_0_apply, val_main_cst_1_apply, e, squares_apply]
  generalize ∑ k : Fin 1024, x0 (ix3 b l k) * x0 (ix3 b l k) = y
  rfl

/-- The gain, spread over the array. -/
theorem gain_apply (b : Fin 4) (l : Fin 4096) (k : Fin 1024) : val_main_v12 (F := Ideal) x1 (ix3 b l k) = x1 (ix2 0 k) := by
  have e : idx_main_v0 (idx_main_v11 (idx_main_v12 (ix3 b l k))) = ix2 0 k := by
    funext a
    match a with
    | ⟨0, _⟩ => rfl
    | ⟨1, _⟩ => exact Fin.ext (Nat.mod_eq_of_lt k.isLt)
  rw [val_main_v12_apply, val_main_v11_apply, val_main_v0_apply, e]

/-- The normalized rows. -/
theorem rows_apply (b : Fin 4) (l : Fin 4096) (k : Fin 1024) :
    val_main_v13 (F := Ideal) x0 x1 (ix3 b l k) = normed (fun k => x0 (ix3 b l k)) (fun k => x1 (ix2 0 k)) k := by
  have e : idx_main_v9 (ix3 b l k) = ix3 b l 0 := by
    funext a
    match a with
    | ⟨0, _⟩ => rfl
    | ⟨1, _⟩ => rfl
    | ⟨2, _⟩ => rfl
  rw [val_main_v13_apply, gain_apply, val_main_v10_apply, val_main_v9_apply, e, factor_apply]
  rfl

theorem weight_apply (k : Fin 1024) (z : Fin 5120) : val_main_v14 (F := Ideal) x2 (ix2 k z) = x2 (ix3 0 k z) := by
  have e : idx_main_v14 (ix2 k z) = ix3 0 k z := by
    funext a
    apply Fin.ext
    match a with
    | ⟨0, _⟩ => rfl
    | ⟨1, _⟩ => show (k.val * 5120 + z.val) / 5120 % 1024 = k.val; omega
    | ⟨2, _⟩ => show (k.val * 5120 + z.val) % 5120 = z.val; omega
  rw [val_main_v14_apply, e]

/-- The reference's result at row `y`, column `z`. -/
theorem result_apply (y : Fin 16384) (z : Fin 5120) :
    val_main_v17 (F := Ideal) x0 x1 x2 (ix2 y z) = projAt x0 x1 x2 y z := by
  have e : idx_main_v16 (ix2 y z) = ix3 (seqOf y) (posOf y) z := by
    funext a
    apply Fin.ext
    match a with
    | ⟨0, _⟩ => show (y.val * 5120 + z.val) / 20971520 = y.val / 4096; omega
    | ⟨1, _⟩ => show (y.val * 5120 + z.val) / 5120 % 4096 = y.val % 4096; omega
    | ⟨2, _⟩ => show (y.val * 5120 + z.val) % 5120 = z.val; omega
  have el (b : Fin 4) (l : Fin 4096) (k : Fin 1024) : lidx_main_v15 (ix3 b l z) k = ix3 b l k := by
    funext a
    match a with
    | ⟨0, _⟩ => rfl
    | ⟨1, _⟩ => rfl
    | ⟨2, _⟩ => rfl
  have er (b : Fin 4) (l : Fin 4096) (k : Fin 1024) : ridx_main_v15 (ix3 b l z) k = ix2 k z := by
    funext a
    match a with
    | ⟨0, _⟩ => rfl
    | ⟨1, _⟩ => rfl
  rw [val_main_v17_apply, val_main_v16_apply, e, val_main_v15_apply]
  show (∑ k : Fin 1024, _) = projAt x0 x1 x2 y z
  unfold projAt
  refine Finset.sum_congr rfl fun k _ => ?_
  rw [el, er, rows_apply, weight_apply]

end Cert.Reference2Ideal.Proj

end
-- ==== Proof.MergeSpec.lean ====
/-
  What the merge of the two branches, the normalization after it and the router's probabilities are, one row at a time.
-/
module

public import proofs.«01_k».proof.Proof.ProjSpec

@[expose] public section

noncomputable section

namespace Cert.MergeSpec

open Idealize.ShloMosaic Cert.AttnMath Cert.ProjSpec
open scoped BigOperators

/-- The two branches, each projected and weighed by its gate. -/
def blend (at_ hy : Fin 512 → EReal) (ga gh : Fin 1024 → EReal) (wa wh : Fin 512 → Fin 1024 → EReal) (e : Fin 1024) : EReal :=
  Ideal.logistic (ga e) * (∑ k : Fin 512, at_ k * wa k e) + Ideal.logistic (gh e) * (∑ k : Fin 512, hy k * wh k e)

/-- The row with the blend's projection added. -/
def added (x b : Fin 1024 → EReal) (wo : Fin 1024 → Fin 1024 → EReal) (d : Fin 1024) : EReal :=
  x d + ∑ e : Fin 1024, b e * wo e d

/-- `-∞`, as the program writes it. -/
def low : EReal := Ideal.ofBits .f32 0xFF800000#32

/-- The router's logits in sixteen lanes of a hundred and twenty-eight, `-∞` in the others. -/
def lanes (u : Fin 1024 → EReal) (wr : Fin 1024 → Fin 16 → EReal) (j : Fin 128) : EReal :=
  if h : j.val < 16 then ∑ k : Fin 1024, u k * wr k ⟨j.val, h⟩ else low

/-- The largest of a row of lanes. -/
def top (s : Fin 128 → EReal) : EReal := Finset.fold max low s Finset.univ

/-- A lane's share of the exponentials. -/
def share (s : Fin 128 → EReal) (j : Fin 128) : EReal :=
  Ideal.div (Ideal.exp (s j - top s)) (∑ i : Fin 128, Ideal.exp (s i - top s))

section Arrays

variable (at_ hy : (⟨2, ![16384, 512]⟩ : Shape).Idx → EReal) (pr : (⟨2, ![16384, 5120]⟩ : Shape).Idx → EReal)
  (x : (⟨3, ![4, 4096, 1024]⟩ : Shape).Idx → EReal) (wa wh : (⟨3, ![1, 512, 1024]⟩ : Shape).Idx → EReal)
  (wo : (⟨3, ![1, 1024, 1024]⟩ : Shape).Idx → EReal) (g : (⟨2, ![1, 1024]⟩ : Shape).Idx → EReal)
  (wr : (⟨3, ![1, 1024, 16]⟩ : Shape).Idx → EReal)

/-- The blend of row `y`: its gates are the last two thousand and forty-eight columns of the input projection. -/
def blendAt (y : Fin 16384) : Fin 1024 → EReal :=
  blend (fun k => at_ (ix2 y k)) (fun k => hy (ix2 y k)) (fun e => pr (ix2 y ⟨3072 + e.val, by omega⟩))
    (fun e => pr (ix2 y ⟨4096 + e.val, by omega⟩)) (fun k e => wa (ix3 0 k e)) (fun k e => wh (ix3 0 k e))

/-- The merged row `y`. -/
def addedAt (y : Fin 16384) : Fin 1024 → EReal :=
  added (fun d => x (ix3 (seqOf y) (posOf y) d)) (blendAt at_ hy pr wa wh y) (fun e d => wo (ix3 0 e d))

/-- The merged row normalized. -/
def normedAt (y : Fin 16384) : Fin 1024 → EReal :=
  normed (addedAt at_ hy pr x wa wh wo y) (fun k => g (ix2 0 k))

/-- The router's probabilities of row `y`. -/
def shareAt (y : Fin 16384) : Fin 128 → EReal :=
  share (lanes (normedAt at_ hy pr x wa wh wo g y) (fun k j => wr (ix3 0 k j)))

end Arrays

end Cert.MergeSpec

end
-- ==== Proof.MergeBlock.lean ====
/-
  The merge's block: what a grid point leaves in its three output blocks, which it computes in two halves of its rows.
-/
module

public import proofs.«01_k».proof.Proof.Gen.Kernel3Ideal.Frame
public import proofs.«01_k».proof.Proof.MergeSpec
public import Idealize.ShloMosaic.Lib.Pipeline.ValueKit

@[expose] public section

set_option maxRecDepth 65536

noncomputable section

namespace Cert.Kernel3Ideal.Merge

open Cert.Kernel3Ideal Cert.Kernel3Ideal.Gen Idealize.ShloMosaic Idealize.ShloMosaic.TcCoe Idealize.SL.Sem
open Cert.AttnMath Cert.ProjSpec Cert.MergeSpec
open scoped BigOperators

/-- Half a block's rows after the merge. -/
theorem added_apply (ga gh : Vec Ideal S512x1024 .bf16) (at_ : Vec Ideal S512x512 .bf16) (wa : Vec Ideal S512x1024 .bf16)
    (hy : Vec Ideal S512x512 .bf16) (wh : Vec Ideal S512x1024 .bf16) (x : Vec Ideal S512x1024 .f32)
    (wo : Vec Ideal S1024x1024 .bf16) (r : Fin 512) (d : Fin 1024) :
    k0_pay2 ga gh at_ wa hy wh x wo (ix2 r d)
      = added (fun d => x (ix2 r d))
          (blend (fun k => at_ (ix2 r k)) (fun k => hy (ix2 r k)) (fun e => ga (ix2 r e)) (fun e => gh (ix2 r e))
            (fun k e => wa (ix2 k e)) (fun k e => wh (ix2 k e)))
          (fun e d => wo (ix2 e d)) d := by
  unfold added blend
  pointwise [k0_pay2]

/-- The merged rows normalized. -/
theorem normed_apply (ga gh : Vec Ideal S512x1024 .bf16) (at_ : Vec Ideal S512x512 .bf16) (wa : Vec Ideal S512x1024 .bf16)
    (hy : Vec Ideal S512x512 .bf16) (wh : Vec Ideal S512x1024 .bf16) (x : Vec Ideal S512x1024 .f32)
    (wo : Vec Ideal S1024x1024 .bf16) (g : Vec Ideal S1x1024 .f32) (r : Fin 512) (k : Fin 1024) :
    k0_pay4 (k0_pay2 ga gh at_ wa hy wh x wo) (k0_pay3 ga gh at_ wa hy wh x wo) g (ix2 r k)
      = normed (fun k => k0_pay2 ga gh at_ wa hy wh x wo (ix2 r k)) (fun k => g (ix2 0 k)) k := by
  unfold k0_pay3
  generalize k0_pay2 ga gh at_ wa hy wh x wo = y
  unfold normed rms
  pointwise [k0_pay4]

/-- The comparison of a lane's number with sixteen. -/
theorem lane_small : ∀ j : Fin 128, IntOp.cmpi .slt (BitVec.ofNat 32 j.val) 16#32 = if j.val < 16 then 1#1 else 0#1 := by
  decide +kernel

theorem lane_select (j : Fin 128) (a b : EReal) :
    Scalar.select (IntOp.cmpi .slt (BitVec.ofNat 32 j.val) 16#32) a b = if j.val < 16 then a else b := by
  rw [lane_small]
  split
  · rfl
  · rfl

/-- The router's probabilities, from the normalized rows. -/
theorem share_apply (y f : Vec Ideal S512x1024 .f32) (g : Vec Ideal S1x1024 .f32) (wr : Vec Ideal S1024x128 .bf16)
    (r : Fin 512) (j : Fin 128) :
    k0_pay5 y f g wr (ix2 r j)
      = share (fun j => if j.val < 16 then ∑ k : Fin 1024, k0_pay4 y f g (ix2 r k) * wr (ix2 k j) else low) j := by
  have e : k0_pay5 y f g wr (ix2 r j)
      = share (fun j => Scalar.select (IntOp.cmpi .slt (BitVec.ofNat 32 j.val) 16#32)
          (∑ k : Fin 1024, k0_pay4 y f g (ix2 r k) * wr (ix2 k j)) low) j := by
    unfold share top low k0_pay5
    generalize k0_pay4 y f g = u
    pointwise []
  simp only [e, lane_select]

/-! The second half is computed as the first. -/

theorem added_second (ga gh : Vec Ideal S512x1024 .bf16) (at_ : Vec Ideal S512x512 .bf16) (wa : Vec Ideal S512x1024 .bf16)
    (hy : Vec Ideal S512x512 .bf16) (wh : Vec Ideal S512x1024 .bf16) (x : Vec Ideal S512x1024 .f32)
    (wo : Vec Ideal S1024x1024 .bf16) :
    k0_pay8 (k0_pay6 gh) (k0_pay7 ga at_ wa) hy wh x wo = k0_pay2 ga gh at_ wa hy wh x wo := rfl

theorem normed_second (ga gh : Vec Ideal S512x1024 .bf16) (at_ : Vec Ideal S512x512 .bf16) (wa : Vec Ideal S512x1024 .bf16)
    (hy : Vec Ideal S512x512 .bf16) (wh : Vec Ideal S512x1024 .bf16) (x : Vec Ideal S512x1024 .f32)
    (wo : Vec Ideal S1024x1024 .bf16) (g : Vec Ideal S1x1024 .f32) :
    k0_pay9 (k0_pay6 gh) (k0_pay7 ga at_ wa) hy wh x wo g
      = k0_pay4 (k0_pay2 ga gh at_ wa hy wh x wo) (k0_pay3 ga gh at_ wa hy wh x wo) g := rfl

theorem share_second (ga gh : Vec Ideal S512x1024 .bf16) (at_ : Vec Ideal S512x512 .bf16) (wa : Vec Ideal S512x1024 .bf16)
    (hy : Vec Ideal S512x512 .bf16) (wh : Vec Ideal S512x1024 .bf16) (x : Vec Ideal S512x1024 .f32)
    (wo : Vec Ideal S1024x1024 .bf16) (g : Vec Ideal S1x1024 .f32) (wr : Vec Ideal S1024x128 .bf16) :
    k0_pay1 (k0_pay10 (k0_pay6 gh) (k0_pay7 ga at_ wa) hy wh x wo g wr) (iota .tc S512x128 32 [1] iota_S512x128_d1_w32) k0_pay11
      = k0_pay5 (k0_pay2 ga gh at_ wa hy wh x wo) (k0_pay3 ga gh at_ wa hy wh x wo) g wr := rfl

/-! Where the halves' rows lie in the block. -/

def lo (s : Fin 512) : Fin 1024 := ⟨s, by omega⟩
def hi (s : Fin 512) : Fin 1024 := ⟨512 + s, by omega⟩

theorem place_lo (s : Fin 512) (k : Fin 1024) : r0_0.emb (ix2 s k) = ix2 (lo s) k := by blk_ext [lo]
theorem place_hi (s : Fin 512) (k : Fin 1024) : r0_7.emb (ix2 s k) = ix2 (hi s) k := by blk_ext [hi]
theorem lane_lo (s : Fin 512) (j : Fin 128) : r0_6.emb (ix2 s j) = ix2 (lo s) j := by blk_ext [lo]
theorem lane_hi (s : Fin 512) (j : Fin 128) : r0_9.emb (ix2 s j) = ix2 (hi s) j := by blk_ext [hi]

/-- A block of which both halves are rows of `f` is `f`. -/
theorem halves_apply {e : EltTy} (p q : Vec Ideal S512x1024 e) (f : Fin 1024 → Fin 1024 → Elt Ideal e)
    (hp : ∀ s k, p (ix2 s k) = f (hi s) k) (hq : ∀ s k, q (ix2 s k) = f (lo s) k) (r k : Fin 1024) :
    View.canon (Val := Elt Ideal) (e := e) (s := S1024x1024) [⟨r0_7, p⟩, ⟨r0_0, q⟩] (ix2 r k) = f r k := by
  refine View.canon_apply_of_pieces (Val := Elt Ideal) (e := e) (fun y : S1024x1024.Idx => f (y 0) (y 1)) _ ?_ (ix2 r k)
    (View.cover_of_tiled [⟨r0_7, p⟩, ⟨r0_0, q⟩] S512x1024.size (by rfl) (ix2 r k))
  simp only [List.forall_mem_cons, List.not_mem_nil, false_imp_iff, implies_true, and_true]
  refine ⟨fun i => ?_, fun i => ?_⟩
  · obtain ⟨s, k, rfl⟩ : ∃ (s : Fin 512) (k : Fin 1024), i = ix2 s k := ⟨i 0, i 1, eq_ix2 i⟩
    rw [place_hi]
    exact hp s k
  · obtain ⟨s, k, rfl⟩ : ∃ (s : Fin 512) (k : Fin 1024), i = ix2 s k := ⟨i 0, i 1, eq_ix2 i⟩
    rw [place_lo]
    exact hq s k

theorem lane_halves_apply {e : EltTy} (p q : Vec Ideal S512x128 e) (f : Fin 1024 → Fin 128 → Elt Ideal e)
    (hp : ∀ s k, p (ix2 s k) = f (hi s) k) (hq : ∀ s k, q (ix2 s k) = f (lo s) k) (r : Fin 1024) (j : Fin 128) :
    View.canon (Val := Elt Ideal) (e := e) (s := S1024x128) [⟨r0_9, p⟩, ⟨r0_6, q⟩] (ix2 r j) = f r j := by
  refine View.canon_apply_of_pieces (Val := Elt Ideal) (e := e) (fun y : S1024x128.Idx => f (y 0) (y 1)) _ ?_ (ix2 r j)
    (View.cover_of_tiled [⟨r0_9, p⟩, ⟨r0_6, q⟩] S512x128.size (by rfl) (ix2 r j))
  simp only [List.forall_mem_cons, List.not_mem_nil, false_imp_iff, implies_true, and_true]
  refine ⟨fun i => ?_, fun i => ?_⟩
  · obtain ⟨s, k, rfl⟩ : ∃ (s : Fin 512) (k : Fin 128), i = ix2 s k := ⟨i 0, i 1, eq_ix2 i⟩
    rw [lane_hi]
    exact hp s k
  · obtain ⟨s, k, rfl⟩ : ∃ (s : Fin 512) (k : Fin 128), i = ix2 s k := ⟨i 0, i 1, eq_ix2 i⟩
    rw [lane_lo]
    exact hq s k

section Whole

variable (x0 x1 : Vec Ideal S1024x512 .bf16) (x2 x3 : Vec Ideal S1024x1024 .bf16) (x4 : Vec Ideal S1024x1024 .f32)
  (x5 x6 : Vec Ideal S512x1024 .bf16) (x7 : Vec Ideal S1024x1024 .bf16) (x8 : Vec Ideal S1x1024 .f32)
  (x9 : Vec Ideal S1024x128 .bf16)

/-- A block's row after the merge, of the blocks of the arrays. -/
def rowAdded (r : Fin 1024) : Fin 1024 → EReal :=
  added (fun d => x4 (ix2 r d))
    (blend (fun k => x0 (ix2 r k)) (fun k => x1 (ix2 r k)) (fun e => x2 (ix2 r e)) (fun e => x3 (ix2 r e))
      (fun k e => x5 (ix2 k e)) (fun k e => x6 (ix2 k e)))
    (fun e d => x7 (ix2 e d))

/-- The same row normalized. -/
def rowNormed (r : Fin 1024) : Fin 1024 → EReal :=
  normed (rowAdded x0 x1 x2 x3 x4 x5 x6 x7 r) (fun k => x8 (ix2 0 k))

/-- Its logits, in the lanes. -/
def rowLanes (r : Fin 1024) (j : Fin 128) : EReal :=
  if j.val < 16 then ∑ k : Fin 1024, rowNormed x0 x1 x2 x3 x4 x5 x6 x7 x8 r k * x9 (ix2 k j) else low

/-- The two halves' merged rows, from what the body loads for each. -/
def first : FVec Ideal S512x1024 .f32 :=
  k0_pay2 (View.ld x2 r0_0) (View.ld x3 r0_0) (View.ld x0 r0_1) (View.ld x5 r0_2) (View.ld x1 r0_1) (View.ld x6 r0_2)
    (View.ld x4 r0_0) (View.ld x7 r0_3)
def second : FVec Ideal S512x1024 .f32 :=
  k0_pay2 (View.ld x2 r0_7) (View.ld x3 r0_7) (View.ld x0 r0_8) (View.ld x5 r0_2) (View.ld x1 r0_8) (View.ld x6 r0_2)
    (View.ld x4 r0_7) (View.ld x7 r0_3)

theorem first_apply (s : Fin 512) (d : Fin 1024) :
    first x0 x1 x2 x3 x4 x5 x6 x7 (ix2 s d) = rowAdded x0 x1 x2 x3 x4 x5 x6 x7 (lo s) d := by
  refine (added_apply _ _ _ _ _ _ _ _ s d).trans ?_
  unfold rowAdded lo
  pointwise []

theorem second_apply (s : Fin 512) (d : Fin 1024) :
    second x0 x1 x2 x3 x4 x5 x6 x7 (ix2 s d) = rowAdded x0 x1 x2 x3 x4 x5 x6 x7 (hi s) d := by
  refine (added_apply _ _ _ _ _ _ _ _ s d).trans ?_
  unfold rowAdded hi
  pointwise []

/-- The two halves' normalized rows. -/
def firstNormed : FVec Ideal S512x1024 .bf16 :=
  k0_pay4 (first x0 x1 x2 x3 x4 x5 x6 x7)
    (k0_pay3 (View.ld x2 r0_0) (View.ld x3 r0_0) (View.ld x0 r0_1) (View.ld x5 r0_2) (View.ld x1 r0_1) (View.ld x6 r0_2)
      (View.ld x4 r0_0) (View.ld x7 r0_3)) (View.ld x8 r0_4)
def secondNormed : FVec Ideal S512x1024 .bf16 :=
  k0_pay4 (second x0 x1 x2 x3 x4 x5 x6 x7)
    (k0_pay3 (View.ld x2 r0_7) (View.ld x3 r0_7) (View.ld x0 r0_8) (View.ld x5 r0_2) (View.ld x1 r0_8) (View.ld x6 r0_2)
      (View.ld x4 r0_7) (View.ld x7 r0_3)) (View.ld x8 r0_4)

theorem gain_load (k : Fin 1024) : View.ld x8 r0_4 (ix2 0 k) = x8 (ix2 0 k) := by pointwise []
theorem router_load (k : Fin 1024) (j : Fin 128) : View.ld x9 r0_5 (ix2 k j) = x9 (ix2 k j) := by pointwise []

theorem firstNormed_apply (s : Fin 512) (k : Fin 1024) :
    firstNormed x0 x1 x2 x3 x4 x5 x6 x7 x8 (ix2 s k) = rowNormed x0 x1 x2 x3 x4 x5 x6 x7 x8 (lo s) k := by
  refine (normed_apply _ _ _ _ _ _ _ _ _ s k).trans ?_
  have e := fun d => first_apply x0 x1 x2 x3 x4 x5 x6 x7 s d
  unfold first at e
  simp only [e]
  exact congrArg (fun g => normed _ g k) (funext fun k => gain_load x8 k)

theorem secondNormed_apply (s : Fin 512) (k : Fin 1024) :
    secondNormed x0 x1 x2 x3 x4 x5 x6 x7 x8 (ix2 s k) = rowNormed x0 x1 x2 x3 x4 x5 x6 x7 x8 (hi s) k := by
  refine (normed_apply _ _ _ _ _ _ _ _ _ s k).trans ?_
  have e := fun d => second_apply x0 x1 x2 x3 x4 x5 x6 x7 s d
  unfold second at e
  simp only [e]
  exact congrArg (fun g => normed _ g k) (funext fun k => gain_load x8 k)

/-- What the body leaves in the block of merged rows. -/
theorem added_block (r d : Fin 1024) :
    out0_10 x0 x1 x2 x3 x4 x5 x6 x7 x8 x9 (ix2 r d) = rowAdded x0 x1 x2 x3 x4 x5 x6 x7 r d := by
  unfold_out out0_10
  rw [added_second]
  exact halves_apply (e := .f32) _ _ (rowAdded x0 x1 x2 x3 x4 x5 x6 x7) (second_apply x0 x1 x2 x3 x4 x5 x6 x7) (first_apply x0 x1 x2 x3 x4 x5 x6 x7) r d

/-- In the block of normalized rows. -/
theorem normed_block (r d : Fin 1024) :
    out0_11 x0 x1 x2 x3 x4 x5 x6 x7 x8 x9 (ix2 r d) = rowNormed x0 x1 x2 x3 x4 x5 x6 x7 x8 r d := by
  unfold_out out0_11
  rw [normed_second]
  exact halves_apply (e := .bf16) _ _ (rowNormed x0 x1 x2 x3 x4 x5 x6 x7 x8) (secondNormed_apply x0 x1 x2 x3 x4 x5 x6 x7 x8) (firstNormed_apply x0 x1 x2 x3 x4 x5 x6 x7 x8) r d

/-- In the block of probabilities. -/
theorem share_block (r : Fin 1024) (j : Fin 128) :
    out0_12 x0 x1 x2 x3 x4 x5 x6 x7 x8 x9 (ix2 r j) = share (rowLanes x0 x1 x2 x3 x4 x5 x6 x7 x8 x9 r) j := by
  unfold_out out0_12
  rw [share_second]
  refine lane_halves_apply (e := .f32) _ _ (fun r => share (rowLanes x0 x1 x2 x3 x4 x5 x6 x7 x8 x9 r)) (fun s j => ?_) (fun s j => ?_) r j
  · refine (share_apply _ _ _ _ s j).trans ?_
    have e := fun k => secondNormed_apply x0 x1 x2 x3 x4 x5 x6 x7 x8 s k
    unfold secondNormed second at e
    refine congrArg (fun v => share v j) (funext fun j => ?_)
    refine if_congr Iff.rfl (Finset.sum_congr rfl fun k _ => ?_) rfl
    rw [e]
    exact congrArg (_ * ·) (router_load x9 k j)
  · refine (share_apply _ _ _ _ s j).trans ?_
    have e := fun k => firstNormed_apply x0 x1 x2 x3 x4 x5 x6 x7 x8 s k
    unfold firstNormed first at e
    refine congrArg (fun v => share v j) (funext fun j => ?_)
    refine if_congr Iff.rfl (Finset.sum_congr rfl fun k _ => ?_) rfl
    rw [e]
    exact congrArg (_ * ·) (router_load x9 k j)

end Whole

end Cert.Kernel3Ideal.Merge

end
-- ==== Proof.MergeArray.lean ====
/-
  The merge's three results as whole arrays: what its blocks read, and that its sixteen blocks of rows tile the arrays.
-/
module

public import proofs.«01_k».proof.Proof.MergeBlock

@[expose] public section

set_option maxRecDepth 65536

noncomputable section

namespace Cert.Kernel3Ideal.Merge

open Cert.Kernel3Ideal Cert.Kernel3Ideal.Gen Idealize.ShloMosaic Idealize.ShloMosaic.TcCoe Idealize.SL.Sem
open Cert.AttnMath Cert.ProjSpec Cert.MergeSpec
open scoped BigOperators

/-- The windows' blocks at a point: block of rows `t`; the gates are the fourth and the fifth block of columns. -/
theorem idx : ∀ t : Fin cfg0.N,
    win0_0.index t = ![t.val, 0] ∧ win0_1.index t = ![t.val, 0] ∧ win0_2.index t = ![t.val, 3] ∧ win0_3.index t = ![t.val, 4]
    ∧ win0_4.index t = ![t.val, 0] ∧ win0_5.index t = ![0, 0] ∧ win0_6.index t = ![0, 0] ∧ win0_7.index t = ![0, 0]
    ∧ win0_8.index t = ![0, 0] ∧ win0_9.index t = ![0, 0]
    ∧ win0_10.index t = ![t.val, 0] ∧ win0_11.index t = ![t.val, 0] ∧ win0_12.index t = ![t.val, 0] :=
  (by decide +kernel : ∀ t : Fin grid0.N,
    win0_0.index t = ![t.val, 0] ∧ win0_1.index t = ![t.val, 0] ∧ win0_2.index t = ![t.val, 3] ∧ win0_3.index t = ![t.val, 4]
    ∧ win0_4.index t = ![t.val, 0] ∧ win0_5.index t = ![0, 0] ∧ win0_6.index t = ![0, 0] ∧ win0_7.index t = ![0, 0]
    ∧ win0_8.index t = ![0, 0] ∧ win0_9.index t = ![0, 0]
    ∧ win0_10.index t = ![t.val, 0] ∧ win0_11.index t = ![t.val, 0] ∧ win0_12.index t = ![t.val, 0])

theorem lt_points (t : Fin cfg0.N) : t.val < 16 := t.isLt

/-- The row of the arrays at a row of a point's block. -/
def rowOf (t : Fin cfg0.N) (r : Fin 1024) : Fin 16384 := ⟨t.val * 1024 + r, by have := lt_points t; omega⟩

variable (m : (ℓ : Loc nD τ sig) → Buf (Elt Ideal) ℓ) (c : Dev nD)

/-! What the host passes to the kernel. -/

theorem x_host (y : Fin 16384) (k : Fin 1024) :
    V m c main_v3 (ix2 y k) = m ((c : Thread nD τ).loc main_arg3) (ix3 (seqOf y) (posOf y) k) := by
  simp only [V, hostOps0, hostOps0_1, hostOps0_2, List.flatten_cons, List.flatten_nil, List.append_nil, List.cons_append,
    List.nil_append]
  entry_read
  pointwise [seqOf, posOf]

theorem wa_host (k : Fin 512) (e : Fin 1024) : V m c main_v5 (ix2 k e) = m ((c : Thread nD τ).loc main_arg4) (ix3 0 k e) := by
  simp only [V, hostOps0, hostOps0_1, hostOps0_2, List.flatten_cons, List.flatten_nil, List.append_nil, List.cons_append,
    List.nil_append]
  entry_read
  pointwise

theorem wh_host (k : Fin 512) (e : Fin 1024) : V m c main_v7 (ix2 k e) = m ((c : Thread nD τ).loc main_arg5) (ix3 0 k e) := by
  simp only [V, hostOps0, hostOps0_1, hostOps0_2, List.flatten_cons, List.flatten_nil, List.append_nil, List.cons_append,
    List.nil_append]
  entry_read
  pointwise

theorem wo_host (e d : Fin 1024) : V m c main_v9 (ix2 e d) = m ((c : Thread nD τ).loc main_arg6) (ix3 0 e d) := by
  simp only [V, hostOps0, hostOps0_1, hostOps0_2, List.flatten_cons, List.flatten_nil, List.append_nil, List.cons_append,
    List.nil_append]
  entry_read
  pointwise

theorem g_host (k : Fin 1024) : V m c main_v11 (ix2 0 k) = m ((c : Thread nD τ).loc main_arg7) (ix2 0 k) := by
  simp only [V, hostOps0, hostOps0_1, hostOps0_2, List.flatten_cons, List.flatten_nil, List.append_nil, List.cons_append,
    List.nil_append]
  entry_read
  pointwise

theorem wr_term : V m c main_v2
    = truncf (F := Ideal) .bf16 (pad S1024x128 ![0, 0] ![0, 112] ![0, 0]
        (shapeCast S1024x16 (m ((c : Thread nD τ).loc main_arg8)) shapeCasts_S1x1024x16_S1024x16)
        (sitofp .f32 (constantI S_ 32 0#32)) pads_S1024x16_S1024x128_000_01120 h_S_) bitsLt_bf16_f32 := by
  simp only [V, hostOps0, hostOps0_1, hostOps0_2, List.flatten_cons, List.flatten_nil, List.append_nil, List.cons_append,
    List.nil_append]
  entry_read
  rfl

theorem padded_apply (w : Vec Ideal S1x1024x16 .f32) (v : Vec Ideal S_ .f32) (k : Fin 1024) (j : Fin 128) (h : j.val < 16) :
    pad S1024x128 ![0, 0] ![0, 112] ![0, 0] (shapeCast S1024x16 w shapeCasts_S1x1024x16_S1024x16) v
        pads_S1024x16_S1024x128_000_01120 h_S_ (ix2 k j) = w (ix3 0 k ⟨j.val, h⟩) := by
  pointwise []
  rw [dif_pos h]

/-- The router's weights lie in the first sixteen of the lanes that the host pads them to. -/
theorem wr_host (k : Fin 1024) (j : Fin 128) (h : j.val < 16) :
    V m c main_v2 (ix2 k j) = m ((c : Thread nD τ).loc main_arg8) (ix3 0 k ⟨j.val, h⟩) := by
  rw [wr_term]
  exact padded_apply _ _ k j h

theorem x_read (t : Fin cfg0.N) (r k : Fin 1024) :
    iblk m c 4 t (ix2 r k) = m ((c : Thread nD τ).loc main_arg3) (ix3 (seqOf (rowOf t r)) (posOf (rowOf t r)) k) := by
  have e : iblk m c 4 t (ix2 r k) = V m c main_v3 (ix2 (rowOf t r) k) := by
    blk_ext [iblk, idx t, rowOf]
  rw [e, x_host]

theorem at_read (t : Fin cfg0.N) (r : Fin 1024) (k : Fin 512) :
    iblk m c 0 t (ix2 r k) = m ((c : Thread nD τ).loc main_arg0) (ix2 (rowOf t r) k) := by
  have e' : iblk m c 0 t (ix2 r k) = V m c main_arg0 (ix2 (rowOf t r) k) := by
    blk_ext [iblk, idx t, rowOf]
  rw [e', V_main_arg0]

theorem hy_read (t : Fin cfg0.N) (r : Fin 1024) (k : Fin 512) :
    iblk m c 1 t (ix2 r k) = m ((c : Thread nD τ).loc main_arg1) (ix2 (rowOf t r) k) := by
  have e' : iblk m c 1 t (ix2 r k) = V m c main_arg1 (ix2 (rowOf t r) k) := by
    blk_ext [iblk, idx t, rowOf]
  rw [e', V_main_arg1]

theorem ga_read (t : Fin cfg0.N) (r e : Fin 1024) :
    iblk m c 2 t (ix2 r e) = m ((c : Thread nD τ).loc main_arg2) (ix2 (rowOf t r) ⟨3072 + e.val, by omega⟩) := by
  have e' : iblk m c 2 t (ix2 r e) = V m c main_arg2 (ix2 (rowOf t r) ⟨3072 + e.val, by omega⟩) := by
    blk_ext [iblk, idx t, rowOf]
  rw [e', V_main_arg2]

theorem gh_read (t : Fin cfg0.N) (r e : Fin 1024) :
    iblk m c 3 t (ix2 r e) = m ((c : Thread nD τ).loc main_arg2) (ix2 (rowOf t r) ⟨4096 + e.val, by omega⟩) := by
  have e' : iblk m c 3 t (ix2 r e) = V m c main_arg2 (ix2 (rowOf t r) ⟨4096 + e.val, by omega⟩) := by
    blk_ext [iblk, idx t, rowOf]
  rw [e', V_main_arg2]

theorem wa_read (t : Fin cfg0.N) (k : Fin 512) (e : Fin 1024) :
    iblk m c 5 t (ix2 k e) = m ((c : Thread nD τ).loc main_arg4) (ix3 0 k e) := by
  rw [← wa_host m c k e]
  blk_ext [iblk, idx t]

theorem wh_read (t : Fin cfg0.N) (k : Fin 512) (e : Fin 1024) :
    iblk m c 6 t (ix2 k e) = m ((c : Thread nD τ).loc main_arg5) (ix3 0 k e) := by
  rw [← wh_host m c k e]
  blk_ext [iblk, idx t]

theorem wo_read (t : Fin cfg0.N) (e d : Fin 1024) :
    iblk m c 7 t (ix2 e d) = m ((c : Thread nD τ).loc main_arg6) (ix3 0 e d) := by
  rw [← wo_host m c e d]
  blk_ext [iblk, idx t]

theorem g_read (t : Fin cfg0.N) (k : Fin 1024) :
    iblk m c 8 t (ix2 0 k) = m ((c : Thread nD τ).loc main_arg7) (ix2 0 k) := by
  rw [← g_host m c k]
  blk_ext [iblk, idx t]

theorem wr_read (t : Fin cfg0.N) (k : Fin 1024) (j : Fin 128) (h : j.val < 16) :
    iblk m c 9 t (ix2 k j) = m ((c : Thread nD τ).loc main_arg8) (ix3 0 k ⟨j.val, h⟩) := by
  rw [← wr_host m c k j h]
  blk_ext [iblk, idx t]

/-! A point's rows are rows of the arrays. -/

theorem rowAdded_eq (t : Fin cfg0.N) (r : Fin 1024) :
    rowAdded (iblk m c 0 t) (iblk m c 1 t) (iblk m c 2 t) (iblk m c 3 t) (iblk m c 4 t) (iblk m c 5 t) (iblk m c 6 t) (iblk m c 7 t) r
      = addedAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (rowOf t r) := by
  unfold rowAdded addedAt blendAt
  simp only [x_read, at_read, hy_read, ga_read, gh_read, wa_read, wh_read, wo_read]

theorem rowNormed_eq (t : Fin cfg0.N) (r : Fin 1024) :
    rowNormed (iblk m c 0 t) (iblk m c 1 t) (iblk m c 2 t) (iblk m c 3 t) (iblk m c 4 t) (iblk m c 5 t) (iblk m c 6 t) (iblk m c 7 t)
        (iblk m c 8 t) r
      = normedAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (rowOf t r) := by
  unfold rowNormed normedAt
  rw [rowAdded_eq]
  simp only [g_read]

theorem rowLanes_eq (t : Fin cfg0.N) (r : Fin 1024) :
    share (rowLanes (iblk m c 0 t) (iblk m c 1 t) (iblk m c 2 t) (iblk m c 3 t) (iblk m c 4 t) (iblk m c 5 t) (iblk m c 6 t)
        (iblk m c 7 t) (iblk m c 8 t) (iblk m c 9 t) r)
      = shareAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (rowOf t r) := by
  unfold shareAt
  refine congrArg share (funext fun j => ?_)
  unfold rowLanes lanes
  rw [rowNormed_eq]
  by_cases h : j.val < 16
  · rw [if_pos h, dif_pos h]
    exact Finset.sum_congr rfl fun k _ => congrArg (_ * ·) (wr_read m c t k j h)
  · rw [if_neg h, dif_neg h]

theorem place_added (t : Fin cfg0.N) (r d : Fin 1024) : ((cfg0.win 10).blk t).view.emb (ix2 r d) = ix2 (rowOf t r) d := by
  blk_ext [idx t, rowOf]
theorem place_normed (t : Fin cfg0.N) (r d : Fin 1024) : ((cfg0.win 11).blk t).view.emb (ix2 r d) = ix2 (rowOf t r) d := by
  blk_ext [idx t, rowOf]
theorem place_share (t : Fin cfg0.N) (r : Fin 1024) (j : Fin 128) :
    ((cfg0.win 12).blk t).view.emb (ix2 r j) = ix2 (rowOf t r) j := by
  blk_ext [idx t, rowOf]

/-- The first result array: the merged rows. -/
theorem added_array :
    (dats m 0 c).arrAt 10 cfg0.N = fun y => addedAt (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (y 0) (y 1) := by
  refine (dats m 0 c).arrAt_eq_of_covers 10 _ (by decide +kernel) fun t hf y => ?_
  blk_simp
  rw [after0_10]
  obtain ⟨r, d, rfl⟩ : ∃ r d : Fin 1024, y = ix2 r d := ⟨y 0, y 1, eq_ix2 y⟩
  rw [place_added]
  exact (added_block _ _ _ _ _ _ _ _ _ _ r d).trans (congrFun (rowAdded_eq m c t r) d)

/-- The second: the merged rows normalized. -/
theorem normed_array :
    (dats m 0 c).arrAt 11 cfg0.N = fun y => normedAt (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (y 0) (y 1) := by
  refine (dats m 0 c).arrAt_eq_of_covers 11 _ (by decide +kernel) fun t hf y => ?_
  blk_simp
  rw [after0_11]
  obtain ⟨r, d, rfl⟩ : ∃ r d : Fin 1024, y = ix2 r d := ⟨y 0, y 1, eq_ix2 y⟩
  rw [place_normed]
  exact (normed_block _ _ _ _ _ _ _ _ _ _ r d).trans (congrFun (rowNormed_eq m c t r) d)

/-- The third: the router's probabilities. -/
theorem share_array :
    (dats m 0 c).arrAt 12 cfg0.N = fun y => shareAt (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (y 0) (y 1) := by
  refine (dats m 0 c).arrAt_eq_of_covers 12 _ (by decide +kernel) fun t hf y => ?_
  blk_simp
  rw [after0_12]
  obtain ⟨r, j, rfl⟩ : ∃ (r : Fin 1024) (j : Fin 128), y = ix2 r j := ⟨y 0, y 1, eq_ix2 y⟩
  rw [place_share]
  exact (share_block _ _ _ _ _ _ _ _ _ _ r j).trans (congrFun (rowLanes_eq m c t r) j)

end Cert.Kernel3Ideal.Merge

end
-- ==== Proof.MergeRef.lean ====
/-
  The reference's merge at an index: the gates, the two branches' projections, the merged rows and their normalization.
-/
module

public import proofs.«01_k».proof.Proof.Gen.Reference3Ideal.Read
public import proofs.«01_k».proof.Proof.MergeSpec

@[expose] public section

set_option maxRecDepth 65536

noncomputable section

namespace Cert.Reference3Ideal.Merge

open Cert.Reference3Ideal Cert.Reference3Ideal.Gen Cert.Reference3Ideal.Read Idealize.ShloMosaic Idealize.ShloMosaic.TcCoe Idealize.SL.Sem
open Cert.AttnMath Cert.ProjSpec Cert.MergeSpec
open scoped BigOperators

variable (x0 x1 : (⟨S16384x512, .bf16⟩ : BufTy).Contents (Elt Ideal)) (x2 : (⟨S16384x5120, .bf16⟩ : BufTy).Contents (Elt Ideal))
  (x3 : (⟨S4x4096x1024, .f32⟩ : BufTy).Contents (Elt Ideal)) (x4 x5 : (⟨S1x512x1024, .f32⟩ : BufTy).Contents (Elt Ideal))
  (x6 : (⟨S1x1024x1024, .f32⟩ : BufTy).Contents (Elt Ideal)) (x7 : (⟨S1x1024, .f32⟩ : BufTy).Contents (Elt Ideal))
  (x8 : (⟨S1x1024x16, .f32⟩ : BufTy).Contents (Elt Ideal))

/-- A gate. -/
theorem gate_apply (y : Fin 16384) (e : Fin 2048) :
    val_main_v8 (F := Ideal) x2 (ix3 (seqOf y) (posOf y) e) = Ideal.logistic (x2 (ix2 y ⟨3072 + e.val, by omega⟩)) := by
  have h : idx_main_v1 (idx_main_v2 (ix3 (seqOf y) (posOf y) e)) = ix2 y ⟨3072 + e.val, by omega⟩ := by
    funext a
    apply Fin.ext
    match a with
    | ⟨0, _⟩ => show ((y.val / 4096 * 4096 + y.val % 4096) * 5120 + (3072 + e.val)) / 5120 = y.val; omega
    | ⟨1, _⟩ => show ((y.val / 4096 * 4096 + y.val % 4096) * 5120 + (3072 + e.val)) % 5120 = 3072 + e.val; omega
  rw [val_main_v8_apply, val_main_v7_apply, val_main_v6_apply, val_main_v5_apply, val_main_v4_apply, val_main_v3_apply,
    val_main_v2_apply, val_main_v1_apply, val_main_v0_apply, h, val_main_cst_apply, val_main_cst_0_apply]
  unfold Ideal.logistic
  rw [← Ideal.ofBits_one_f32]
  rfl

theorem gate_first (y : Fin 16384) (e : Fin 1024) :
    val_main_v9 (F := Ideal) x2 (ix3 (seqOf y) (posOf y) e) = Ideal.logistic (x2 (ix2 y ⟨3072 + e.val, by omega⟩)) := by
  have h : idx_main_v9 (ix3 (seqOf y) (posOf y) e) = ix3 (seqOf y) (posOf y) ⟨e.val, by omega⟩ := by
    funext a
    match a with
    | ⟨0, _⟩ => rfl
    | ⟨1, _⟩ => rfl
    | ⟨2, _⟩ => rfl
  rw [val_main_v9_apply, h, gate_apply]

theorem gate_second (y : Fin 16384) (e : Fin 1024) :
    val_main_v10 (F := Ideal) x2 (ix3 (seqOf y) (posOf y) e) = Ideal.logistic (x2 (ix2 y ⟨4096 + e.val, by omega⟩)) := by
  have h : idx_main_v10 (ix3 (seqOf y) (posOf y) e) = ix3 (seqOf y) (posOf y) ⟨1024 + e.val, by omega⟩ := by
    funext a
    match a with
    | ⟨0, _⟩ => rfl
    | ⟨1, _⟩ => rfl
    | ⟨2, _⟩ => rfl
  have hc : (⟨3072 + (1024 + e.val), by omega⟩ : Fin 5120) = ⟨4096 + e.val, by omega⟩ := Fin.ext (by show 3072 + (1024 + e.val) = 4096 + e.val; omega)
  rw [val_main_v10_apply, h, gate_apply]
  exact congrArg (fun z => Ideal.logistic (x2 (ix2 y z))) hc

/-- The first branch, projected. -/
theorem branch_first (y : Fin 16384) (e : Fin 1024) :
    val_main_v14 (F := Ideal) x0 x4 (ix3 (seqOf y) (posOf y) e) = ∑ k : Fin 512, x0 (ix2 y k) * x4 (ix3 0 k e) := by
  have hl (k : Fin 512) : idx_main_v12 (lidx_main_v14 (ix3 (seqOf y) (posOf y) e) k) = ix2 y k := by
    funext a
    apply Fin.ext
    match a with
    | ⟨0, _⟩ => show ((y.val / 4096 * 4096 + y.val % 4096) * 512 + k.val) / 512 = y.val; omega
    | ⟨1, _⟩ => show ((y.val / 4096 * 4096 + y.val % 4096) * 512 + k.val) % 512 = k.val; omega
  have hr (k : Fin 512) : idx_main_v13 (ridx_main_v14 (ix3 (seqOf y) (posOf y) e) k) = ix3 0 k e := by
    funext a
    apply Fin.ext
    match a with
    | ⟨0, _⟩ => rfl
    | ⟨1, _⟩ => show (k.val * 1024 + e.val) / 1024 % 512 = k.val; omega
    | ⟨2, _⟩ => show (k.val * 1024 + e.val) % 1024 = e.val; omega
  rw [val_main_v14_apply]
  refine Finset.sum_congr rfl fun k _ => ?_
  rw [val_main_v12_apply, val_main_v13_apply, val_main_v11_apply, hl, hr]
  rfl

/-- The second. -/
theorem branch_second (y : Fin 16384) (e : Fin 1024) :
    val_main_v19 (F := Ideal) x1 x5 (ix3 (seqOf y) (posOf y) e) = ∑ k : Fin 512, x1 (ix2 y k) * x5 (ix3 0 k e) :=
  branch_first x1 x5 y e

/-- The blend. -/
theorem blend_apply (y : Fin 16384) (e : Fin 1024) :
    val_main_v21 (F := Ideal) x0 x1 x2 x4 x5 (ix3 (seqOf y) (posOf y) e) = blendAt x0 x1 x2 x4 x5 y e := by
  rw [val_main_v21_apply, val_main_v15_apply, val_main_v20_apply, gate_first, gate_second, branch_first, branch_second]
  rfl

/-- The merged rows. -/
theorem added_apply (y : Fin 16384) (d : Fin 1024) :
    val_main_v24 (F := Ideal) x0 x1 x2 x3 x4 x5 x6 (ix3 (seqOf y) (posOf y) d) = addedAt x0 x1 x2 x3 x4 x5 x6 y d := by
  have hl (k : Fin 1024) : lidx_main_v23 (ix3 (seqOf y) (posOf y) d) k = ix3 (seqOf y) (posOf y) k := by
    funext a
    match a with
    | ⟨0, _⟩ => rfl
    | ⟨1, _⟩ => rfl
    | ⟨2, _⟩ => rfl
  have hr (k : Fin 1024) : idx_main_v22 (ridx_main_v23 (ix3 (seqOf y) (posOf y) d) k) = ix3 0 k d := by
    funext a
    apply Fin.ext
    match a with
    | ⟨0, _⟩ => rfl
    | ⟨1, _⟩ => show (k.val * 1024 + d.val) / 1024 % 1024 = k.val; omega
    | ⟨2, _⟩ => show (k.val * 1024 + d.val) % 1024 = d.val; omega
  have e : val_main_v23 (F := Ideal) x0 x1 x2 x4 x5 x6 (ix3 (seqOf y) (posOf y) d)
      = ∑ k : Fin 1024, blendAt x0 x1 x2 x4 x5 y k * x6 (ix3 0 k d) := by
    rw [val_main_v23_apply]
    refine Finset.sum_congr rfl fun k _ => ?_
    rw [val_main_v22_apply, hl, hr, blend_apply]
  rw [val_main_v24_apply, e]
  rfl

/-- A merged row's sum of squares. -/
theorem squares_apply (y : Fin 16384) :
    val_main_v27 (F := Ideal) x0 x1 x2 x3 x4 x5 x6 (ix2 (seqOf y) (posOf y))
      = ∑ k : Fin 1024, addedAt x0 x1 x2 x3 x4 x5 x6 y k * addedAt x0 x1 x2 x3 x4 x5 x6 y k := by
  have e (k : Fin 1024) : idx_main_v27 (ix2 (seqOf y) (posOf y)) k = ix3 (seqOf y) (posOf y) k := by
    funext a
    match a with
    | ⟨0, _⟩ => rfl
    | ⟨1, _⟩ => rfl
    | ⟨2, _⟩ => rfl
  have z : val_main_cst_1 (F := Ideal) (Shape.Idx.first h_S_) = 0 := by
    rw [val_main_cst_1_apply]
    exact Ideal.ofBits_zero_f32
  rw [val_main_v27_apply, z, zero_add]
  exact Finset.sum_congr rfl fun k _ => by rw [e, val_main_v26_apply, added_apply]; rfl

/-- The merged rows normalized. -/
theorem normed_apply (y : Fin 16384) (k : Fin 1024) :
    val_main_v38 (F := Ideal) x0 x1 x2 x3 x4 x5 x6 x7 (ix3 (seqOf y) (posOf y) k) = normedAt x0 x1 x2 x3 x4 x5 x6 x7 y k := by
  have ef : idx_main_v28 (idx_main_v34 (ix3 (seqOf y) (posOf y) k)) = ix2 (seqOf y) (posOf y) := by
    funext a
    match a with
    | ⟨0, _⟩ => rfl
    | ⟨1, _⟩ => rfl
  have eg : idx_main_v25 (idx_main_v36 (idx_main_v37 (ix3 (seqOf y) (posOf y) k))) = ix2 0 k := by
    funext a
    match a with
    | ⟨0, _⟩ => rfl
    | ⟨1, _⟩ => exact Fin.ext (Nat.mod_eq_of_lt k.isLt)
  rw [val_main_v38_apply, val_main_v37_apply, val_main_v36_apply, val_main_v25_apply, eg, val_main_v35_apply, added_apply,
    val_main_v34_apply, val_main_v33_apply, val_main_v32_apply, val_main_v31_apply, val_main_v30_apply, val_main_v29_apply,
    val_main_v28_apply, ef, squares_apply, val_main_cst_2_apply, val_main_cst_3_apply]
  unfold normedAt
  generalize addedAt x0 x1 x2 x3 x4 x5 x6 y = u
  rfl

/-! The first two results, at a row and a column. -/

theorem added_result (y : Fin 16384) (d : Fin 1024) :
    val_main_v53 (F := Ideal) x0 x1 x2 x3 x4 x5 x6 (ix2 y d) = addedAt x0 x1 x2 x3 x4 x5 x6 y d := by
  have e : idx_main_v53 (ix2 y d) = ix3 (seqOf y) (posOf y) d := by
    funext a
    apply Fin.ext
    match a with
    | ⟨0, _⟩ => show (y.val * 1024 + d.val) / 4194304 = y.val / 4096; omega
    | ⟨1, _⟩ => show (y.val * 1024 + d.val) / 1024 % 4096 = y.val % 4096; omega
    | ⟨2, _⟩ => show (y.val * 1024 + d.val) % 1024 = d.val; omega
  rw [val_main_v53_apply, e, added_apply]

theorem normed_result (y : Fin 16384) (k : Fin 1024) :
    val_main_v55 (F := Ideal) x0 x1 x2 x3 x4 x5 x6 x7 (ix2 y k) = normedAt x0 x1 x2 x3 x4 x5 x6 x7 y k := by
  have e : idx_main_v54 (ix2 y k) = ix3 (seqOf y) (posOf y) k := by
    funext a
    apply Fin.ext
    match a with
    | ⟨0, _⟩ => show (y.val * 1024 + k.val) / 4194304 = y.val / 4096; omega
    | ⟨1, _⟩ => show (y.val * 1024 + k.val) / 1024 % 4096 = y.val % 4096; omega
    | ⟨2, _⟩ => show (y.val * 1024 + k.val) % 1024 = k.val; omega
  rw [val_main_v55_apply, val_main_v54_apply, e, normed_apply]
  rfl

/-! The same, as whole arrays. -/

theorem added_eq : val_main_v53 (F := Ideal) x0 x1 x2 x3 x4 x5 x6 = fun i => addedAt x0 x1 x2 x3 x4 x5 x6 (i 0) (i 1) := by
  funext i
  obtain ⟨y, d, rfl⟩ : ∃ (y : Fin 16384) (d : Fin 1024), i = ix2 y d := ⟨i 0, i 1, eq_ix2 i⟩
  exact added_result x0 x1 x2 x3 x4 x5 x6 y d

theorem normed_eq : val_main_v55 (F := Ideal) x0 x1 x2 x3 x4 x5 x6 x7 = fun i => normedAt x0 x1 x2 x3 x4 x5 x6 x7 (i 0) (i 1) := by
  funext i
  obtain ⟨y, d, rfl⟩ : ∃ (y : Fin 16384) (d : Fin 1024), i = ix2 y d := ⟨i 0, i 1, eq_ix2 i⟩
  exact normed_result x0 x1 x2 x3 x4 x5 x6 x7 y d

end Cert.Reference3Ideal.Merge

end
-- ==== Proof.MergeRefShare.lean ====
/-
  The reference's router at an index: the logits, padded to the lanes, their maximum and their exponentials' shares.
-/
module

public import proofs.«01_k».proof.Proof.MergeRef
public import Idealize.ShloMosaic.Lib.Pointwise

@[expose] public section

set_option maxRecDepth 65536

noncomputable section

namespace Cert.Reference3Ideal.Merge

open Cert.Reference3Ideal Cert.Reference3Ideal.Gen Cert.Reference3Ideal.Read Idealize.ShloMosaic Idealize.ShloMosaic.TcCoe Idealize.SL.Sem
open Cert.AttnMath Cert.ProjSpec Cert.MergeSpec
open scoped BigOperators

variable (x0 x1 : (⟨S16384x512, .bf16⟩ : BufTy).Contents (Elt Ideal)) (x2 : (⟨S16384x5120, .bf16⟩ : BufTy).Contents (Elt Ideal))
  (x3 : (⟨S4x4096x1024, .f32⟩ : BufTy).Contents (Elt Ideal)) (x4 x5 : (⟨S1x512x1024, .f32⟩ : BufTy).Contents (Elt Ideal))
  (x6 : (⟨S1x1024x1024, .f32⟩ : BufTy).Contents (Elt Ideal)) (x7 : (⟨S1x1024, .f32⟩ : BufTy).Contents (Elt Ideal))
  (x8 : (⟨S1x1024x16, .f32⟩ : BufTy).Contents (Elt Ideal))

theorem logits_apply (y : Fin 16384) (j : Fin 16) :
    val_main_v40 (F := Ideal) x0 x1 x2 x3 x4 x5 x6 x7 x8 (ix3 (seqOf y) (posOf y) j)
      = ∑ k : Fin 1024, normedAt x0 x1 x2 x3 x4 x5 x6 x7 y k * x8 (ix3 0 k j) := by
  have hl (k : Fin 1024) : lidx_main_v40 (ix3 (seqOf y) (posOf y) j) k = ix3 (seqOf y) (posOf y) k := by
    funext a
    match a with
    | ⟨0, _⟩ => rfl
    | ⟨1, _⟩ => rfl
    | ⟨2, _⟩ => rfl
  have hr (k : Fin 1024) : idx_main_v39 (ridx_main_v40 (ix3 (seqOf y) (posOf y) j) k) = ix3 0 k j := by
    funext a
    apply Fin.ext
    match a with
    | ⟨0, _⟩ => rfl
    | ⟨1, _⟩ => show (k.val * 16 + j.val) / 16 % 1024 = k.val; omega
    | ⟨2, _⟩ => show (k.val * 16 + j.val) % 16 = j.val; omega
  rw [val_main_v40_apply]
  refine Finset.sum_congr rfl fun k _ => ?_
  rw [val_main_v39_apply, hl, hr, normed_apply]

/-- Padding the logits with `-∞`. -/
theorem padded_apply (u : Vec Ideal S4x4096x16 .f32) (b : Fin 4) (l : Fin 4096) (j : Fin 128) :
    pad S4x4096x128 ![0, 0, 0] ![0, 0, 112] ![0, 0, 0] u (val_main_call0_v0 (F := Ideal)) pads_S4x4096x16_S4x4096x128_000_000_01120 h_S_
        (ix3 b l j)
      = if h : j.val < 16 then u (ix3 b l ⟨j.val, h⟩) else low := by
  unfold low
  pointwise [val_main_call0_v0, val_main_cst_4]
  rfl

theorem lanes_apply (y : Fin 16384) (j : Fin 128) :
    val_main_v41 (F := Ideal) x0 x1 x2 x3 x4 x5 x6 x7 x8 (ix3 (seqOf y) (posOf y) j)
      = lanes (normedAt x0 x1 x2 x3 x4 x5 x6 x7 y) (fun k j => x8 (ix3 0 k j)) j := by
  unfold val_main_v41
  rw [padded_apply]
  unfold lanes
  by_cases h : j.val < 16
  · rw [dif_pos h, dif_pos h, logits_apply]
  · rw [dif_neg h, dif_neg h]

theorem max_apply (b : Fin 4) (l : Fin 4096) :
    val_main_v42 (F := Ideal) x0 x1 x2 x3 x4 x5 x6 x7 x8 (ix2 b l)
      = top (fun j => val_main_v41 (F := Ideal) x0 x1 x2 x3 x4 x5 x6 x7 x8 (ix3 b l j)) := by
  unfold val_main_v42 top low
  generalize val_main_v41 (F := Ideal) x0 x1 x2 x3 x4 x5 x6 x7 x8 = u
  pointwise [val_main_cst_5]

theorem low_eq : low = ⊥ := by simp [low, Ideal.ofBits, Ideal.ieee, -EReal.coe_mul]

/-- An exponential of a logit less the row's maximum. -/
theorem exp_apply (y : Fin 16384) (j : Fin 128) :
    val_main_v48 (F := Ideal) x0 x1 x2 x3 x4 x5 x6 x7 x8 (ix3 (seqOf y) (posOf y) j)
      = Ideal.exp (lanes (normedAt x0 x1 x2 x3 x4 x5 x6 x7 y) (fun k j => x8 (ix3 0 k j)) j
          - top (lanes (normedAt x0 x1 x2 x3 x4 x5 x6 x7 y) (fun k j => x8 (ix3 0 k j)))) := by
  have e : idx_main_v45 (idx_main_v46 (ix3 (seqOf y) (posOf y) j)) = ix2 (seqOf y) (posOf y) := by
    funext a
    match a with
    | ⟨0, _⟩ => rfl
    | ⟨1, _⟩ => rfl
  rw [val_main_v48_apply, val_main_v47_apply, val_main_v46_apply, val_main_v45_apply, val_main_v44_apply, val_main_v43_apply,
    val_main_cst_6_apply, e, max_apply, lanes_apply]
  simp only [lanes_apply]
  generalize lanes (normedAt x0 x1 x2 x3 x4 x5 x6 x7 y) (fun k j => x8 (ix3 0 k j)) = s
  have h : max low (top s) = top s := by rw [low_eq]; exact max_eq_right bot_le
  show Ideal.exp (s j - max low (top s)) = _
  rw [h]

theorem share_apply (y : Fin 16384) (j : Fin 128) :
    val_main_v52 (F := Ideal) x0 x1 x2 x3 x4 x5 x6 x7 x8 (ix3 (seqOf y) (posOf y) j) = shareAt x0 x1 x2 x3 x4 x5 x6 x7 x8 y j := by
  have e : idx_main_v50 (idx_main_v51 (ix3 (seqOf y) (posOf y) j)) = ix2 (seqOf y) (posOf y) := by
    funext a
    match a with
    | ⟨0, _⟩ => rfl
    | ⟨1, _⟩ => rfl
  have es (k : Fin 128) : idx_main_v49 (ix2 (seqOf y) (posOf y)) k = ix3 (seqOf y) (posOf y) k := by
    funext a
    match a with
    | ⟨0, _⟩ => rfl
    | ⟨1, _⟩ => rfl
    | ⟨2, _⟩ => rfl
  have z : val_main_cst_7 (F := Ideal) (Shape.Idx.first h_S_) = 0 := by
    rw [val_main_cst_7_apply]
    exact Ideal.ofBits_zero_f32
  rw [val_main_v52_apply, val_main_v51_apply, val_main_v50_apply, e, val_main_v49_apply, z, zero_add, exp_apply]
  simp only [es, exp_apply]
  unfold shareAt share
  generalize lanes (normedAt x0 x1 x2 x3 x4 x5 x6 x7 y) (fun k j => x8 (ix3 0 k j)) = s
  rfl

/-- The third result, at a row and a lane. -/
theorem share_result (y : Fin 16384) (j : Fin 128) :
    val_main_v56 (F := Ideal) x0 x1 x2 x3 x4 x5 x6 x7 x8 (ix2 y j) = shareAt x0 x1 x2 x3 x4 x5 x6 x7 x8 y j := by
  have e : idx_main_v56 (ix2 y j) = ix3 (seqOf y) (posOf y) j := by
    funext a
    apply Fin.ext
    match a with
    | ⟨0, _⟩ => show (y.val * 128 + j.val) / 524288 = y.val / 4096; omega
    | ⟨1, _⟩ => show (y.val * 128 + j.val) / 128 % 4096 = y.val % 4096; omega
    | ⟨2, _⟩ => show (y.val * 128 + j.val) % 128 = j.val; omega
  rw [val_main_v56_apply, e, share_apply]

theorem share_eq : val_main_v56 (F := Ideal) x0 x1 x2 x3 x4 x5 x6 x7 x8
    = fun i => shareAt x0 x1 x2 x3 x4 x5 x6 x7 x8 (i 0) (i 1) := by
  funext i
  obtain ⟨y, j, rfl⟩ : ∃ (y : Fin 16384) (j : Fin 128), i = ix2 y j := ⟨i 0, i 1, eq_ix2 i⟩
  exact share_result x0 x1 x2 x3 x4 x5 x6 x7 x8 y j

end Cert.Reference3Ideal.Merge

end
-- ==== Proof.Finite.lean ====
/-
  What the precondition says: the values and lambda's vectors are reals.
-/
module

public import proofs.«01_k».proof.Defs
public import proofs.«01_k».proof.Proof.AttnSpec

@[expose] public section

set_option maxRecDepth 65536

noncomputable section

namespace Cert.Finite

open Idealize.ShloMosaic Cert.AttnSpec

theorem facts : Cert.Pre_finite.Facts where
  slices_S16384x5120_S16384x512_0_1024 := by decide
  bitsLt_bf16_f32 := by decide
  bcast_S_S16384x512 := by decide
  bcast_S_S4x64 := by decide

/-- An extended real of absolute value below infinity is a real. -/
theorem real_of_abs_lt {x : EReal} (h : max x (-x) < ⊤) : ((x.toReal : ℝ) : EReal) = x := by
  refine EReal.coe_toReal (fun e => ?_) (fun e => ?_)
  · subst e; simp at h
  · subst e; simp at h

theorem lt_of_cmp {x y : EReal} (h : Ideal.cmp .olt x y = 1#1) : x < y := by
  by_contra hn
  simp [Ideal.cmp, hn] at h

theorem inf_eq : Ideal.ofBits .f32 0x7F800000#32 = ⊤ := by
  simp [Ideal.ofBits, Ideal.ieee, -EReal.coe_mul]

theorem real_of_pre [Cert.Pre_finite.Facts] (qk : FVec Ideal Cert.Pre_finite.S16384x1024 .bf16) (proj : FVec Ideal Cert.Pre_finite.S16384x5120 .bf16)
    (lv : FVec Ideal Cert.Pre_finite.S4x64 .f32) (g : FVec Ideal Cert.Pre_finite.S1x128 .f32)
    (h : (Cert.Pre_finite.fn (F := Ideal) qk proj lv g).1 = (fun _ => 1#1)
      ∧ (Cert.Pre_finite.fn (F := Ideal) qk proj lv g).2 = (fun _ => 1#1)) :
    (∀ (y : Fin 16384) (h : Fin 4) (d : Fin 128), (((proj (ix2 y (vCol h d))).toReal : ℝ) : EReal) = proj (ix2 y (vCol h d)))
    ∧ ∀ i, (((lv i).toReal : ℝ) : EReal) = lv i := by
  obtain ⟨h1, h2⟩ := h
  refine ⟨fun y h d => ?_, fun i => ?_⟩
  · have e := congrFun h1 (ix2 y (⟨h.val * 128 + d.val, by omega⟩ : Fin 512))
    have e' : Ideal.cmp .olt (max (proj (ix2 y (vCol h d))) (-(proj (ix2 y (vCol h d))))) (Ideal.ofBits .f32 0x7F800000#32) = 1#1 := by
      rw [← e]
      have r : extractStridedSlice Cert.Pre_finite.S16384x512 ![0, 1024] proj
          Cert.Pre_finite.Facts.slices_S16384x5120_S16384x512_0_1024 (ix2 y (⟨h.val * 128 + d.val, by omega⟩ : Fin 512))
          = proj (ix2 y (vCol h d)) := by
        pointwise
        refine congrArg proj (congrArg₂ ix2 rfl (Fin.ext ?_))
        show 1024 + (h.val * 128 + d.val) = (8 + h.val) * 128 + d.val
        omega
      rw [← r]
      rfl
    rw [inf_eq] at e'
    exact real_of_abs_lt (lt_of_cmp e')
  · have e' : Ideal.cmp .olt (max (lv i) (-(lv i))) (Ideal.ofBits .f32 0x7F800000#32) = 1#1 := congrFun h2 i
    rw [inf_eq] at e'
    exact real_of_abs_lt (lt_of_cmp e')

end Cert.Finite

end
-- ==== Proof.RopeSpec.lean ====
/-
  Normalized heads turned by their position, on the extended reals: what it is of a head's 64 lanes, and that a row of two
  heads, whose lanes' partners are gathered by a product with a matrix of zeros and ones, holds the same.
-/
module

public import proofs.«01_k».proof.Proof.AttnMath
public import Idealize.ShloMosaic.Lib.Pointwise

@[expose] public section

noncomputable section

namespace Cert.RopeSpec

open Idealize.ShloMosaic Cert.AttnMath
open scoped BigOperators

def cnt : EReal := Ideal.ofBits .f32 0x42800000#32
def eps : EReal := Ideal.ofBits .f32 0x358637BD#32

/-- A head divided by its root mean square, times the gain. -/
def normed (t g : Fin 64 → EReal) (k : Fin 64) : EReal := rms cnt eps t k * g k

/-- A head's first eight lanes and its next eight, turned by the angles whose cosines and sines are `c` and `s`. -/
def turned (y : Fin 64 → EReal) (c s : Fin 8 → EReal) (k : Fin 64) : EReal :=
  if h : k.val < 8 then y k * c ⟨k, h⟩ - y ⟨k.val + 8, by omega⟩ * s ⟨k, h⟩
  else if h' : k.val < 16 then y k * c ⟨k.val - 8, by omega⟩ + y ⟨k.val - 8, by omega⟩ * s ⟨k.val - 8, by omega⟩
  else y k

theorem cnt_eq : cnt = ((64 : ℝ) : EReal) := by
  simp [cnt, Ideal.ofBits, Ideal.ieee, -EReal.coe_mul]
  norm_num

theorem share_eq : Ideal.ofBits .f32 0x3C800000#32 = ((1 / 64 : ℝ) : EReal) := by
  simp [Ideal.ofBits, Ideal.ieee, -EReal.coe_mul]
  norm_num

theorem one_eq : Ideal.ofBits .f32 0x3F800000#32 = 1 := by
  simp [Ideal.ofBits, Ideal.ieee, -EReal.coe_mul]
  norm_num

theorem eps_pos : ∃ e : ℝ, 0 < e ∧ eps = (e : EReal) := by
  refine ⟨8796093 * 2 ^ (-43 : ℤ), by positivity, ?_⟩
  simp [eps, Ideal.ofBits, Ideal.ieee, -EReal.coe_mul]

/-- The mean by a product with 1/64 is the mean. -/
theorem mean_eq (x : EReal) : x * Ideal.ofBits .f32 0x3C800000#32 = Ideal.div x cnt := by
  rw [cnt_eq, share_eq, Ideal.div_coe (by norm_num)]

theorem square_nonneg (x : EReal) : 0 ≤ x * x := by
  induction x using EReal.rec with
  | bot => simp
  | top => simp
  | coe r => rw [← EReal.coe_mul]; exact_mod_cast mul_self_nonneg r

/-- The normalizing factor is a real number, and zero when the sum of squares is infinite. -/
theorem factor_real {x : EReal} (h : 0 ≤ x) : ∃ r : ℝ, Ideal.rsqrt (Ideal.div x cnt + eps) = (r : EReal) := by
  obtain ⟨e, he, ee⟩ := eps_pos
  rw [cnt_eq, ee]
  induction x using EReal.rec with
  | bot => simp at h
  | top =>
    refine ⟨0, ?_⟩
    rw [Ideal.div_coe (by norm_num), EReal.top_mul_coe_of_pos (by norm_num), EReal.top_add_coe]
    rfl
  | coe x =>
    have hx : 0 ≤ x := by exact_mod_cast h
    rw [div_real x (by norm_num), ← EReal.coe_add]
    have hp : 0 < x / 64 + e := by positivity
    refine ⟨(Real.sqrt (x / 64 + e))⁻¹, ?_⟩
    show (if x / 64 + e < 0 then (⊥ : EReal) else if x / 64 + e = 0 then ⊤ else (((Real.sqrt (x / 64 + e))⁻¹ : ℝ) : EReal)) = _
    rw [if_neg hp.not_gt, if_neg hp.ne']

theorem factor_top : Ideal.rsqrt (Ideal.div ⊤ cnt + eps) = 0 := by
  obtain ⟨e, he, ee⟩ := eps_pos
  rw [cnt_eq, ee, Ideal.div_coe (by norm_num), EReal.top_mul_coe_of_pos (by norm_num), EReal.top_add_coe]
  rfl

/-- A normalized lane is a real number, whatever the head holds, if its gain is. -/
theorem normed_real (t g : Fin 64 → EReal) (k : Fin 64) (hg : ((g k).toReal : EReal) = g k) : ∃ r : ℝ, normed t g k = (r : EReal) := by
  have hs : 0 ≤ ∑ x, t x * t x := Finset.sum_nonneg fun x _ => square_nonneg (t x)
  have top_of (h : t k * t k = ⊤) : ∑ x, t x * t x = ⊤ := top_le_iff.1
    (h ▸ Finset.single_le_sum (f := fun x => t x * t x) (fun x _ => square_nonneg (t x)) (Finset.mem_univ k))
  unfold normed rms
  rw [← hg]
  obtain ⟨r, hr⟩ := factor_real hs
  by_cases hb : t k = ⊥
  · rw [top_of (by rw [hb]; simp), factor_top, mul_zero, zero_mul]; exact ⟨0, rfl⟩
  by_cases ht : t k = ⊤
  · rw [top_of (by rw [ht]; simp), factor_top, mul_zero, zero_mul]; exact ⟨0, rfl⟩
  rw [hr, ← EReal.coe_toReal ht hb, ← EReal.coe_mul, ← EReal.coe_mul]
  exact ⟨_, rfl⟩

/-! Two heads in a row of 128 lanes. -/

/-- Lane `k` of the row's head `u`. -/
def lane (u : Fin 2) (k : Fin 64) : Fin 128 := ⟨u.val * 64 + k.val, by omega⟩

theorem eq_lane (j : Fin 128) : j = lane ⟨j.val / 64, by omega⟩ ⟨j.val % 64, by omega⟩ := by
  apply Fin.ext
  show j.val = j.val / 64 * 64 + j.val % 64
  omega

theorem sum_lanes (f : Fin 128 → EReal) : ∑ l, f l = ∑ k, f (lane 0 k) + ∑ k, f (lane 1 k) := by
  refine (Fin.sum_univ_add (a := 64) (b := 64) f).trans (congrArg₂ (· + ·) ?_ ?_)
  · exact Finset.sum_congr rfl fun k _ => congrArg f (Fin.ext (by show k.val = 0 * 64 + k.val; omega))
  · exact Finset.sum_congr rfl fun k _ => congrArg f (Fin.ext (by show 64 + k.val = 1 * 64 + k.val; omega))

/-- A row's lanes normalized, each with the sum of squares of its own head. -/
def lanes (t g : Fin 128 → EReal) (l : Fin 128) : EReal :=
  t l * Ideal.rsqrt ((if l.val < 64 then ∑ x : Fin 128, (if x.val < 64 then t x * t x else 0)
      else ∑ x : Fin 128, (if x.val < 64 then 0 else t x * t x)) * Ideal.ofBits .f32 0x3C800000#32 + eps) * g l

theorem lanes_eq (t g : Fin 128 → EReal) (u : Fin 2) (k : Fin 64) :
    lanes t g (lane u k) = normed (fun k => t (lane u k)) (fun k => g (lane u k)) k := by
  have h0 (k : Fin 64) : (lane 0 k).val < 64 := by show 0 * 64 + k.val < 64; omega
  have h1 (k : Fin 64) : ¬(lane 1 k).val < 64 := by show ¬1 * 64 + k.val < 64; omega
  unfold lanes normed rms
  rw [mean_eq]
  match u with
  | ⟨0, _⟩ =>
    have e : ∑ x : Fin 128, (if x.val < 64 then t x * t x else 0) = ∑ k, t (lane 0 k) * t (lane 0 k) := by
      rw [sum_lanes, Finset.sum_congr rfl fun k _ => if_pos (h0 k), Finset.sum_congr rfl fun k _ => if_neg (h1 k),
        Finset.sum_const_zero, add_zero]
    exact congrArg (fun s => t (lane 0 k) * Ideal.rsqrt (Ideal.div s cnt + eps) * g (lane 0 k)) ((if_pos (h0 k)).trans e)
  | ⟨1, _⟩ =>
    have e : ∑ x : Fin 128, (if x.val < 64 then 0 else t x * t x) = ∑ k, t (lane 1 k) * t (lane 1 k) := by
      rw [sum_lanes, Finset.sum_congr rfl fun k _ => if_pos (h0 k), Finset.sum_congr rfl fun k _ => if_neg (h1 k),
        Finset.sum_const_zero, zero_add]
    exact congrArg (fun s => t (lane 1 k) * Ideal.rsqrt (Ideal.div s cnt + eps) * g (lane 1 k)) ((if_neg (h1 k)).trans e)

/-- That lane `l` is the lane that lane `j` is turned with. -/
def Partner (l j : Nat) : Prop := (j % 64 < 8 ∧ l = j + 8) ∨ (8 ≤ j % 64 ∧ j % 64 < 16 ∧ l + 8 = j)

instance (l j : Nat) : Decidable (Partner l j) := by unfold Partner; infer_instance

/-- The matrix of zeros and ones that brings every lane its partner. -/
def pick (l j : Fin 128) : EReal := if Partner l j then 1 else 0

theorem pick_one (y : Fin 128 → EReal) (l j : Fin 128) (h : Partner l j) : ∑ x, y x * pick x j = y l := by
  rw [Finset.sum_eq_single l]
  · rw [pick, if_pos h, mul_one]
  · intro x _ hx
    rw [pick, if_neg, mul_zero]
    intro hp
    refine hx (Fin.ext ?_)
    unfold Partner at h hp
    omega
  · exact fun hn => absurd (Finset.mem_univ l) hn

/-- The row after the turn: every lane times `c`, its partner times `s`. The partner is gathered twice, once from the row and
    once from what rounding the row leaves of it, which is nothing here. -/
def group (t g c s : Fin 128 → EReal) (p : Fin 128 → Fin 128 → EReal) (j : Fin 128) : EReal :=
  lanes t g j * c j + (∑ l, lanes t g l * p l j + ∑ l, (lanes t g l - lanes t g l) * p l j) * s j

/-- A lane's factor, and its partner's. -/
def own (c : Fin 8 → EReal) (k : Fin 64) : EReal :=
  if h : k.val < 8 then c ⟨k, h⟩ else if h' : k.val < 16 then c ⟨k.val - 8, by omega⟩ else 1
def other (s : Fin 8 → EReal) (k : Fin 64) : EReal :=
  if h : k.val < 8 then -s ⟨k, h⟩ else if h' : k.val < 16 then s ⟨k.val - 8, by omega⟩ else 0

theorem group_eq (t g cl sl : Fin 128 → EReal) (c s : Fin 8 → EReal) (u : Fin 2)
    (hc : ∀ k, cl (lane u k) = own c k) (hs : ∀ k, sl (lane u k) = other s k)
    (hg : ∀ k : Fin 64, k.val < 16 → ((g (lane u k)).toReal : EReal) = g (lane u k)) (k : Fin 64) :
    group t g cl sl pick (lane u k) = turned (normed (fun k => t (lane u k)) (fun k => g (lane u k))) c s k := by
  have real (k : Fin 64) (h : k.val < 16) : lanes t g (lane u k) - lanes t g (lane u k) = 0 := by
    obtain ⟨r, hr⟩ := normed_real (fun k => t (lane u k)) (fun k => g (lane u k)) k (hg k h)
    rw [lanes_eq, hr, ← EReal.coe_sub, sub_self, EReal.coe_zero]
  have hu : u.val < 2 := u.isLt
  unfold group turned
  rw [hc, hs]
  unfold own other
  by_cases h : k.val < 8
  · rw [dif_pos h, dif_pos h, dif_pos h]
    have hp : Partner (lane u ⟨k.val + 8, by omega⟩).val (lane u k).val := by
      unfold Partner lane
      dsimp only
      omega
    rw [pick_one _ _ _ hp, pick_one (fun l => lanes t g l - lanes t g l) _ _ hp, real _ (by dsimp only; omega), add_zero, lanes_eq,
      lanes_eq, mul_neg, sub_eq_add_neg]
  by_cases h' : k.val < 16
  · rw [dif_neg h, dif_neg h, dif_neg h, dif_pos h', dif_pos h', dif_pos h']
    have hp : Partner (lane u ⟨k.val - 8, by omega⟩).val (lane u k).val := by
      unfold Partner lane
      dsimp only
      omega
    rw [pick_one _ _ _ hp, pick_one (fun l => lanes t g l - lanes t g l) _ _ hp, real _ (by dsimp only; omega), add_zero, lanes_eq,
      lanes_eq]
  · rw [dif_neg h, dif_neg h, dif_neg h, dif_neg h', dif_neg h', dif_neg h', mul_one, mul_zero, add_zero, lanes_eq]

/-! Of whole arrays. -/

/-- The scale of the scores, which the queries' gain takes: log 2 of `e` over eight. -/
def scale : EReal := Ideal.ofBits .f32 0x3E38AA3B#32

theorem scale_real : ∃ r : ℝ, scale = (r : EReal) := by
  simp [scale, Ideal.ofBits, Ideal.ieee, -EReal.coe_mul]

/-- The gain of a lane of the queries, then of the keys. -/
def gain (gq gk : (⟨2, ![1, 64]⟩ : Shape).Idx → EReal) (z : Fin 1024) : EReal :=
  if z.val < 512 then gq (ix2 0 ⟨z.val % 64, by omega⟩) * scale else gk (ix2 0 ⟨z.val % 64, by omega⟩)

/-- Lane `k` of the head that column `z` lies in, and in all columns of the projection. -/
def headLane (z : Fin 1024) (k : Fin 64) : Fin 1024 := ⟨z.val / 64 * 64 + k.val, by omega⟩
def wide (z : Fin 1024) : Fin 5120 := ⟨z, by omega⟩

/-- The queries and the keys at row `y`, column `z`. -/
def ropeAt (x : (⟨2, ![16384, 5120]⟩ : Shape).Idx → EReal) (c s : (⟨2, ![4096, 8]⟩ : Shape).Idx → EReal)
    (gq gk : (⟨2, ![1, 64]⟩ : Shape).Idx → EReal) (y : Fin 16384) (z : Fin 1024) : EReal :=
  turned (normed (fun k => x (ix2 y (wide (headLane z k)))) (fun k => gain gq gk (headLane z k)))
    (fun d => c (ix2 ⟨y.val % 4096, by omega⟩ d)) (fun d => s (ix2 ⟨y.val % 4096, by omega⟩ d)) ⟨z.val % 64, by omega⟩

end Cert.RopeSpec

end
-- ==== Proof.RopeBlock.lean ====
/-
  What a grid point leaves in its block of queries and keys: eight groups of 128 lanes, each two heads.
-/
module

public import proofs.«01_k».proof.Proof.Gen.Kernel4Ideal.Frame
public import proofs.«01_k».proof.Proof.RopeSpec
public import Idealize.ShloMosaic.Lib.Pipeline.ValueKit

@[expose] public section

set_option maxRecDepth 65536

noncomputable section

namespace Cert.Kernel4Ideal.Rope

open Cert.Kernel4Ideal Cert.Kernel4Ideal.Gen Idealize.ShloMosaic Idealize.ShloMosaic.TcCoe Idealize.SL.Sem
open Cert.AttnMath Cert.RopeSpec
open scoped BigOperators

/-- The mask of the first head's lanes. -/
theorem mask_select {A : Type} (l : Fin 128) (a b : A) :
    Scalar.select (IntOp.cmpi .slt (BitVec.ofNat 32 l.val) 64#32) a b = if l.val < 64 then a else b := by
  have h : ∀ l : Fin 128, IntOp.cmpi .slt (BitVec.ofNat 32 l.val) 64#32 = if l.val < 64 then 1#1 else 0#1 := by decide +kernel
  rw [h]
  by_cases hl : l.val < 64
  · rw [if_pos hl, if_pos hl]; rfl
  · rw [if_neg hl, if_neg hl]; rfl

/-- A group's lanes, normalized. -/
theorem lanes_apply (x : Vec Ideal S1024x128 .bf16) (g : Vec Ideal S1x128 .f32) (r : Fin 1024) (l : Fin 128) :
    k0_pay6 x g (ix2 r l) = lanes (fun l => x (ix2 r l)) (fun l => g (ix2 0 l)) l := by
  pointwise [k0_pay6, k0_pay2]
  simp only [mask_select]
  rfl

/-- A group after the turn, of normalized lanes `y`. -/
theorem turn_apply (c s : Vec Ideal S1024x128 .f32) (p : Vec Ideal S128x128 .bf16) (y : FVec Ideal S1024x128 .f32) (r : Fin 1024)
    (j : Fin 128) :
    k0_pay8 (k0_pay3 c) (k0_pay4 s) (k0_pay5 p) y (truncf .bf16 y bitsLt_bf16_f32) (ix2 r j)
      = y (ix2 r j) * c (ix2 r j)
        + (∑ l : Fin 128, y (ix2 r l) * p (ix2 l j) + ∑ l : Fin 128, (y (ix2 r l) - y (ix2 r l)) * p (ix2 l j)) * s (ix2 r j) := by
  pointwise [k0_pay8, k0_pay3, k0_pay4, k0_pay5]

/-- What the body stores of a group. -/
def groupOf (c s : Vec Ideal S1024x128 .f32) (p : Vec Ideal S128x128 .bf16) (x : Vec Ideal S1024x128 .bf16) (g : Vec Ideal S1x128 .f32) :
    FVec Ideal S1024x128 .bf16 :=
  k0_pay8 (k0_pay3 c) (k0_pay4 s) (k0_pay5 p) (k0_pay6 x g) (k0_pay7 x g)

theorem groupOf_apply (c s : Vec Ideal S1024x128 .f32) (p : Vec Ideal S128x128 .bf16) (x : Vec Ideal S1024x128 .bf16)
    (g : Vec Ideal S1x128 .f32) (r : Fin 1024) (j : Fin 128) :
    groupOf c s p x g (ix2 r j) = group (fun l => x (ix2 r l)) (fun l => g (ix2 0 l)) (fun l => c (ix2 r l)) (fun l => s (ix2 r l))
      (fun l j => p (ix2 l j)) j := by
  refine (turn_apply c s p (k0_pay6 x g) r j).trans ?_
  simp only [lanes_apply]
  rfl

/-- Column `l` of group `a` of the block. -/
def col (a : Fin 8) (l : Fin 128) : Fin 1024 := ⟨a.val * 128 + l.val, by omega⟩

theorem eq_col (z : Fin 1024) : z = col ⟨z.val / 128, by omega⟩ ⟨z.val % 128, by omega⟩ := by
  apply Fin.ext
  show z.val = z.val / 128 * 128 + z.val % 128
  omega

theorem in_block (a : Fin 8) : ∀ d, (![0, a.val * 128] : Fin 2 → Nat) d + S1024x128.size d ≤ S1024x1024.size d := by
  revert a; decide

theorem in_row (a : Fin 8) : ∀ d, (![0, a.val * 128] : Fin 2 → Nat) d + S1x128.size d ≤ S1x1024.size d := by
  revert a; decide

/-- Where group `a` lies in the block, and its gain in the gains. -/
abbrev cut (a : Fin 8) : Rect S1024x1024 := Rect.unit (s := S1024x1024) ![0, a.val * 128] S1024x128.size (in_block a)
abbrev cutGain (a : Fin 8) : Rect S1x1024 := Rect.unit (s := S1x1024) ![0, a.val * 128] S1x128.size (in_row a)

theorem place (a : Fin 8) (r : Fin 1024) (l : Fin 128) : (cut a).emb (ix2 r l) = ix2 r (col a l) := by blk_ext [col]

variable (x0 : Vec Ideal S1024x1024 .bf16) (x1 x2 : Vec Ideal S1024x128 .f32) (x3 : Vec Ideal S128x128 .bf16) (x4 : Vec Ideal S1x1024 .f32)

/-- The block's row after the turn. -/
def rowAt (r z : Fin 1024) : EReal :=
  group (fun l => x0 (ix2 r (col ⟨z.val / 128, by omega⟩ l))) (fun l => x4 (ix2 0 (col ⟨z.val / 128, by omega⟩ l)))
    (fun l => x1 (ix2 r l)) (fun l => x2 (ix2 r l)) (fun l j => x3 (ix2 l j)) ⟨z.val % 128, by omega⟩

theorem rowAt_col (a : Fin 8) (r : Fin 1024) (l : Fin 128) :
    rowAt x0 x1 x2 x3 x4 r (col a l)
      = group (fun l => x0 (ix2 r (col a l))) (fun l => x4 (ix2 0 (col a l))) (fun l => x1 (ix2 r l)) (fun l => x2 (ix2 r l))
          (fun l j => x3 (ix2 l j)) l := by
  have ea : (⟨(col a l).val / 128, by omega⟩ : Fin 8) = a := Fin.ext (by show (a.val * 128 + l.val) / 128 = a.val; omega)
  have el : (⟨(col a l).val % 128, by omega⟩ : Fin 128) = l := Fin.ext (by show (a.val * 128 + l.val) % 128 = l.val; omega)
  unfold rowAt
  rw [ea, el]

theorem piece (a : Fin 8) (i : S1024x128.Idx) :
    groupOf (View.ld x1 r0_0) (View.ld x2 r0_0) (View.ld x3 r0_1) (View.ld x0 (cut a)) (View.ld x4 (cutGain a)) i
      = rowAt x0 x1 x2 x3 x4 ((cut a).emb i 0) ((cut a).emb i 1) := by
  obtain ⟨r, l, rfl⟩ : ∃ (r : Fin 1024) (l : Fin 128), i = ix2 r l := ⟨i 0, i 1, eq_ix2 i⟩
  have hx (l : Fin 128) : View.ld x0 (cut a) (ix2 r l) = x0 (ix2 r (col a l)) := by
    pointwise [col]
  have hg (l : Fin 128) : View.ld x4 (cutGain a) (ix2 0 l) = x4 (ix2 0 (col a l)) := by
    pointwise [col]
  have hc (l : Fin 128) : View.ld x1 r0_0 (ix2 r l) = x1 (ix2 r l) := by pointwise []
  have hs (l : Fin 128) : View.ld x2 r0_0 (ix2 r l) = x2 (ix2 r l) := by pointwise []
  have hp (l j : Fin 128) : View.ld x3 r0_1 (ix2 l j) = x3 (ix2 l j) := by pointwise []
  rw [place]
  refine Eq.trans ?_ (rowAt_col x0 x1 x2 x3 x4 a r l).symm
  refine (groupOf_apply _ _ _ _ _ r l).trans ?_
  simp only [hx, hg, hc, hs, hp]

/-- What the body leaves in the block. -/
theorem out_block (r z : Fin 1024) : out0_5 x0 x1 x2 x3 x4 (ix2 r z) = rowAt x0 x1 x2 x3 x4 r z := by
  unfold_out out0_5
  refine View.canon_apply_of_pieces (Val := Elt Ideal) (e := .bf16) (fun y : S1024x1024.Idx => rowAt x0 x1 x2 x3 x4 (y 0) (y 1)) _ ?_
    (ix2 r z) (cover0_5 _ _ _ _ _ _ _ _ (ix2 r z))
  simp only [List.forall_mem_cons, List.not_mem_nil, false_imp_iff, implies_true, and_true]
  exact ⟨piece x0 x1 x2 x3 x4 7, piece x0 x1 x2 x3 x4 6, piece x0 x1 x2 x3 x4 5, piece x0 x1 x2 x3 x4 4, piece x0 x1 x2 x3 x4 3,
    piece x0 x1 x2 x3 x4 2, piece x0 x1 x2 x3 x4 1, piece x0 x1 x2 x3 x4 0⟩

end Cert.Kernel4Ideal.Rope

end
-- ==== Proof.RopeTable.lean ====
/-
  The table that the version multiplies a row with to bring every lane its partner: zeros, and a one at the partner.
-/
module

public import proofs.«01_k».proof.Proof.Gen.Kernel4Ideal.Skeleton
public import proofs.«01_k».proof.Proof.RopeSpec

@[expose] public section

set_option maxRecDepth 65536

noncomputable section

namespace Cert.Kernel4Ideal.Rope

open Cert.Kernel4Ideal Idealize.ShloMosaic Cert.RopeSpec

theorem word : ∀ i : Fin 16384, lit0t i.val = if Partner (i.val / 128) (i.val % 128) then 0x3F800000#32 else 0x00000000#32 := by
  decide +kernel

end Cert.Kernel4Ideal.Rope

end
-- ==== Proof.RopeArray.lean ====
/-
  The queries and keys as a whole array: what the host builds for the kernel, and the sixteen blocks together.
-/
module

public import proofs.«01_k».proof.Proof.RopeBlock
public import proofs.«01_k».proof.Proof.RopeTable

@[expose] public section

set_option maxRecDepth 65536

noncomputable section

namespace Cert.Kernel4Ideal.Rope

open Cert.Kernel4Ideal Cert.Kernel4Ideal.Gen Idealize.ShloMosaic Idealize.ShloMosaic.TcCoe Idealize.SL.Sem
open Cert.AttnMath Cert.RopeSpec
open scoped BigOperators

variable (m : (ℓ : Loc nD τ sig) → Buf (Elt Ideal) ℓ) (c : Dev nD)

theorem x_host (y : Fin 16384) (z : Fin 5120) : V m c main_arg0 (ix2 y z) = m ((c : Thread nD τ).loc main_arg0) (ix2 y z) := by
  entry_read
  rfl

theorem perm_host (l j : Fin 128) : V m c main_v7 (ix2 l j) = pick l j := by
  entry_read
  have e : (S128x128.rowMajor (ix2 l j)).val = l.val * 128 + j.val := by rw [Shape.rowMajor_val_two]; rfl
  have w : lit0 (S128x128.rowMajor (ix2 l j)) = if Partner l.val j.val then 0x3F800000#32 else 0x00000000#32 := by
    refine (word (S128x128.rowMajor (ix2 l j))).trans ?_
    rw [e, show (l.val * 128 + j.val) / 128 = l.val by omega, show (l.val * 128 + j.val) % 128 = j.val by omega]
  show Ideal.ofBits .f32 (lit0 (S128x128.rowMajor (ix2 l j))) = pick l j
  rw [w, pick]
  by_cases h : Partner l.val j.val
  · rw [if_pos h, if_pos h, one_eq]
  · rw [if_neg h, if_neg h]
    exact Ideal.ofBits_zero_f32

/-- Two columns of eight and the rest, joined. -/
def joined (a b : Vec Ideal S4096x8 .f32) (v : Vec Ideal S_ .f32) : Vec Ideal S4096x64 .f32 :=
  concatenate S4096x64 1 [⟨S4096x8, a⟩, ⟨S4096x8, b⟩, ⟨S4096x48, broadcastInDim S4096x48 ![] bcast_S_S4096x48 v⟩]
    concatenates_S4096x8_S4096x8_S4096x48_S4096x64_d1

/-- The same for two heads. -/
def doubled (w : Vec Ideal S4096x64 .f32) : Vec Ideal S4096x128 .f32 :=
  concatenate S4096x128 1 [⟨S4096x64, w⟩, ⟨S4096x64, w⟩] concatenates_S4096x64_S4096x64_S4096x128_d1

theorem joined_apply (a b : Vec Ideal S4096x8 .f32) (v : Vec Ideal S_ .f32) (p : Fin 4096) (k : Fin 64) :
    joined a b v (ix2 p k) = if h : k.val < 8 then a (ix2 p ⟨k.val, h⟩)
      else if h' : k.val < 16 then b (ix2 p ⟨k.val - 8, by omega⟩) else v ix0 := by
  pointwise [joined]
  by_cases h : k.val < 8
  · rw [dif_pos h, dif_pos h]
  by_cases h' : k.val < 16
  · rw [dif_neg h, dif_neg h, dif_pos h', dif_pos (by omega)]
  · rw [dif_neg h, dif_neg h, dif_neg h', dif_neg (by omega)]

theorem doubled_apply (w : Vec Ideal S4096x64 .f32) (p : Fin 4096) (u : Fin 2) (k : Fin 64) :
    doubled w (ix2 p (lane u k)) = w (ix2 p k) := by
  have hu : u.val = 0 ∨ u.val = 1 := by omega
  pointwise [doubled, lane]
  rcases hu with hu | hu
  · rw [dif_pos (by omega)]
    exact congrArg w (congrArg (ix2 p) (Fin.ext (by show u.val * 64 + k.val = k.val; omega)))
  · rw [dif_neg (by omega)]
    exact congrArg w (congrArg (ix2 p) (Fin.ext (by show u.val * 64 + k.val - 64 = k.val; omega)))

theorem cos_term : V m c main_v5 = doubled (joined (m ((c : Thread nD τ).loc main_arg1)) (m ((c : Thread nD τ).loc main_arg1))
    (constant (F := Ideal) S_ .f32 0x3F800000#32)) := rfl

theorem sin_term : V m c main_v6 = doubled (joined (Host.negf (F := Ideal) (s := S4096x8) (φ := .f32) (m ((c : Thread nD τ).loc main_arg2)))
    (m ((c : Thread nD τ).loc main_arg2)) (constant (F := Ideal) S_ .f32 0x00000000#32)) := rfl

theorem cos_host (p : Fin 4096) (u : Fin 2) (k : Fin 64) :
    V m c main_v5 (ix2 p (lane u k)) = own (fun d => m ((c : Thread nD τ).loc main_arg1) (ix2 p d)) k := by
  rw [cos_term, doubled_apply, joined_apply]
  have e : constant (F := Ideal) S_ .f32 0x3F800000#32 ix0 = 1 := one_eq
  rw [e]
  rfl

theorem sin_host (p : Fin 4096) (u : Fin 2) (k : Fin 64) :
    V m c main_v6 (ix2 p (lane u k)) = other (fun d => m ((c : Thread nD τ).loc main_arg2) (ix2 p d)) k := by
  rw [sin_term, doubled_apply, joined_apply]
  have e : constant (F := Ideal) S_ .f32 0x00000000#32 ix0 = 0 := Ideal.ofBits_zero_f32
  rw [e]
  rfl

theorem gain_split (a b : (⟨2, ![1, 64]⟩ : Shape).Idx → EReal) (z : Fin 1024) :
    (if h : z.val < 512 then a (ix2 0 ⟨z.val % 64, by omega⟩) * scale else b (ix2 0 ⟨(z.val - 512) % 64, by omega⟩)) = gain a b z := by
  have e (h : ¬z.val < 512) : (⟨(z.val - 512) % 64, by omega⟩ : Fin 64) = ⟨z.val % 64, by omega⟩ :=
    Fin.ext (by show (z.val - 512) % 64 = z.val % 64; omega)
  unfold gain
  by_cases h : z.val < 512
  · rw [dif_pos h, if_pos h]
  · rw [dif_neg h, if_neg h, e h]

theorem gain_host (z : Fin 1024) : V m c main_v19 (ix2 0 z)
    = gain (m ((c : Thread nD τ).loc main_arg3)) (m ((c : Thread nD τ).loc main_arg4)) z := by
  refine Eq.trans ?_ (gain_split _ _ z)
  entry_read
  pointwise
  unfold scale
  rfl

/-- The windows' blocks at a point. -/
theorem idx : ∀ t : Fin cfg0.N,
    win0_0.index t = ![t.val, 0] ∧ win0_1.index t = ![t.val % 4, 0] ∧ win0_2.index t = ![t.val % 4, 0]
    ∧ win0_3.index t = ![0, 0] ∧ win0_4.index t = ![0, 0] ∧ win0_5.index t = ![t.val, 0] :=
  (by decide +kernel : ∀ t : Fin grid0.N,
    win0_0.index t = ![t.val, 0] ∧ win0_1.index t = ![t.val % 4, 0] ∧ win0_2.index t = ![t.val % 4, 0]
    ∧ win0_3.index t = ![0, 0] ∧ win0_4.index t = ![0, 0] ∧ win0_5.index t = ![t.val, 0])

theorem lt_points (t : Fin cfg0.N) : t.val < 16 := t.isLt

/-- The array's row at a point's row, and its position in its sequence. -/
def rowOf (t : Fin cfg0.N) (r : Fin 1024) : Fin 16384 := ⟨t.val * 1024 + r, by have := lt_points t; omega⟩
def posOf (t : Fin cfg0.N) (r : Fin 1024) : Fin 4096 := ⟨t.val % 4 * 1024 + r, by omega⟩

theorem pos_eq (t : Fin cfg0.N) (r : Fin 1024) : posOf t r = ⟨(rowOf t r).val % 4096, by omega⟩ := by
  apply Fin.ext
  show t.val % 4 * 1024 + r.val = (t.val * 1024 + r.val) % 4096
  omega

theorem x_read (t : Fin cfg0.N) (r z : Fin 1024) :
    iblk m c 0 t (ix2 r z) = m ((c : Thread nD τ).loc main_arg0) (ix2 (rowOf t r) (wide z)) := by
  have e : iblk m c 0 t (ix2 r z) = V m c main_arg0 (ix2 (rowOf t r) (wide z)) := by
    blk_ext [iblk, idx t, rowOf, wide]
  rw [e, x_host]

theorem cos_read (t : Fin cfg0.N) (r : Fin 1024) (j : Fin 128) : iblk m c 1 t (ix2 r j) = V m c main_v5 (ix2 (posOf t r) j) := by
  blk_ext [iblk, idx t, posOf]

theorem sin_read (t : Fin cfg0.N) (r : Fin 1024) (j : Fin 128) : iblk m c 2 t (ix2 r j) = V m c main_v6 (ix2 (posOf t r) j) := by
  blk_ext [iblk, idx t, posOf]

theorem perm_read (t : Fin cfg0.N) (l j : Fin 128) : iblk m c 3 t (ix2 l j) = pick l j := by
  have e : iblk m c 3 t (ix2 l j) = V m c main_v7 (ix2 l j) := by
    blk_ext [iblk, idx t]
  rw [e, perm_host]

theorem gain_read (t : Fin cfg0.N) (z : Fin 1024) :
    iblk m c 4 t (ix2 0 z) = gain (m ((c : Thread nD τ).loc main_arg3)) (m ((c : Thread nD τ).loc main_arg4)) z := by
  have e : iblk m c 4 t (ix2 0 z) = V m c main_v19 (ix2 0 z) := by
    blk_ext [iblk, idx t]
  rw [e, gain_host]

theorem out_place (t : Fin cfg0.N) (r z : Fin 1024) : ((cfg0.win 5).blk t).view.emb (ix2 r z) = ix2 (rowOf t r) z := by
  blk_ext [idx t, rowOf]

/-- The first sixteen lanes of both gains are real numbers. -/
def Tame : Prop :=
  ∀ k : Fin 64, k.val < 16 →
    ((m ((c : Thread nD τ).loc main_arg3) (ix2 0 k) : EReal).toReal : EReal) = m ((c : Thread nD τ).loc main_arg3) (ix2 0 k)
    ∧ ((m ((c : Thread nD τ).loc main_arg4) (ix2 0 k) : EReal).toReal : EReal) = m ((c : Thread nD τ).loc main_arg4) (ix2 0 k)

theorem row_eq (h : Tame m c) (t : Fin cfg0.N) (r : Fin 1024) (a : Fin 8) (u : Fin 2) (k : Fin 64) :
    rowAt (iblk m c 0 t) (iblk m c 1 t) (iblk m c 2 t) (iblk m c 3 t) (iblk m c 4 t) r (col a (lane u k))
      = ropeAt (m ((c : Thread nD τ).loc main_arg0)) (m ((c : Thread nD τ).loc main_arg1)) (m ((c : Thread nD τ).loc main_arg2))
          (m ((c : Thread nD τ).loc main_arg3)) (m ((c : Thread nD τ).loc main_arg4)) (rowOf t r) (col a (lane u k)) := by
  have hh (x : Fin 64) : headLane (col a (lane u k)) x = col a (lane u x) := by
    apply Fin.ext
    show (a.val * 128 + (u.val * 64 + k.val)) / 64 * 64 + x.val = a.val * 128 + (u.val * 64 + x.val)
    omega
  have hk : (⟨(col a (lane u k)).val % 64, by omega⟩ : Fin 64) = k := by
    apply Fin.ext
    show (a.val * 128 + (u.val * 64 + k.val)) % 64 = k.val
    omega
  rw [rowAt_col]
  unfold ropeAt
  simp only [hh, hk, x_read, perm_read, gain_read]
  rw [← pos_eq]
  refine group_eq _ _ _ _ _ _ u (fun k => ?_) (fun k => ?_) (fun x hx => ?_) k
  · rw [cos_read, cos_host]
  · rw [sin_read, sin_host]
  · have e : (⟨(col a (lane u x)).val % 64, by omega⟩ : Fin 64) = x := by
      apply Fin.ext
      show (a.val * 128 + (u.val * 64 + x.val)) % 64 = x.val
      omega
    unfold gain
    rw [e]
    by_cases hz : (col a (lane u x)).val < 512
    · rw [if_pos hz, ← (h x hx).1]
      obtain ⟨q, hq⟩ := scale_real
      rw [hq, ← EReal.coe_mul, EReal.toReal_coe]
    · rw [if_neg hz]
      exact (h x hx).2

/-- The result array holds the queries and the keys. -/
theorem array_eq (h : Tame m c) :
    (dats m 0 c).arrAt 5 cfg0.N
      = fun y => ropeAt (m ((c : Thread nD τ).loc main_arg0)) (m ((c : Thread nD τ).loc main_arg1)) (m ((c : Thread nD τ).loc main_arg2))
          (m ((c : Thread nD τ).loc main_arg3)) (m ((c : Thread nD τ).loc main_arg4)) (y 0) (y 1) := by
  refine (dats m 0 c).arrAt_eq_of_covers 5 _ (by decide +kernel) fun t hf y => ?_
  blk_simp
  rw [after0_5]
  obtain ⟨r, z, rfl⟩ : ∃ (r z : Fin 1024), y = ix2 r z := ⟨y 0, y 1, eq_ix2 y⟩
  rw [out_place]
  refine (out_block _ _ _ _ _ r z).trans ?_
  rw [eq_col z, eq_lane ⟨z.val % 128, by omega⟩]
  exact row_eq m c h t r _ _ _

end Cert.Kernel4Ideal.Rope

end
-- ==== Proof.RopeRef.lean ====
/-
  The reference's queries and keys at an index.
-/
module

public import proofs.«01_k».proof.Proof.Gen.Reference4Ideal.Read
public import proofs.«01_k».proof.Proof.RopeSpec

@[expose] public section

set_option maxRecDepth 65536

noncomputable section

namespace Cert.Reference4Ideal.Rope

open Cert.Reference4Ideal Cert.Reference4Ideal.Gen Cert.Reference4Ideal.Read Idealize.ShloMosaic Idealize.ShloMosaic.TcCoe Idealize.SL.Sem
open Cert.AttnMath Cert.RopeSpec
open scoped BigOperators

/-- The array's row and column of a lane `k` of head `h` of the queries (`u = 0`) or the keys (`u = 1`) of token `l` of sequence `b`. -/
def rowAt (b : Fin 4) (l : Fin 4096) : Fin 16384 := ⟨b.val * 4096 + l.val, by omega⟩
def colAt (u : Fin 2) (h : Fin 8) (k : Fin 64) : Fin 1024 := ⟨(u.val * 8 + h.val) * 64 + k.val, by omega⟩

variable (x0 : (⟨S16384x5120, .bf16⟩ : BufTy).Contents (Elt Ideal)) (x1 x2 : (⟨S4096x8, .f32⟩ : BufTy).Contents (Elt Ideal))
  (x3 x4 : (⟨S1x64, .f32⟩ : BufTy).Contents (Elt Ideal))

theorem heads_apply (b : Fin 4) (l : Fin 4096) (u : Fin 2) (h : Fin 8) (k : Fin 64) :
    val_main_v9 (F := Ideal) x0 (ix5 b l u h k) = x0 (ix2 (rowAt b l) (wide (colAt u h k))) := by
  have e : idx_main_v7 (idx_main_v9 (ix5 b l u h k)) = ix2 (rowAt b l) (wide (colAt u h k)) := by
    funext a
    apply Fin.ext
    match a with
    | ⟨0, _⟩ => show ((((b.val * 4096 + l.val) * 2 + u.val) * 8 + h.val) * 64 + k.val) / 1024 = b.val * 4096 + l.val; omega
    | ⟨1, _⟩ => show ((((b.val * 4096 + l.val) * 2 + u.val) * 8 + h.val) * 64 + k.val) % 1024 = (u.val * 8 + h.val) * 64 + k.val; omega
  rw [val_main_v9_apply, val_main_v8_apply, val_main_v7_apply, e]
  rfl

/-- A head's sum of squares. -/
theorem squares_apply (b : Fin 4) (l : Fin 4096) (u : Fin 2) (h : Fin 8) :
    val_main_v12 (F := Ideal) x0 (ix4 b l u h)
      = ∑ k : Fin 64, x0 (ix2 (rowAt b l) (wide (colAt u h k))) * x0 (ix2 (rowAt b l) (wide (colAt u h k))) := by
  have e (k : Fin 64) : idx_main_v12 (ix4 b l u h) k = ix5 b l u h k := by
    funext a
    match a with
    | ⟨0, _⟩ => rfl
    | ⟨1, _⟩ => rfl
    | ⟨2, _⟩ => rfl
    | ⟨3, _⟩ => rfl
    | ⟨4, _⟩ => rfl
  have z : val_main_cst_0 (F := Ideal) (Shape.Idx.first h_S_) = 0 := by
    rw [val_main_cst_0_apply]
    exact Ideal.ofBits_zero_f32
  rw [val_main_v12_apply, z, zero_add]
  exact Finset.sum_congr rfl fun k _ => by rw [e, val_main_v11_apply, heads_apply]; rfl

/-- Its normalizing factor. -/
theorem factor_apply (b : Fin 4) (l : Fin 4096) (u : Fin 2) (h : Fin 8) :
    val_main_v18 (F := Ideal) x0 (ix5 b l u h 0)
      = Ideal.rsqrt (Ideal.div (∑ k : Fin 64, x0 (ix2 (rowAt b l) (wide (colAt u h k))) * x0 (ix2 (rowAt b l) (wide (colAt u h k)))) cnt
          + eps) := by
  have e : idx_main_v13 (ix5 b l u h 0) = ix4 b l u h := by
    funext a
    match a with
    | ⟨0, _⟩ => rfl
    | ⟨1, _⟩ => rfl
    | ⟨2, _⟩ => rfl
    | ⟨3, _⟩ => rfl
  rw [val_main_v18_apply, val_main_v17_apply, val_main_v16_apply, val_main_v15_apply, val_main_v14_apply, val_main_v13_apply,
    val_main_cst_1_apply, val_main_cst_2_apply, e, squares_apply]
  generalize ∑ k : Fin 64, x0 (ix2 (rowAt b l) (wide (colAt u h k))) * x0 (ix2 (rowAt b l) (wide (colAt u h k))) = y
  rfl

theorem stacked_apply (a b : Vec Ideal S1x64 .f32) (u : Fin 2) (k : Fin 64) :
    concatenate S2x64 0 [⟨S1x64, a⟩, ⟨S1x64, b⟩] concatenates_S1x64_S1x64_S2x64_d0 (ix2 u k)
      = if u.val < 1 then a (ix2 0 k) else b (ix2 0 k) := by
  pointwise
  match u with
  | ⟨0, _⟩ => rfl
  | ⟨1, _⟩ => rfl

/-- The gain of every lane. -/
theorem gain_apply (b : Fin 4) (l : Fin 4096) (u : Fin 2) (h : Fin 8) (k : Fin 64) :
    val_main_v22 (F := Ideal) x3 x4 (ix5 b l u h k) = gain x3 x4 (colAt u h k) := by
  have e : idx_main_v10 (idx_main_v21 (idx_main_v22 (ix5 b l u h k))) = ix2 u k := by
    funext a
    match a with
    | ⟨0, _⟩ => rfl
    | ⟨1, _⟩ => rfl
  have eq : idx_main_v0 (idx_main_v4 (ix2 0 k)) = ix2 0 k := by
    funext a
    match a with
    | ⟨0, _⟩ => rfl
    | ⟨1, _⟩ => exact Fin.ext (Nat.mod_eq_of_lt k.isLt)
  have ek : idx_main_v3 (idx_main_v5 (ix2 0 k)) = ix2 0 k := by
    funext a
    match a with
    | ⟨0, _⟩ => rfl
    | ⟨1, _⟩ => exact Fin.ext (Nat.mod_eq_of_lt k.isLt)
  have hk : (⟨(colAt u h k).val % 64, by omega⟩ : Fin 64) = k := by
    apply Fin.ext
    show ((u.val * 8 + h.val) * 64 + k.val) % 64 = k.val
    omega
  have hu : (colAt u h k).val < 512 ↔ u.val < 1 := by
    show (u.val * 8 + h.val) * 64 + k.val < 512 ↔ u.val < 1
    omega
  rw [val_main_v22_apply, val_main_v21_apply, val_main_v10_apply, e]
  refine (stacked_apply _ _ u k).trans ?_
  unfold gain
  rw [hk]
  by_cases hh : u.val < 1
  · rw [if_pos hh, if_pos (hu.2 hh), val_main_v4_apply, val_main_v2_apply, val_main_v1_apply, val_main_cst_apply, val_main_v0_apply, eq]
    rfl
  · rw [if_neg hh, if_neg (fun h => hh (hu.1 h)), val_main_v5_apply, val_main_v3_apply, ek]

/-- The normalized heads. -/
theorem normed_apply (b : Fin 4) (l : Fin 4096) (u : Fin 2) (h : Fin 8) (k : Fin 64) :
    val_main_v23 (F := Ideal) x0 x3 x4 (ix5 b l u h k)
      = normed (fun k => x0 (ix2 (rowAt b l) (wide (colAt u h k)))) (fun k => gain x3 x4 (colAt u h k)) k := by
  have e : idx_main_v19 (ix5 b l u h k) = ix5 b l u h 0 := by
    funext a
    match a with
    | ⟨0, _⟩ => rfl
    | ⟨1, _⟩ => rfl
    | ⟨2, _⟩ => rfl
    | ⟨3, _⟩ => rfl
    | ⟨4, _⟩ => rfl
  rw [val_main_v23_apply, gain_apply, val_main_v20_apply, val_main_v19_apply, e, factor_apply, heads_apply]
  rfl

/-! The angles, spread over the heads. -/

theorem cos_apply (b : Fin 4) (l : Fin 4096) (u : Fin 2) (h : Fin 8) (d : Fin 8) :
    val_main_v29 (F := Ideal) x1 (ix5 b l u h d) = x1 (ix2 l d) := by
  have e : idx_main_v24 (idx_main_v28 (idx_main_v29 (ix5 b l u h d))) = ix2 l d := by
    funext a
    match a with
    | ⟨0, _⟩ => rfl
    | ⟨1, _⟩ => rfl
  rw [val_main_v29_apply, val_main_v28_apply, val_main_v24_apply, e]

theorem sin_apply (b : Fin 4) (l : Fin 4096) (u : Fin 2) (h : Fin 8) (d : Fin 8) :
    val_main_v32 (F := Ideal) x2 (ix5 b l u h d) = x2 (ix2 l d) := by
  have e : idx_main_v25 (idx_main_v31 (idx_main_v32 (ix5 b l u h d))) = ix2 l d := by
    funext a
    match a with
    | ⟨0, _⟩ => rfl
    | ⟨1, _⟩ => rfl
  rw [val_main_v32_apply, val_main_v31_apply, val_main_v25_apply, e]

theorem cos_again : val_main_v36 (F := Ideal) x1 = val_main_v29 (F := Ideal) x1 := rfl
theorem sin_again : val_main_v39 (F := Ideal) x2 = val_main_v32 (F := Ideal) x2 := rfl

theorem joined_apply (p q : Vec Ideal S4x4096x2x8x8 .f32) (v : Vec Ideal S4x4096x2x8x48 .f32) (b : Fin 4) (l : Fin 4096) (u : Fin 2)
    (h : Fin 8) (k : Fin 64) :
    concatenate S4x4096x2x8x64 4 [⟨S4x4096x2x8x8, p⟩, ⟨S4x4096x2x8x8, q⟩, ⟨S4x4096x2x8x48, v⟩]
        concatenates_S4x4096x2x8x8_S4x4096x2x8x8_S4x4096x2x8x48_S4x4096x2x8x64_d4 (ix5 b l u h k)
      = if hk : k.val < 8 then p (ix5 b l u h ⟨k.val, hk⟩)
        else if hk' : k.val < 16 then q (ix5 b l u h ⟨k.val - 8, by omega⟩) else v (ix5 b l u h ⟨k.val - 16, by omega⟩) := by
  pointwise
  by_cases hk : k.val < 8
  · rw [dif_pos hk, dif_pos hk]
  by_cases hk' : k.val < 16
  · rw [dif_neg hk, dif_neg hk, dif_pos hk', dif_pos (by omega)]
  · rw [dif_neg hk, dif_neg hk, dif_neg hk', dif_neg (by omega)]
    exact congrArg v (congrArg (ix5 b l u h) (Fin.ext (by show k.val - 8 - 8 = k.val - 16; omega)))

/-- The slices of the first eight lanes, the next eight and the others. -/
theorem low_apply (b : Fin 4) (l : Fin 4096) (u : Fin 2) (h d : Fin 8) :
    val_main_v26 (F := Ideal) x0 x3 x4 (ix5 b l u h d) = val_main_v23 (F := Ideal) x0 x3 x4 (ix5 b l u h ⟨d.val, by omega⟩) := by
  rw [val_main_v26_apply]
  refine congrArg _ (funext fun a => ?_)
  match a with
  | ⟨0, _⟩ => rfl
  | ⟨1, _⟩ => rfl
  | ⟨2, _⟩ => rfl
  | ⟨3, _⟩ => rfl
  | ⟨4, _⟩ => rfl

theorem high_apply (b : Fin 4) (l : Fin 4096) (u : Fin 2) (h d : Fin 8) :
    val_main_v27 (F := Ideal) x0 x3 x4 (ix5 b l u h d) = val_main_v23 (F := Ideal) x0 x3 x4 (ix5 b l u h ⟨d.val + 8, by omega⟩) := by
  rw [val_main_v27_apply]
  refine congrArg _ (funext fun a => ?_)
  match a with
  | ⟨0, _⟩ => rfl
  | ⟨1, _⟩ => rfl
  | ⟨2, _⟩ => rfl
  | ⟨3, _⟩ => rfl
  | ⟨4, _⟩ => exact Fin.ext (Nat.add_comm 8 d.val)

theorem rest_apply (b : Fin 4) (l : Fin 4096) (u : Fin 2) (h : Fin 8) (d : Fin 48) :
    val_main_v42 (F := Ideal) x0 x3 x4 (ix5 b l u h d) = val_main_v23 (F := Ideal) x0 x3 x4 (ix5 b l u h ⟨d.val + 16, by omega⟩) := by
  rw [val_main_v42_apply]
  refine congrArg _ (funext fun a => ?_)
  match a with
  | ⟨0, _⟩ => rfl
  | ⟨1, _⟩ => rfl
  | ⟨2, _⟩ => rfl
  | ⟨3, _⟩ => rfl
  | ⟨4, _⟩ => exact Fin.ext (Nat.add_comm 16 d.val)

/-- The heads after the turn. -/
theorem turned_apply (b : Fin 4) (l : Fin 4096) (u : Fin 2) (h : Fin 8) (k : Fin 64) :
    val_main_v43 (F := Ideal) x0 x1 x2 x3 x4 (ix5 b l u h k)
      = turned (normed (fun k => x0 (ix2 (rowAt b l) (wide (colAt u h k)))) (fun k => gain x3 x4 (colAt u h k)))
          (fun d => x1 (ix2 l d)) (fun d => x2 (ix2 l d)) k := by
  refine (joined_apply _ _ _ b l u h k).trans ?_
  unfold turned
  by_cases hk : k.val < 8
  · rw [dif_pos hk, dif_pos hk, val_main_v34_apply, val_main_v30_apply, val_main_v33_apply, low_apply, high_apply, cos_apply, sin_apply,
      normed_apply, normed_apply]
    rfl
  by_cases hk' : k.val < 16
  · have e : (⟨(⟨k.val - 8, by omega⟩ : Fin 8).val + 8, by omega⟩ : Fin 64) = k := Fin.ext (by show k.val - 8 + 8 = k.val; omega)
    rw [dif_neg hk, dif_neg hk, dif_pos hk', dif_pos hk', val_main_v41_apply, val_main_v37_apply, val_main_v40_apply, low_apply,
      high_apply, cos_again, sin_again, cos_apply, sin_apply, e, normed_apply, normed_apply]
    rfl
  · have e : (⟨(⟨k.val - 16, by omega⟩ : Fin 48).val + 16, by omega⟩ : Fin 64) = k := Fin.ext (by show k.val - 16 + 16 = k.val; omega)
    rw [dif_neg hk, dif_neg hk, dif_neg hk', dif_neg hk', rest_apply, e, normed_apply]

/-- The reference's result at row `y`, column `z`. -/
theorem result_apply (y : Fin 16384) (z : Fin 1024) :
    val_main_v45 (F := Ideal) x0 x1 x2 x3 x4 (ix2 y z) = ropeAt x0 x1 x2 x3 x4 y z := by
  have e : idx_main_v44 (ix2 y z) = ix5 (⟨y.val / 4096, by omega⟩ : Fin 4) (⟨y.val % 4096, by omega⟩ : Fin 4096)
      (⟨z.val / 512, by omega⟩ : Fin 2) (⟨z.val / 64 % 8, by omega⟩ : Fin 8) (⟨z.val % 64, by omega⟩ : Fin 64) := by
    funext a
    apply Fin.ext
    match a with
    | ⟨0, _⟩ => show (y.val * 1024 + z.val) / 4194304 = y.val / 4096; omega
    | ⟨1, _⟩ => show (y.val * 1024 + z.val) / 1024 % 4096 = y.val % 4096; omega
    | ⟨2, _⟩ => show (y.val * 1024 + z.val) / 512 % 2 = z.val / 512; omega
    | ⟨3, _⟩ => show (y.val * 1024 + z.val) / 64 % 8 = z.val / 64 % 8; omega
    | ⟨4, _⟩ => show (y.val * 1024 + z.val) % 64 = z.val % 64; omega
  have ey : rowAt ⟨y.val / 4096, by omega⟩ ⟨y.val % 4096, by omega⟩ = y := by
    apply Fin.ext
    show y.val / 4096 * 4096 + y.val % 4096 = y.val
    omega
  have ez (k : Fin 64) : colAt ⟨z.val / 512, by omega⟩ ⟨z.val / 64 % 8, by omega⟩ k = headLane z k := by
    apply Fin.ext
    show (z.val / 512 * 8 + z.val / 64 % 8) * 64 + k.val = z.val / 64 * 64 + k.val
    omega
  rw [val_main_v45_apply, val_main_v44_apply, e, turned_apply]
  simp only [ey, ez]
  rfl

end Cert.Reference4Ideal.Rope

end
-- ==== Proof.Tame.lean ====
/-
  What the precondition on the gains says: the gains of the lanes that are turned are reals.
-/
module

public import proofs.«01_k».proof.Proof.Finite
public import Idealize.ShloMosaic.Lib.Pointwise

@[expose] public section

set_option maxRecDepth 65536

noncomputable section

namespace Cert.Tame

open Idealize.ShloMosaic Cert.Finite

theorem facts : Cert.Pre_tame.Facts where
  slices_S1x64_S1x16_0_0 := by decide
  bcast_S_S1x16 := by decide

theorem real_lane [Cert.Pre_tame.Facts] (g : FVec Ideal Cert.Pre_tame.S1x64 .f32)
    (h : cmpf .olt (Host.absf (extractStridedSlice Cert.Pre_tame.S1x16 ![0, 0] g Cert.Pre_tame.Facts.slices_S1x64_S1x16_0_0))
        (broadcastInDim Cert.Pre_tame.S1x16 ![] Cert.Pre_tame.Facts.bcast_S_S1x16 (constant (F := Ideal) Cert.Pre_tame.S_ .f32 0x7F800000#32))
      = fun _ => 1#1) (k : Fin 64) (hk : k.val < 16) : (((g (ix2 0 k)).toReal : ℝ) : EReal) = g (ix2 0 k) := by
  have e : Ideal.cmp .olt (max (g (ix2 0 k)) (-(g (ix2 0 k)))) (Ideal.ofBits .f32 0x7F800000#32) = 1#1 := by
    have r : extractStridedSlice Cert.Pre_tame.S1x16 ![0, 0] g Cert.Pre_tame.Facts.slices_S1x64_S1x16_0_0 (ix2 0 (⟨k.val, hk⟩ : Fin 16))
        = g (ix2 0 k) := by
      pointwise
    rw [← r]
    exact congrFun h (ix2 0 (⟨k.val, hk⟩ : Fin 16))
  rw [inf_eq] at e
  exact real_of_abs_lt (lt_of_cmp e)

theorem real_of_pre [Cert.Pre_tame.Facts] (x : FVec Ideal Cert.Pre_tame.S16384x5120 .bf16) (c s : FVec Ideal Cert.Pre_tame.S4096x8 .f32)
    (gq gk : FVec Ideal Cert.Pre_tame.S1x64 .f32)
    (h : (Cert.Pre_tame.fn (F := Ideal) x c s gq gk).1 = (fun _ => 1#1) ∧ (Cert.Pre_tame.fn (F := Ideal) x c s gq gk).2 = (fun _ => 1#1))
    (k : Fin 64) (hk : k.val < 16) :
    (((gq (ix2 0 k)).toReal : ℝ) : EReal) = gq (ix2 0 k) ∧ (((gk (ix2 0 k)).toReal : ℝ) : EReal) = gk (ix2 0 k) :=
  ⟨real_lane gq h.1 k hk, real_lane gk h.2 k hk⟩

end Cert.Tame

end
-- ==== Proof.FiltSpec.lean ====
/-
  The filters' small network on the extended reals: three layers of sines of a position's features and the two filters read
  from it. A product computed in parts, from what rounding leaves of its factors, is the product, or both are infinite, which a
  sine does not tell apart; a product with a matrix of eight equal blocks on the diagonal is eight products.
-/
module

public import proofs.«01_k».proof.Proof.AttnMath
public import Idealize.ShloMosaic.Lib.Pointwise

@[expose] public section

noncomputable section

namespace Cert.FiltSpec

open Idealize.ShloMosaic Cert.AttnMath
open scoped BigOperators

/-- One over 4095, and a full turn over 4096, as the programs round them. -/
def step : EReal := Ideal.ofBits .f32 0x39800801#32
def turn : EReal := Ideal.ofBits .f32 0x3AC90FDB#32

/-- A sum of products plus what its parts of rounding leave: a factor that is not plus infinity, times a real. -/
theorem parts {n : ℕ} (a w : Fin n → EReal) (ha : ∀ l, a l ≠ ⊤) (hw : ∀ l, (((w l).toReal : ℝ) : EReal) = w l) :
    ∑ l, a l * w l + (∑ l, a l * (w l - w l) + ∑ l, (a l - a l) * w l) = ∑ l, a l * w l := by
  have zero (l : Fin n) : a l * (w l - w l) = 0 := by
    rw [← hw l, ← EReal.coe_sub, sub_self, EReal.coe_zero, mul_zero]
  rw [Finset.sum_congr rfl fun l _ => zero l, Finset.sum_const_zero, zero_add, ← Finset.sum_add_distrib]
  refine Finset.sum_congr rfl fun l _ => ?_
  by_cases hb : a l = ⊥
  · have e : (⊥ : EReal) - ⊥ = ⊥ := by simp [sub_eq_add_neg]
    rw [hb, e, ← hw l]
    rcases lt_trichotomy (w l).toReal 0 with h | h | h
    · rw [EReal.bot_mul_coe_of_neg h]; rfl
    · rw [h, EReal.coe_zero, mul_zero, add_zero]
    · rw [EReal.bot_mul_coe_of_pos h]; rfl
  · rw [← EReal.coe_toReal (ha l) hb, ← EReal.coe_sub, sub_self, EReal.coe_zero, zero_mul, add_zero]

/-- A sum of which only block `g` of eight counts. -/
theorem sum_block {n N : ℕ} (hN : N = 8 * n) (f : Fin N → EReal) (g : Fin 8) (h : ∀ l : Fin N, l.val / n ≠ g.val → f l = 0) :
    ∑ l, f l = ∑ k : Fin n, f ⟨g.val * n + k.val, by
      have := Nat.mul_le_mul_right n (show g.val + 1 ≤ 8 by omega)
      have := k.isLt
      rw [Nat.add_mul] at *
      omega⟩ := by
  refine (Fintype.sum_of_injective (fun k : Fin n => (⟨g.val * n + k.val, _⟩ : Fin N)) ?_ _ _ ?_ (fun _ => rfl)).symm
  · intro a b e
    have := congrArg Fin.val e
    exact Fin.ext (by simpa using this)
  · intro l hl
    refine h l fun e => hl ⟨⟨l.val % n, ?_⟩, ?_⟩
    · refine Nat.mod_lt _ (Nat.pos_of_ne_zero fun z => ?_)
      have := l.isLt
      subst z
      omega
    · apply Fin.ext
      show g.val * n + l.val % n = l.val
      rw [← e, Nat.mul_comm]
      exact Nat.div_add_mod l.val n

/-! An infinity before a sine: its sign does not matter. -/

abbrev Endless (x : EReal) : Prop := x = ⊤ ∨ x = ⊥

theorem endless_add {x : EReal} (y : EReal) (h : Endless x) : Endless (x + y) := by
  rcases h with rfl | rfl
  · by_cases hy : y = ⊥
    · subst hy
      exact Or.inr rfl
    · exact Or.inl (EReal.top_add_of_ne_bot hy)
  · exact Or.inr (EReal.bot_add y)

theorem endless_mul {x y : EReal} (h : Endless x) (hy : y ≠ 0) : Endless (x * y) := by
  rcases lt_or_gt_of_ne hy with n | n <;> rcases h with rfl | rfl
  · exact Or.inr (EReal.top_mul_of_neg n)
  · exact Or.inl (EReal.bot_mul_of_neg n)
  · exact Or.inl (EReal.top_mul_of_pos n)
  · exact Or.inr (EReal.bot_mul_of_pos n)

/-- The same, or both infinite. -/
def Alike (x y : EReal) : Prop := x = y ∨ (Endless x ∧ Endless y)

theorem Alike.add {x y u v : EReal} (h : Alike x y) (k : Alike u v) : Alike (x + u) (y + v) := by
  rcases h with rfl | ⟨hx, hy⟩
  · rcases k with rfl | ⟨hu, hv⟩
    · exact Or.inl rfl
    · rw [add_comm x u, add_comm x v]
      exact Or.inr ⟨endless_add x hu, endless_add x hv⟩
  · exact Or.inr ⟨endless_add u hx, endless_add v hy⟩

theorem Alike.to {x y z : EReal} (h : Alike x y) (e : y = z) : Alike x z := e ▸ h

theorem Alike.sum {K : Type} (t : Finset K) (f g : K → EReal) (h : ∀ k, Alike (f k) (g k)) : Alike (∑ k ∈ t, f k) (∑ k ∈ t, g k) := by
  classical
  induction t using Finset.induction_on with
  | empty => exact Or.inl rfl
  | insert a t ha ih => rw [Finset.sum_insert ha, Finset.sum_insert ha]; exact (h a).add ih

/-- The sine of an infinity, shifted and scaled. -/
theorem Alike.sin {x y : EReal} (h : Alike x y) (f b : EReal) : Ideal.sin (f * (x + b)) = Ideal.sin (f * (y + b)) := by
  rcases h with rfl | ⟨hx, hy⟩
  · rfl
  by_cases hf : f = 0
  · rw [hf, zero_mul, zero_mul]
  have e {z : EReal} (hz : Endless z) : Ideal.sin (f * (z + b)) = ⊥ := by
    rw [mul_comm]
    rcases endless_mul (endless_add b hz) hf with e | e <;> rw [e] <;> rfl
  rw [e hx, e hy]

/-- A product and what its parts of rounding leave. -/
theorem alike_parts (a w : EReal) : Alike (a * w + (a * (w - w) + (a - a) * w)) (a * w) := by
  by_cases ha : a = 0
  · left
    rw [ha, sub_zero, zero_mul, zero_mul, add_zero, add_zero]
  by_cases hw : w = 0
  · left
    rw [hw, sub_zero, mul_zero, mul_zero, add_zero, add_zero]
  by_cases h : Endless (a * w)
  · exact Or.inr ⟨endless_add _ h, h⟩
  have hr : ¬ Endless a := fun e => h (endless_mul e hw)
  have hs : ¬ Endless w := fun e => h (mul_comm w a ▸ endless_mul e ha)
  left
  rw [← EReal.coe_toReal (fun e => hr (Or.inl e)) (fun e => hr (Or.inr e)), ← EReal.coe_toReal (fun e => hs (Or.inl e)) (fun e => hs (Or.inr e)),
    ← EReal.coe_sub, ← EReal.coe_sub, sub_self, sub_self, EReal.coe_zero, mul_zero, zero_mul, add_zero, add_zero]

/-- A product by parts with a column of a block diagonal matrix is, before a sine, the product with that column's block. -/
theorem parts_block {n N : ℕ} (hn : 0 < n) (hN : N = 8 * n) (g : Fin 8) (a w v : Fin N → EReal) (u : Fin n → EReal)
    (hw : ∀ l : Fin N, w l = if l.val / n = g.val then u ⟨l.val % n, Nat.mod_lt _ hn⟩ else 0) (hv : ∀ l, v l = w l - w l) :
    Alike (∑ l, a l * w l + (∑ l, a l * v l + ∑ l, (a l - a l) * w l)) (∑ k : Fin n, a ⟨g.val * n + k.val, by
      have := Nat.mul_le_mul_right n (show g.val + 1 ≤ 8 by omega)
      have := k.isLt
      rw [Nat.add_mul] at *
      omega⟩ * u k) := by
  rw [Finset.sum_congr rfl fun l _ => congrArg (a l * ·) (hv l), ← Finset.sum_add_distrib, ← Finset.sum_add_distrib]
  refine (Alike.sum _ _ (fun l => a l * w l) fun l => alike_parts (a l) (w l)).to ?_
  rw [sum_block hN _ g fun l hl => ?_]
  · refine Finset.sum_congr rfl fun k _ => ?_
    have e1 : (g.val * n + k.val) / n = g.val := by
      rw [Nat.mul_comm, Nat.mul_add_div hn, Nat.div_eq_of_lt k.isLt, Nat.add_zero]
    have e2 : (g.val * n + k.val) % n = k.val := by
      rw [Nat.mul_comm, Nat.mul_add_mod, Nat.mod_eq_of_lt k.isLt]
    rw [hw, if_pos e1]
    exact congrArg _ (congrArg u (Fin.ext e2))
  · rw [hw, if_neg hl, mul_zero]

/-- A sine is never plus infinity. -/
theorem sin_ne_top (x : EReal) : Ideal.sin x ≠ ⊤ := by
  induction x using EReal.rec with
  | bot => exact bot_ne_top
  | top => exact bot_ne_top
  | coe r => exact EReal.coe_ne_top _

/-! The network. -/

/-- The first layer at position `p`. -/
def first (bands : Fin 16 → EReal) (w : Fin 33 → Fin 64 → EReal) (b fr : Fin 64 → EReal) (p : EReal) (k : Fin 64) : EReal :=
  Ideal.sin (fr k * (∑ d : Fin 16, Ideal.cos (turn * p * bands d) * w ⟨1 + d.val, by omega⟩ k
    + ∑ d : Fin 16, (0 - Ideal.sin (turn * p * bands d)) * w ⟨17 + d.val, by omega⟩ k + p * step * w 0 k + b k))

/-- A layer of 64 of the 64 before it. -/
def layer (w : Fin 64 → Fin 64 → EReal) (b fr h : Fin 64 → EReal) (k : Fin 64) : EReal :=
  Ideal.sin (fr k * (∑ x, h x * w x k + b k))

/-- A filter read from the last layer, and its decay. -/
def tap (h w : Fin 64 → EReal) (d p : EReal) : EReal := (∑ x, h x * w x) * Ideal.exp ((0 - p * step) * d)

/-- A position. -/
def pos (y : ℕ) : EReal := ((y : ℝ) : EReal)

/-- The network at position `p`, of the weights as arrays. -/
def net (bands : Fin 16 → EReal) (w1 : (⟨3, ![1, 33, 64]⟩ : Shape).Idx → EReal) (b1 : (⟨2, ![1, 64]⟩ : Shape).Idx → EReal)
    (w2 : (⟨3, ![1, 64, 64]⟩ : Shape).Idx → EReal) (b2 : (⟨2, ![1, 64]⟩ : Shape).Idx → EReal)
    (w3 : (⟨3, ![1, 64, 64]⟩ : Shape).Idx → EReal) (b3 fr : (⟨2, ![1, 64]⟩ : Shape).Idx → EReal) (p : EReal) : Fin 64 → EReal :=
  layer (fun x k => w3 (ix3 0 x k)) (fun k => b3 (ix2 0 k)) (fun k => fr (ix2 0 k))
    (layer (fun x k => w2 (ix3 0 x k)) (fun k => b2 (ix2 0 k)) (fun k => fr (ix2 0 k))
      (first bands (fun x k => w1 (ix3 0 x k)) (fun k => b1 (ix2 0 k)) (fun k => fr (ix2 0 k)) p))

/-- The number of positions less a position. -/
theorem whole_sub (y : ℕ) (h : y ≤ 4096) : Ideal.ofBits .f32 0x45800000#32 - pos y = pos (4096 - y) := by
  have e : Ideal.ofBits .f32 0x45800000#32 = ((4096 : ℝ) : EReal) := by
    simp [Ideal.ofBits, Ideal.ieee, -EReal.coe_mul]
    norm_num
  rw [e, pos, pos, ← EReal.coe_sub, Nat.cast_sub h, Nat.cast_ofNat]

/-- Only positions after the first count. -/
theorem after (y : ℕ) (u : EReal) : Scalar.select (Ideal.cmp .ogt (pos y) 0) u 0 = if y = 0 then 0 else u := by
  by_cases h : y = 0
  · subst h
    rw [if_pos rfl]
    have : ¬ pos 0 > 0 := by simp [pos]
    simp [Ideal.cmp, this, Scalar.select]
  · rw [if_neg h]
    have : pos y > 0 := by
      show (0 : EReal) < ((y : ℝ) : EReal)
      exact_mod_cast Nat.pos_of_ne_zero h
    simp [Ideal.cmp, this, Scalar.select]

/-- The product by parts with a column of the last weights. -/
theorem parts_tap (a w v : Fin 64 → EReal) (ha : ∀ l, a l ≠ ⊤) (hw : ∀ l, (((w l).toReal : ℝ) : EReal) = w l)
    (hv : ∀ l, v l = w l - w l) : ∑ l, a l * w l + (∑ l, a l * v l + ∑ l, (a l - a l) * w l) = ∑ l, a l * w l := by
  rw [Finset.sum_congr rfl fun l _ => congrArg (a l * ·) (hv l)]
  exact parts a w ha hw

/-- Column `z`'s weights ahead (`u = 0`) or back (`u = 1`). -/
def col (u : Fin 2) (z : Fin 1024) : Fin 2048 := ⟨z.val / 512 * 1024 + u.val * 512 + z.val % 512, by omega⟩

/-- The filter of column `z` ahead at position `y`, and back. -/
def ahead (h : EReal → Fin 64 → EReal) (w : (⟨3, ![1, 64, 2048]⟩ : Shape).Idx → EReal) (d : Fin 512 → EReal) (y : ℕ) (z : Fin 1024) : EReal :=
  tap (h (pos y)) (fun x => w (ix3 0 x (col 0 z))) (d ⟨z.val % 512, by omega⟩) (pos y)

def back (h : EReal → Fin 64 → EReal) (w : (⟨3, ![1, 64, 2048]⟩ : Shape).Idx → EReal) (d : Fin 512 → EReal) (y : ℕ) (z : Fin 1024) : EReal :=
  if y = 0 then 0
  else tap (h (pos (4096 - y))) (fun x => w (ix3 0 x (col 1 z))) (d ⟨z.val % 512, by omega⟩) (pos (4096 - y))

end Cert.FiltSpec

end
-- ==== Proof.FiltBlock.lean ====
/-
  What a grid point leaves in its two blocks: eight groups of 64 positions, each the sum or the difference of the filters
  ahead and back. Every group of lanes of the network's layers holds one group of positions.
-/
module

public import proofs.«01_k».proof.Proof.Gen.Kernel5Ideal.Frame
public import proofs.«01_k».proof.Proof.FiltSpec
public import Idealize.ShloMosaic.Lib.Pipeline.ValueKit

@[expose] public section

set_option maxRecDepth 65536

noncomputable section

namespace Cert.Kernel5Ideal.Filt

open Cert.Kernel5Ideal Cert.Kernel5Ideal.Gen Idealize.ShloMosaic Idealize.ShloMosaic.TcCoe Idealize.SL.Sem
open Cert.AttnMath Cert.FiltSpec
open scoped BigOperators

/-! The body's operations, by name. A product by parts: of the rounded left side with the rounded right side and with what
rounding left of it, and of what rounding left of the left side with the rounded right side. -/

def partsA (a : FVec Ideal S64x128 .f32) (w v : Vec Ideal S1x128x512 .bf16) : FVec Ideal S64x512 .f32 :=
  addf (matmul dot_S64x128_S128x512_S64x512_1_0_0_1_n_n none (truncf .bf16 a bitsLt_bf16_f32) (shapeCast S128x512 w shapeCasts_S1x128x512_S128x512 : FVec Ideal S128x512 .bf16) (constant S64x512 .f32 0x00000000#32))
    (addf (matmul dot_S64x128_S128x512_S64x512_1_0_0_1_n_n none (truncf .bf16 a bitsLt_bf16_f32) (shapeCast S128x512 v shapeCasts_S1x128x512_S128x512 : FVec Ideal S128x512 .bf16) (constant S64x512 .f32 0x00000000#32))
      (matmul dot_S64x128_S128x512_S64x512_1_0_0_1_n_n none (truncf .bf16 (subf a (extf .f32 (truncf .bf16 a bitsLt_bf16_f32) bitsLt_bf16_f32)) bitsLt_bf16_f32) (shapeCast S128x512 w shapeCasts_S1x128x512_S128x512 : FVec Ideal S128x512 .bf16) (constant S64x512 .f32 0x00000000#32)))

def partsB (a : FVec Ideal S64x512 .f32) (w v : Vec Ideal S1x512x512 .bf16) : FVec Ideal S64x512 .f32 :=
  addf (matmul dot_S64x512_S512x512_S64x512_1_0_0_1_n_n none (truncf .bf16 a bitsLt_bf16_f32) (shapeCast S512x512 w shapeCasts_S1x512x512_S512x512 : FVec Ideal S512x512 .bf16) (constant S64x512 .f32 0x00000000#32))
    (addf (matmul dot_S64x512_S512x512_S64x512_1_0_0_1_n_n none (truncf .bf16 a bitsLt_bf16_f32) (shapeCast S512x512 v shapeCasts_S1x512x512_S512x512 : FVec Ideal S512x512 .bf16) (constant S64x512 .f32 0x00000000#32))
      (matmul dot_S64x512_S512x512_S64x512_1_0_0_1_n_n none (truncf .bf16 (subf a (extf .f32 (truncf .bf16 a bitsLt_bf16_f32) bitsLt_bf16_f32)) bitsLt_bf16_f32) (shapeCast S512x512 w shapeCasts_S1x512x512_S512x512 : FVec Ideal S512x512 .bf16) (constant S64x512 .f32 0x00000000#32)))

def partsC (a : FVec Ideal S64x64 .f32) (w v : Vec Ideal S1x64x1024 .bf16) : FVec Ideal S64x1024 .f32 :=
  addf (matmul dot_S64x64_S64x1024_S64x1024_1_0_0_1_n_n none (truncf .bf16 a bitsLt_bf16_f32) (shapeCast S64x1024 w shapeCasts_S1x64x1024_S64x1024 : FVec Ideal S64x1024 .bf16) (constant S64x1024 .f32 0x00000000#32))
    (addf (matmul dot_S64x64_S64x1024_S64x1024_1_0_0_1_n_n none (truncf .bf16 a bitsLt_bf16_f32) (shapeCast S64x1024 v shapeCasts_S1x64x1024_S64x1024 : FVec Ideal S64x1024 .bf16) (constant S64x1024 .f32 0x00000000#32))
      (matmul dot_S64x64_S64x1024_S64x1024_1_0_0_1_n_n none (truncf .bf16 (subf a (extf .f32 (truncf .bf16 a bitsLt_bf16_f32) bitsLt_bf16_f32)) bitsLt_bf16_f32) (shapeCast S64x1024 w shapeCasts_S1x64x1024_S64x1024 : FVec Ideal S64x1024 .bf16) (constant S64x1024 .f32 0x00000000#32)))

/-- A number everywhere. -/
abbrev fill (s : Shape) (b : BitVec 32) : FVec Ideal s .f32 := broadcast s (Scalar.ofBits (F := Ideal) .f32 b)

/-- A layer's sine: of the product `h` and a row of offsets. -/
def sines (fr b : Vec Ideal S1x512 .f32) (h : FVec Ideal S64x512 .f32) : FVec Ideal S64x512 .f32 :=
  sin (mulf (broadcastTo S64x512 (shapeCast S1x512 fr shapeCasts_S1x512_S1x512 : FVec Ideal S1x512 .f32) broadcasts_S1x512_S64x512)
    (addf h (broadcastTo S64x512 (shapeCast S1x512 b shapeCasts_S1x512_S1x512 : FVec Ideal S1x512 .f32) broadcasts_S1x512_S64x512)))

def angle (p : FVec Ideal S64x128 .f32) (bands : Vec Ideal S1x128 .f32) : FVec Ideal S64x128 .f32 :=
  mulf (mulf (fill S64x128 0x3AC90FDB#32) p) (broadcastTo S64x128 (shapeCast S1x128 bands shapeCasts_S1x128_S1x128 : FVec Ideal S1x128 .f32) broadcasts_S1x128_S64x128)

/-- The first layer's product: cosines, sines and the time, which only a group's first lane holds. -/
def features (p : FVec Ideal S64x128 .f32) (bands : Vec Ideal S1x128 .f32) (t t' c c' s s' : Vec Ideal S1x128x512 .bf16) :
    FVec Ideal S64x512 .f32 :=
  addf (addf (partsA (cos (angle p bands)) c c') (partsA (subf (fill S64x128 0x00000000#32) (sin (angle p bands))) s s'))
    (partsA (select k0_pay5 (mulf p (fill S64x128 0x39800801#32)) (fill S64x128 0x00000000#32)) t t')

/-- The two filters of a group, from its lanes of the last layer and its positions. -/
def aheadOf (p : FVec Ideal S64x1 .f32) (h : FVec Ideal S64x64 .f32) (w v : Vec Ideal S1x64x1024 .bf16) (d : Vec Ideal S1x1024 .f32) :
    FVec Ideal S64x1024 .f32 :=
  mulf (partsC h w v) (exp (mulf (broadcastTo S64x1024 (subf (fill S64x1 0x00000000#32) (mulf p (fill S64x1 0x39800801#32))) broadcasts_S64x1_S64x1024)
    (broadcastTo S64x1024 (shapeCast S1x1024 d shapeCasts_S1x1024_S1x1024 : FVec Ideal S1x1024 .f32) broadcasts_S1x1024_S64x1024)))

def backOf (p : FVec Ideal S64x1 .f32) (h : FVec Ideal S64x64 .f32) (w v : Vec Ideal S1x64x1024 .bf16) (d : Vec Ideal S1x1024 .f32) :
    FVec Ideal S64x1024 .f32 :=
  select (broadcastTo S64x1024 (shapeCast S64x1 (cmpf .ogt p (fill S64x1 0x00000000#32)) shapeCasts_S64x1_S64x1) broadcasts_S64x1_S64x1024)
    (aheadOf (subf (fill S64x1 0x45800000#32) p) h w v d) (fill S64x1024 0x00000000#32)

theorem in_lanes (a : Fin 8) : S64x512.Slices ![0, a.val * 64] S64x64 := by
  fin_cases a
  · exact slices_S64x512_o0_0_S64x64
  · exact slices_S64x512_o0_64_S64x64
  · exact slices_S64x512_o0_128_S64x64
  · exact slices_S64x512_o0_192_S64x64
  · exact slices_S64x512_o0_256_S64x64
  · exact slices_S64x512_o0_320_S64x64
  · exact slices_S64x512_o0_384_S64x64
  · exact slices_S64x512_o0_448_S64x64

/-- A group's lanes, and the positions of its rows. -/
def lanesOf (a : Fin 8) (h : FVec Ideal S64x512 .f32) : FVec Ideal S64x64 .f32 :=
  extractStridedSlice S64x64 ![0, a.val * 64] h (in_lanes a)

def rowsOf (i : grid0.Coords) (a : Fin 8) : FVec Ideal S64x1 .f32 :=
  sitofp .f32 (addi (broadcast S64x1 (Scalar.addi (Scalar.muli (BitVec.ofNat 32 (i 0).val) 512#32) (BitVec.ofNat 32 (a.val * 64)))) (iota .tc S64x1 32 [0] iota_S64x1_d0_w32))

section
variable (i : grid0.Coords) (x0 : Vec Ideal S1x128 .f32) (x1 x2 x3 : Vec Ideal S2x128x512 .bf16) (x4 : Vec Ideal S1x512 .f32)
  (x5 : Vec Ideal S2x512x512 .bf16) (x6 : Vec Ideal S1x512 .f32) (x7 : Vec Ideal S2x512x512 .bf16) (x8 x9 : Vec Ideal S1x512 .f32)
  (x10 x11 : Vec Ideal S2x64x1024 .bf16) (x12 : Vec Ideal S1x1024 .f32)

/-- The three layers at positions `p`. -/
def wide (p : FVec Ideal S64x128 .f32) : FVec Ideal S64x512 .f32 :=
  sines (View.ld x9 r0_0) (View.ld x8 r0_0) (partsB
    (sines (View.ld x9 r0_0) (View.ld x6 r0_0) (partsB
      (sines (View.ld x9 r0_0) (View.ld x4 r0_0) (features p (View.ld x0 r0_1) (View.ld x1 r0_2) (View.ld x1 r0_3)
        (View.ld x2 r0_2) (View.ld x2 r0_3) (View.ld x3 r0_2) (View.ld x3 r0_3)))
      (View.ld x5 r0_4) (View.ld x5 r0_5)))
    (View.ld x7 r0_4) (View.ld x7 r0_5))

def aheadAt (a : Fin 8) : FVec Ideal S64x1024 .f32 :=
  aheadOf (rowsOf i a) (lanesOf a (wide x0 x1 x2 x3 x4 x5 x6 x7 x8 x9 (k0_pay4 i))) (View.ld x10 r0_7) (View.ld x10 r0_8) (View.ld x12 r0_6)

def backAt (a : Fin 8) : FVec Ideal S64x1024 .f32 :=
  backOf (rowsOf i a) (lanesOf a (wide x0 x1 x2 x3 x4 x5 x6 x7 x8 x9 (subf (fill S64x128 0x45800000#32) (k0_pay4 i)))) (View.ld x11 r0_7) (View.ld x11 r0_8) (View.ld x12 r0_6)

theorem wide_back : k0_pay122 i x0 x1 x2 x3 x4 x5 x6 x7 x8 x9 x10 x11 x12 = wide x0 x1 x2 x3 x4 x5 x6 x7 x8 x9 (subf (fill S64x128 0x45800000#32) (k0_pay4 i)) := rfl

theorem wide_ahead : k0_pay120 i x0 x1 x2 x3 x4 x5 x6 x7 x8 x9 x10 x11 x12 = wide x0 x1 x2 x3 x4 x5 x6 x7 x8 x9 (k0_pay4 i) := rfl

def sumAt (a : Fin 8) : FVec Ideal S64x1024 .bf16 :=
  truncf .bf16 (addf (aheadAt i x0 x1 x2 x3 x4 x5 x6 x7 x8 x9 x10 x12 a) (backAt i x0 x1 x2 x3 x4 x5 x6 x7 x8 x9 x11 x12 a)) bitsLt_bf16_f32

def diffAt (a : Fin 8) : FVec Ideal S64x1024 .bf16 :=
  truncf .bf16 (subf (aheadAt i x0 x1 x2 x3 x4 x5 x6 x7 x8 x9 x10 x12 a) (backAt i x0 x1 x2 x3 x4 x5 x6 x7 x8 x9 x11 x12 a)) bitsLt_bf16_f32

end

theorem partsA_apply (a : FVec Ideal S64x128 .f32) (w v : Vec Ideal S1x128x512 .bf16) (r : Fin 64) (j : Fin 512) :
    partsA a w v (ix2 r j) = ∑ l : Fin 128, a (ix2 r l) * w (ix3 0 l j)
      + (∑ l : Fin 128, a (ix2 r l) * v (ix3 0 l j) + ∑ l : Fin 128, (a (ix2 r l) - a (ix2 r l)) * w (ix3 0 l j)) := by
  pointwise [partsA]

theorem partsB_apply (a : FVec Ideal S64x512 .f32) (w v : Vec Ideal S1x512x512 .bf16) (r : Fin 64) (j : Fin 512) :
    partsB a w v (ix2 r j) = ∑ l : Fin 512, a (ix2 r l) * w (ix3 0 l j)
      + (∑ l : Fin 512, a (ix2 r l) * v (ix3 0 l j) + ∑ l : Fin 512, (a (ix2 r l) - a (ix2 r l)) * w (ix3 0 l j)) := by
  pointwise [partsB]

theorem partsC_apply (a : FVec Ideal S64x64 .f32) (w v : Vec Ideal S1x64x1024 .bf16) (r : Fin 64) (j : Fin 1024) :
    partsC a w v (ix2 r j) = ∑ l : Fin 64, a (ix2 r l) * w (ix3 0 l j)
      + (∑ l : Fin 64, a (ix2 r l) * v (ix3 0 l j) + ∑ l : Fin 64, (a (ix2 r l) - a (ix2 r l)) * w (ix3 0 l j)) := by
  pointwise [partsC]

theorem sines_apply (fr b : Vec Ideal S1x512 .f32) (h : FVec Ideal S64x512 .f32) (r : Fin 64) (j : Fin 512) :
    sines fr b h (ix2 r j) = Ideal.sin (fr (ix2 0 j) * (h (ix2 r j) + b (ix2 0 j))) := by
  pointwise [sines]

theorem angle_apply (p : FVec Ideal S64x128 .f32) (bands : Vec Ideal S1x128 .f32) (r : Fin 64) (l : Fin 128) :
    angle p bands (ix2 r l) = turn * p (ix2 r l) * bands (ix2 0 l) := by
  pointwise [angle]
  rfl

theorem first_lane (l : Fin 128) (r : Fin 64) : k0_pay5 (ix2 r l) = if l.val % 16 = 0 then 1#1 else 0#1 := by
  have h : ∀ l : Fin 128, IntOp.cmpi .eq (IntOp.andi (BitVec.ofNat 32 l.val) 15#32) 0#32 = if l.val % 16 = 0 then 1#1 else 0#1 := by
    decide +kernel
  rw [← h]
  pointwise [k0_pay5]

theorem aheadOf_apply (p : FVec Ideal S64x1 .f32) (h : FVec Ideal S64x64 .f32) (w v : Vec Ideal S1x64x1024 .bf16) (d : Vec Ideal S1x1024 .f32)
    (r : Fin 64) (z : Fin 1024) :
    aheadOf p h w v d (ix2 r z) = partsC h w v (ix2 r z) * Ideal.exp ((0 - p (ix2 r 0) * step) * d (ix2 0 z)) := by
  pointwise [aheadOf]
  rfl

theorem lanesOf_apply (a : Fin 8) (h : FVec Ideal S64x512 .f32) (r k : Fin 64) :
    lanesOf a h (ix2 r k) = h (ix2 r ⟨a.val * 64 + k.val, by omega⟩) := by
  pointwise [lanesOf]

theorem backOf_apply (p : FVec Ideal S64x1 .f32) (h : FVec Ideal S64x64 .f32) (w v : Vec Ideal S1x64x1024 .bf16) (d : Vec Ideal S1x1024 .f32)
    (r : Fin 64) (z : Fin 1024) :
    backOf p h w v d (ix2 r z) = Scalar.select (Ideal.cmp .ogt (p (ix2 r 0)) 0)
      (aheadOf (subf (fill S64x1 0x45800000#32) p) h w v d (ix2 r z)) 0 := by
  pointwise [backOf]

/-- A small word as a number. -/
theorem word (n : ℕ) (h : n < 8192) : FloatOps.sitofp (F := Ideal) .f32 (BitVec.ofNat 32 n) = pos n := by
  have e : (BitVec.ofNat 32 n).toInt = (n : ℤ) := by
    have m : (BitVec.ofNat 32 n).toNat = n := by rw [BitVec.toNat_ofNat]; exact Nat.mod_eq_of_lt (by omega)
    rw [BitVec.toInt_eq_toNat_of_lt (by omega), m]
  show (((BitVec.ofNat 32 n).toInt : ℝ) : EReal) = ((n : ℝ) : EReal)
  rw [e, Int.cast_natCast]

theorem point_lt (i : grid0.Coords) : (i 0).val < 8 := (i 0).isLt

theorem rowsOf_apply (i : grid0.Coords) (a : Fin 8) (r : Fin 64) : rowsOf i a (ix2 r 0) = pos ((i 0).val * 512 + a.val * 64 + r.val) := by
  have e : IntOp.addi (Scalar.addi (Scalar.muli (BitVec.ofNat 32 (i 0).val) 512#32) (BitVec.ofNat 32 (a.val * 64))) (BitVec.ofNat 32 r.val)
      = BitVec.ofNat 32 ((i 0).val * 512 + a.val * 64 + r.val) := by
    rw [BitVec.ofNat_add, BitVec.ofNat_add, BitVec.ofNat_mul, BitVec.ofNat_mul]
    rfl
  have := point_lt i
  rw [← word _ (by omega), ← e]
  pointwise [rowsOf]

theorem positions_apply (i : grid0.Coords) (r : Fin 64) (l : Fin 128) :
    k0_pay4 (F := Ideal) i (ix2 r l) = pos ((i 0).val * 512 + l.val / 16 * 64 + r.val) := by
  have g : ∀ l : Fin 128, IntOp.shrui ArithUnit.vector (BitVec.ofNat 32 l.val) 4#32 = BitVec.ofNat 32 (l.val / 16) := by decide +kernel
  have e : IntOp.addi (IntOp.addi (Scalar.muli (BitVec.ofNat 32 (i 0).val) 512#32)
        (IntOp.muli (IntOp.shrui ArithUnit.vector (BitVec.ofNat 32 l.val) 4#32) 64#32)) (BitVec.ofNat 32 r.val)
      = BitVec.ofNat 32 ((i 0).val * 512 + l.val / 16 * 64 + r.val) := by
    rw [g, BitVec.ofNat_add, BitVec.ofNat_add, BitVec.ofNat_mul, BitVec.ofNat_mul]
    rfl
  have := point_lt i
  rw [← word _ (by omega), ← e]
  pointwise [k0_pay4]

theorem in_block (a : Fin 8) : ∀ e, (![a.val * 64, 0] : Fin 2 → Nat) e + S64x1024.size e ≤ S512x1024.size e := by
  revert a; decide

/-- Where group `a` lies in the block. -/
abbrev cut (a : Fin 8) : Rect S512x1024 := Rect.unit (s := S512x1024) ![a.val * 64, 0] S64x1024.size (in_block a)

theorem place (a : Fin 8) (r : Fin 64) (z : Fin 1024) : (cut a).emb (ix2 r z) = ix2 ⟨a.val * 64 + r.val, by omega⟩ z := by blk_ext []

/-- Lane `k` of group `g`. -/
def unit (g : Fin 8) (k : Fin 64) : Fin 512 := ⟨g.val * 64 + k.val, by omega⟩

/-- Pieces of an array of weights: the weights, and what rounding leaves of them. -/
abbrev Pieces {n m : ℕ} (x : (⟨3, ![2, n, m]⟩ : Shape).Idx → EReal) : Prop := ∀ l j, x (ix3 1 l j) = x (ix3 0 l j) - x (ix3 0 l j)

/-- No infinity. -/
abbrev Plain {n m : ℕ} (w : (⟨3, ![1, n, m]⟩ : Shape).Idx → EReal) : Prop := ∀ x k, (((w (ix3 0 x k)).toReal : ℝ) : EReal) = w (ix3 0 x k)

section
variable (bands : Fin 16 → EReal) (w1 : (⟨3, ![1, 33, 64]⟩ : Shape).Idx → EReal) (b1 : (⟨2, ![1, 64]⟩ : Shape).Idx → EReal)
  (w2 : (⟨3, ![1, 64, 64]⟩ : Shape).Idx → EReal) (b2 : (⟨2, ![1, 64]⟩ : Shape).Idx → EReal)
  (w3 : (⟨3, ![1, 64, 64]⟩ : Shape).Idx → EReal) (b3 fr : (⟨2, ![1, 64]⟩ : Shape).Idx → EReal)
  (wo : (⟨3, ![1, 64, 2048]⟩ : Shape).Idx → EReal) (d : Fin 512 → EReal)
  (x0 : Vec Ideal S1x128 .f32) (x1 x2 x3 : Vec Ideal S2x128x512 .bf16) (x4 : Vec Ideal S1x512 .f32)
  (x5 : Vec Ideal S2x512x512 .bf16) (x6 : Vec Ideal S1x512 .f32) (x7 : Vec Ideal S2x512x512 .bf16) (x8 x9 : Vec Ideal S1x512 .f32)
  (x10 x11 : Vec Ideal S2x64x1024 .bf16) (x12 : Vec Ideal S1x1024 .f32)

/-- The call's operands as the host lays them out from the weights. -/
structure Layout : Prop where
  plain : Plain wo
  band : ∀ l : Fin 128, x0 (ix2 0 l) = bands ⟨l.val % 16, by omega⟩
  time : ∀ (l : Fin 128) g k, x1 (ix3 0 l (unit g k)) = if l.val / 16 = g.val then (if l.val % 16 = 0 then w1 (ix3 0 0 k) else 0) else 0
  cosine : ∀ (l : Fin 128) g k, x2 (ix3 0 l (unit g k)) = if l.val / 16 = g.val then w1 (ix3 0 ⟨1 + l.val % 16, by omega⟩ k) else 0
  sine : ∀ (l : Fin 128) g k, x3 (ix3 0 l (unit g k)) = if l.val / 16 = g.val then w1 (ix3 0 ⟨17 + l.val % 16, by omega⟩ k) else 0
  second : ∀ (l : Fin 512) g k, x5 (ix3 0 l (unit g k)) = if l.val / 64 = g.val then w2 (ix3 0 ⟨l.val % 64, by omega⟩ k) else 0
  third : ∀ (l : Fin 512) g k, x7 (ix3 0 l (unit g k)) = if l.val / 64 = g.val then w3 (ix3 0 ⟨l.val % 64, by omega⟩ k) else 0
  off1 : ∀ g k, x4 (ix2 0 (unit g k)) = b1 (ix2 0 k)
  off2 : ∀ g k, x6 (ix2 0 (unit g k)) = b2 (ix2 0 k)
  off3 : ∀ g k, x8 (ix2 0 (unit g k)) = b3 (ix2 0 k)
  freq : ∀ g k, x9 (ix2 0 (unit g k)) = fr (ix2 0 k)
  wAhead : ∀ x z, x10 (ix3 0 x z) = wo (ix3 0 x (col 0 z))
  wBack : ∀ x z, x11 (ix3 0 x z) = wo (ix3 0 x (col 1 z))
  decay : ∀ z, x12 (ix2 0 z) = d ⟨z.val % 512, by omega⟩
  pieces1 : Pieces x1
  pieces2 : Pieces x2
  pieces3 : Pieces x3
  pieces5 : Pieces x5
  pieces7 : Pieces x7
  pieces10 : Pieces x10
  pieces11 : Pieces x11

end

section
variable {bands : Fin 16 → EReal} {w1 : (⟨3, ![1, 33, 64]⟩ : Shape).Idx → EReal} {b1 : (⟨2, ![1, 64]⟩ : Shape).Idx → EReal}
  {w2 : (⟨3, ![1, 64, 64]⟩ : Shape).Idx → EReal} {b2 : (⟨2, ![1, 64]⟩ : Shape).Idx → EReal}
  {w3 : (⟨3, ![1, 64, 64]⟩ : Shape).Idx → EReal} {b3 fr : (⟨2, ![1, 64]⟩ : Shape).Idx → EReal}
  {wo : (⟨3, ![1, 64, 2048]⟩ : Shape).Idx → EReal} {d : Fin 512 → EReal}
  {x0 : Vec Ideal S1x128 .f32} {x1 x2 x3 : Vec Ideal S2x128x512 .bf16} {x4 : Vec Ideal S1x512 .f32}
  {x5 : Vec Ideal S2x512x512 .bf16} {x6 : Vec Ideal S1x512 .f32} {x7 : Vec Ideal S2x512x512 .bf16} {x8 x9 : Vec Ideal S1x512 .f32}
  {x10 x11 : Vec Ideal S2x64x1024 .bf16} {x12 : Vec Ideal S1x1024 .f32}
  (H : Layout bands w1 b1 w2 b2 w3 b3 fr wo d x0 x1 x2 x3 x4 x5 x6 x7 x8 x9 x10 x11 x12)
include H

/-- The first layer's product at a group's lanes, of positions that are numbers, as it counts before a sine. -/
theorem features_apply (p : FVec Ideal S64x128 .f32) (q : Fin 128 → ℕ) (r : Fin 64) (g : Fin 8) (k : Fin 64) (n : ℕ)
    (hp : ∀ l, p (ix2 r l) = pos (q l)) (hq : ∀ l : Fin 128, l.val / 16 = g.val → q l = n) :
    Alike (features p (View.ld x0 r0_1) (View.ld x1 r0_2) (View.ld x1 r0_3) (View.ld x2 r0_2) (View.ld x2 r0_3) (View.ld x3 r0_2)
        (View.ld x3 r0_3) (ix2 r (unit g k)))
      (∑ e : Fin 16, Ideal.cos (turn * pos n * bands e) * w1 (ix3 0 ⟨1 + e.val, by omega⟩ k)
        + ∑ e : Fin 16, (0 - Ideal.sin (turn * pos n * bands e)) * w1 (ix3 0 ⟨17 + e.val, by omega⟩ k) + pos n * step * w1 (ix3 0 0 k)) := by
  have ld0 (l : Fin 128) : View.ld x0 r0_1 (ix2 0 l) = x0 (ix2 0 l) := by pointwise []
  have lo (x : Vec Ideal S2x128x512 .bf16) (l : Fin 128) (j : Fin 512) : View.ld x r0_2 (ix3 0 l j) = x (ix3 0 l j) := by pointwise []
  have hi (x : Vec Ideal S2x128x512 .bf16) (l : Fin 128) (j : Fin 512) : View.ld x r0_3 (ix3 0 l j) = x (ix3 1 l j) := by pointwise []
  have place (e : Fin 16) : q ⟨g.val * 16 + e.val, by omega⟩ = n := hq _ (by show (g.val * 16 + e.val) / 16 = g.val; omega)
  have lane (e : Fin 16) : bands ⟨(g.val * 16 + e.val) % 16, by omega⟩ = bands e := congrArg bands (Fin.ext (by show (g.val * 16 + e.val) % 16 = e.val; omega))
  have ang (l : Fin 128) : angle p (View.ld x0 r0_1) (ix2 r l) = turn * pos (q l) * bands ⟨l.val % 16, by omega⟩ := by
    rw [angle_apply, hp, ld0, H.band]
  have c : Alike (partsA (cos (angle p (View.ld x0 r0_1))) (View.ld x2 r0_2) (View.ld x2 r0_3) (ix2 r (unit g k)))
      (∑ e : Fin 16, Ideal.cos (turn * pos n * bands e) * w1 (ix3 0 ⟨1 + e.val, by omega⟩ k)) := by
    rw [partsA_apply]
    refine (parts_block (n := 16) (by omega) (by rfl) g (fun l => cos (angle p (View.ld x0 r0_1)) (ix2 r l)) (fun l => View.ld x2 r0_2 (ix3 0 l (unit g k)))
      (fun l => View.ld x2 r0_3 (ix3 0 l (unit g k))) (fun e => w1 (ix3 0 ⟨1 + e.val, by omega⟩ k))
      (fun l => (lo _ _ _).trans (H.cosine l g k)) fun l => ?_).to (Finset.sum_congr rfl fun e _ => ?_)
    · rw [hi, lo]
      exact H.pieces2 _ _
    · congr 1
      show Ideal.cos (angle p (View.ld x0 r0_1) (ix2 r _)) = _
      rw [ang, place, lane]
  have s : Alike (partsA (subf (fill S64x128 0x00000000#32) (sin (angle p (View.ld x0 r0_1)))) (View.ld x3 r0_2) (View.ld x3 r0_3) (ix2 r (unit g k)))
      (∑ e : Fin 16, (0 - Ideal.sin (turn * pos n * bands e)) * w1 (ix3 0 ⟨17 + e.val, by omega⟩ k)) := by
    have neg (l : Fin 128) : subf (fill S64x128 0x00000000#32) (sin (angle p (View.ld x0 r0_1))) (ix2 r l)
        = 0 - Ideal.sin (turn * pos (q l) * bands ⟨l.val % 16, by omega⟩) := by
      rw [← ang]
      pointwise []
    rw [partsA_apply]
    refine (parts_block (n := 16) (by omega) (by rfl) g (fun l => subf (fill S64x128 0x00000000#32) (sin (angle p (View.ld x0 r0_1))) (ix2 r l))
      (fun l => View.ld x3 r0_2 (ix3 0 l (unit g k)))
      (fun l => View.ld x3 r0_3 (ix3 0 l (unit g k))) (fun e => w1 (ix3 0 ⟨17 + e.val, by omega⟩ k))
      (fun l => (lo _ _ _).trans (H.sine l g k)) fun l => ?_).to (Finset.sum_congr rfl fun e _ => ?_)
    · rw [hi, lo]
      exact H.pieces3 _ _
    · simp only [neg, place, lane]
  have t : Alike (partsA (select k0_pay5 (mulf p (fill S64x128 0x39800801#32)) (fill S64x128 0x00000000#32)) (View.ld x1 r0_2) (View.ld x1 r0_3) (ix2 r (unit g k)))
      (pos n * step * w1 (ix3 0 0 k)) := by
    have val (l : Fin 128) : select k0_pay5 (mulf p (fill S64x128 0x39800801#32)) (fill S64x128 0x00000000#32) (ix2 r l)
        = if l.val % 16 = 0 then pos (q l) * step else 0 := by
      have := first_lane l r
      rw [← hp]
      show Scalar.select (k0_pay5 (ix2 r l)) (p (ix2 r l) * step) (Ideal.ofBits .f32 0x00000000#32) = _
      rw [this]
      by_cases h : l.val % 16 = 0
      · rw [if_pos h, if_pos h]; rfl
      · rw [if_neg h, if_neg h]
        show Ideal.ofBits .f32 0x00000000#32 = 0
        simp
    rw [partsA_apply]
    refine (parts_block (n := 16) (by omega) (by rfl) g (fun l => select k0_pay5 (mulf p (fill S64x128 0x39800801#32)) (fill S64x128 0x00000000#32) (ix2 r l))
      (fun l => View.ld x1 r0_2 (ix3 0 l (unit g k)))
      (fun l => View.ld x1 r0_3 (ix3 0 l (unit g k))) (fun e => if e.val = 0 then w1 (ix3 0 0 k) else 0)
      (fun l => (lo _ _ _).trans (H.time l g k)) fun l => ?_).to ?_
    · rw [hi, lo]
      exact H.pieces1 _ _
    · rw [Finset.sum_eq_single (0 : Fin 16)]
      · simp only [val, place]
        rw [if_pos (by show (g.val * 16 + 0) % 16 = 0; omega), if_pos (show (0 : Fin 16).val = 0 from rfl)]
      · intro e _ he
        rw [if_neg (show ¬ e.val = 0 from fun h => he (Fin.ext h)), mul_zero]
      · intro h
        exact absurd (Finset.mem_univ _) h
  exact (c.add s).add t

/-- The three layers at a group's lanes. -/
theorem wide_apply (p : FVec Ideal S64x128 .f32) (q : Fin 128 → ℕ) (r : Fin 64) (g : Fin 8) (k : Fin 64) (n : ℕ)
    (hp : ∀ l, p (ix2 r l) = pos (q l)) (hq : ∀ l : Fin 128, l.val / 16 = g.val → q l = n) :
    wide x0 x1 x2 x3 x4 x5 x6 x7 x8 x9 p (ix2 r (unit g k)) = net bands w1 b1 w2 b2 w3 b3 fr (pos n) k := by
  have sinesAt (f b : Vec Ideal S1x512 .f32) (h : FVec Ideal S64x512 .f32) (j : Fin 512) : sines (View.ld f r0_0) (View.ld b r0_0) h (ix2 r j)
      = Ideal.sin (f (ix2 0 j) * (h (ix2 r j) + b (ix2 0 j))) := by pointwise [sines]
  have lo (x : Vec Ideal S2x512x512 .bf16) (l j : Fin 512) : View.ld x r0_4 (ix3 0 l j) = x (ix3 0 l j) := by pointwise []
  have hi (x : Vec Ideal S2x512x512 .bf16) (l j : Fin 512) : View.ld x r0_5 (ix3 0 l j) = x (ix3 1 l j) := by pointwise []
  have next (x : Vec Ideal S2x512x512 .bf16) (w : (⟨3, ![1, 64, 64]⟩ : Shape).Idx → EReal) (hx : Pieces x)
      (hb : ∀ (l : Fin 512) k, x (ix3 0 l (unit g k)) = if l.val / 64 = g.val then w (ix3 0 ⟨l.val % 64, by omega⟩ k) else 0)
      (f b : Vec Ideal S1x512 .f32) (h : FVec Ideal S64x512 .f32) (k : Fin 64) :
      sines (View.ld f r0_0) (View.ld b r0_0) (partsB h (View.ld x r0_4) (View.ld x r0_5)) (ix2 r (unit g k))
        = Ideal.sin (f (ix2 0 (unit g k)) * (∑ e : Fin 64, h (ix2 r (unit g e)) * w (ix3 0 e k) + b (ix2 0 (unit g k)))) := by
    rw [sinesAt, partsB_apply]
    exact (parts_block (n := 64) (by omega) (by rfl) g (fun l => h (ix2 r l)) (fun l => View.ld x r0_4 (ix3 0 l (unit g k)))
      (fun l => View.ld x r0_5 (ix3 0 l (unit g k))) (fun e => w (ix3 0 e k)) (fun l => (lo _ _ _).trans (hb l k))
      (fun l => by rw [hi, lo]; exact hx _ _)).sin _ _
  have start (f b : Vec Ideal S1x512 .f32) (k : Fin 64) := (sinesAt f b _ (unit g k)).trans ((features_apply H p q r g k n hp hq).sin _ _)
  unfold wide
  rw [next x7 w3 H.pieces7 fun l k => H.third l g k]
  simp only [next x5 w2 H.pieces5 fun l k => H.second l g k]
  simp only [start, H.off1, H.off2, H.off3, H.freq]
  rfl

/-- The filter ahead at row `r` of group `a`. -/
theorem aheadAt_apply (i : grid0.Coords) (a : Fin 8) (r : Fin 64) (z : Fin 1024) :
    aheadAt i x0 x1 x2 x3 x4 x5 x6 x7 x8 x9 x10 x12 a (ix2 r z)
      = ahead (net bands w1 b1 w2 b2 w3 b3 fr) wo d ((i 0).val * 512 + a.val * 64 + r.val) z := by
  have hk (k : Fin 64) := (lanesOf_apply a (wide x0 x1 x2 x3 x4 x5 x6 x7 x8 x9 (k0_pay4 i)) r k).trans
    (wide_apply H (k0_pay4 i) (fun l => (i 0).val * 512 + l.val / 16 * 64 + r.val) r a k _ (fun l => positions_apply i r l)
      (fun l h => by rw [h]))
  have ldw (l : Fin 64) : View.ld x10 r0_7 (ix3 0 l z) = x10 (ix3 0 l z) := by pointwise []
  have ldv (l : Fin 64) : View.ld x10 r0_8 (ix3 0 l z) = x10 (ix3 1 l z) := by pointwise []
  have ldd : View.ld x12 r0_6 (ix2 0 z) = x12 (ix2 0 z) := by pointwise []
  unfold aheadAt
  rw [aheadOf_apply, partsC_apply, parts_tap _ (fun l => View.ld x10 r0_7 (ix3 0 l z)) _ (fun l => by rw [hk]; exact sin_ne_top _)
    (fun l => by rw [ldw, H.wAhead]; exact H.plain _ _) (fun l => by rw [ldw, ldv]; exact H.pieces10 _ _), rowsOf_apply, ldd, H.decay]
  simp only [hk, ldw, H.wAhead]
  rfl

/-- The filter back. -/
theorem backAt_apply (i : grid0.Coords) (a : Fin 8) (r : Fin 64) (z : Fin 1024) :
    backAt i x0 x1 x2 x3 x4 x5 x6 x7 x8 x9 x11 x12 a (ix2 r z)
      = back (net bands w1 b1 w2 b2 w3 b3 fr) wo d ((i 0).val * 512 + a.val * 64 + r.val) z := by
  have lt := point_lt i
  have flip (l : Fin 128) : subf (fill S64x128 0x45800000#32) (k0_pay4 i) (ix2 r l) = pos (4096 - ((i 0).val * 512 + l.val / 16 * 64 + r.val)) := by
    rw [← whole_sub _ (by omega), ← positions_apply]
    rfl
  have flipR : subf (fill S64x1 0x45800000#32) (rowsOf i a) (ix2 r 0) = pos (4096 - ((i 0).val * 512 + a.val * 64 + r.val)) := by
    rw [← whole_sub _ (by omega), ← rowsOf_apply]
    rfl
  have hk (k : Fin 64) := (lanesOf_apply a (wide x0 x1 x2 x3 x4 x5 x6 x7 x8 x9 (subf (fill S64x128 0x45800000#32) (k0_pay4 i))) r k).trans
    (wide_apply H _ (fun l => 4096 - ((i 0).val * 512 + l.val / 16 * 64 + r.val)) r a k _ flip (fun l h => by rw [h]))
  have ldw (l : Fin 64) : View.ld x11 r0_7 (ix3 0 l z) = x11 (ix3 0 l z) := by pointwise []
  have ldv (l : Fin 64) : View.ld x11 r0_8 (ix3 0 l z) = x11 (ix3 1 l z) := by pointwise []
  have ldd : View.ld x12 r0_6 (ix2 0 z) = x12 (ix2 0 z) := by pointwise []
  unfold backAt
  rw [backOf_apply, aheadOf_apply, partsC_apply, parts_tap _ (fun l => View.ld x11 r0_7 (ix3 0 l z)) _ (fun l => by rw [hk]; exact sin_ne_top _)
    (fun l => by rw [ldw, H.wBack]; exact H.plain _ _) (fun l => by rw [ldw, ldv]; exact H.pieces11 _ _), rowsOf_apply, flipR, ldd, H.decay]
  simp only [hk, ldw, H.wBack]
  exact after _ _

theorem pieceSum (i : grid0.Coords) (a : Fin 8) (y : S64x1024.Idx) :
    sumAt i x0 x1 x2 x3 x4 x5 x6 x7 x8 x9 x10 x11 x12 a y
      = (fun y : S512x1024.Idx => ahead (net bands w1 b1 w2 b2 w3 b3 fr) wo d ((i 0).val * 512 + (y 0).val) (y 1)
        + back (net bands w1 b1 w2 b2 w3 b3 fr) wo d ((i 0).val * 512 + (y 0).val) (y 1)) ((cut a).emb y) := by
  obtain ⟨r, z, rfl⟩ : ∃ (r : Fin 64) (z : Fin 1024), y = ix2 r z := ⟨y 0, y 1, eq_ix2 y⟩
  rw [place]
  have e := congrArg₂ (· + ·) (aheadAt_apply H i a r z) (backAt_apply H i a r z)
  rw [Nat.add_assoc] at e
  exact e

theorem pieceDiff (i : grid0.Coords) (a : Fin 8) (y : S64x1024.Idx) :
    diffAt i x0 x1 x2 x3 x4 x5 x6 x7 x8 x9 x10 x11 x12 a y
      = (fun y : S512x1024.Idx => ahead (net bands w1 b1 w2 b2 w3 b3 fr) wo d ((i 0).val * 512 + (y 0).val) (y 1)
        - back (net bands w1 b1 w2 b2 w3 b3 fr) wo d ((i 0).val * 512 + (y 0).val) (y 1)) ((cut a).emb y) := by
  obtain ⟨r, z, rfl⟩ : ∃ (r : Fin 64) (z : Fin 1024), y = ix2 r z := ⟨y 0, y 1, eq_ix2 y⟩
  rw [place]
  have e := congrArg₂ (· - ·) (aheadAt_apply H i a r z) (backAt_apply H i a r z)
  rw [Nat.add_assoc] at e
  exact e

/-- What the body leaves in the block of sums. -/
theorem out_sums (i : grid0.Coords) (r : Fin 512) (z : Fin 1024) : out0_13 i x0 x1 x2 x3 x4 x5 x6 x7 x8 x9 x10 x11 x12 (ix2 r z)
    = ahead (net bands w1 b1 w2 b2 w3 b3 fr) wo d ((i 0).val * 512 + r.val) z + back (net bands w1 b1 w2 b2 w3 b3 fr) wo d ((i 0).val * 512 + r.val) z := by
  unfold_out out0_13
  refine View.canon_apply_of_pieces (Val := Elt Ideal) (e := .bf16) (fun y : S512x1024.Idx => ahead (net bands w1 b1 w2 b2 w3 b3 fr) wo d ((i 0).val * 512 + (y 0).val) (y 1)
        + back (net bands w1 b1 w2 b2 w3 b3 fr) wo d ((i 0).val * 512 + (y 0).val) (y 1)) _ ?_
    (ix2 r z) (cover0_13 _ _ _ _ _ _ _ _ (ix2 r z))
  simp only [List.forall_mem_cons, List.not_mem_nil, false_imp_iff, implies_true, and_true]
  exact ⟨pieceSum H i 7, pieceSum H i 6, pieceSum H i 5, pieceSum H i 4, pieceSum H i 3, pieceSum H i 2, pieceSum H i 1, pieceSum H i 0⟩

/-- What the body leaves in the block of differences. -/
theorem out_diffs (i : grid0.Coords) (r : Fin 512) (z : Fin 1024) : out0_14 i x0 x1 x2 x3 x4 x5 x6 x7 x8 x9 x10 x11 x12 (ix2 r z)
    = ahead (net bands w1 b1 w2 b2 w3 b3 fr) wo d ((i 0).val * 512 + r.val) z - back (net bands w1 b1 w2 b2 w3 b3 fr) wo d ((i 0).val * 512 + r.val) z := by
  unfold_out out0_14
  refine View.canon_apply_of_pieces (Val := Elt Ideal) (e := .bf16) (fun y : S512x1024.Idx => ahead (net bands w1 b1 w2 b2 w3 b3 fr) wo d ((i 0).val * 512 + (y 0).val) (y 1)
        - back (net bands w1 b1 w2 b2 w3 b3 fr) wo d ((i 0).val * 512 + (y 0).val) (y 1)) _ ?_
    (ix2 r z) (cover0_14 _ _ _ _ _ _ _ _ (ix2 r z))
  simp only [List.forall_mem_cons, List.not_mem_nil, false_imp_iff, implies_true, and_true]
  exact ⟨pieceDiff H i 7, pieceDiff H i 6, pieceDiff H i 5, pieceDiff H i 4, pieceDiff H i 3, pieceDiff H i 2, pieceDiff H i 1, pieceDiff H i 0⟩

end

end Cert.Kernel5Ideal.Filt

end
-- ==== Proof.FiltArray.lean ====
/-
  The filters as whole arrays: what the host lays out for the kernel, and the eight blocks together.
-/
module

public import proofs.«01_k».proof.Proof.FiltBlock
public import proofs.«01_k».proof.Proof.Gen.Kernel5Ideal.Value

@[expose] public section

set_option maxRecDepth 65536

noncomputable section

namespace Cert.Kernel5Ideal.Filt

open Cert.Kernel5Ideal Cert.Kernel5Ideal.Gen Idealize.ShloMosaic Idealize.ShloMosaic.TcCoe Idealize.SL.Sem
open Cert.AttnMath Cert.FiltSpec
open scoped BigOperators

/-! The host's layouts, by name. Weights rounded and what rounding left of them, one above the other. -/

def stackA (w : FVec Ideal S128x512 .f32) : Vec Ideal S2x128x512 .bf16 :=
  concatenate S2x128x512 0
    [⟨S1x128x512, broadcastInDim S1x128x512 ![1, 2] bcast_S128x512_S1x128x512_1_2 (truncf .bf16 w bitsLt_bf16_f32 : FVec Ideal S128x512 .bf16)⟩,
     ⟨S1x128x512, broadcastInDim S1x128x512 ![1, 2] bcast_S128x512_S1x128x512_1_2
        (truncf .bf16 (subf w (extf .f32 (truncf .bf16 w bitsLt_bf16_f32) bitsLt_bf16_f32)) bitsLt_bf16_f32 : FVec Ideal S128x512 .bf16)⟩]
    concatenates_S1x128x512_S1x128x512_S2x128x512_d0

def stackB (w : FVec Ideal S512x512 .f32) : Vec Ideal S2x512x512 .bf16 :=
  concatenate S2x512x512 0
    [⟨S1x512x512, broadcastInDim S1x512x512 ![1, 2] bcast_S512x512_S1x512x512_1_2 (truncf .bf16 w bitsLt_bf16_f32 : FVec Ideal S512x512 .bf16)⟩,
     ⟨S1x512x512, broadcastInDim S1x512x512 ![1, 2] bcast_S512x512_S1x512x512_1_2
        (truncf .bf16 (subf w (extf .f32 (truncf .bf16 w bitsLt_bf16_f32) bitsLt_bf16_f32)) bitsLt_bf16_f32 : FVec Ideal S512x512 .bf16)⟩]
    concatenates_S1x512x512_S1x512x512_S2x512x512_d0

def stackC (w : FVec Ideal S64x1024 .f32) : Vec Ideal S2x64x1024 .bf16 :=
  concatenate S2x64x1024 0
    [⟨S1x64x1024, broadcastInDim S1x64x1024 ![1, 2] bcast_S64x1024_S1x64x1024_1_2 (truncf .bf16 w bitsLt_bf16_f32 : FVec Ideal S64x1024 .bf16)⟩,
     ⟨S1x64x1024, broadcastInDim S1x64x1024 ![1, 2] bcast_S64x1024_S1x64x1024_1_2
        (truncf .bf16 (subf w (extf .f32 (truncf .bf16 w bitsLt_bf16_f32) bitsLt_bf16_f32)) bitsLt_bf16_f32 : FVec Ideal S64x1024 .bf16)⟩]
    concatenates_S1x64x1024_S1x64x1024_S2x64x1024_d0

theorem stackA_first (w : Vec Ideal S128x512 .f32) (l : Fin 128) (j : Fin 512) : stackA w (ix3 0 l j) = w (ix2 l j) := by pointwise [stackA]
theorem stackA_rest (w : Vec Ideal S128x512 .f32) : Pieces (stackA w) := fun l j => by pointwise [stackA]
theorem stackB_first (w : Vec Ideal S512x512 .f32) (l j : Fin 512) : stackB w (ix3 0 l j) = w (ix2 l j) := by pointwise [stackB]
theorem stackB_rest (w : Vec Ideal S512x512 .f32) : Pieces (stackB w) := fun l j => by pointwise [stackB]
theorem stackC_first (w : Vec Ideal S64x1024 .f32) (l : Fin 64) (j : Fin 1024) : stackC w (ix3 0 l j) = w (ix2 l j) := by pointwise [stackC]
theorem stackC_rest (w : Vec Ideal S64x1024 .f32) : Pieces (stackC w) := fun l j => by pointwise [stackC]

/-- The identity of eight, by comparing two counts. -/
def same : FVec Ideal S8x8 .f32 :=
  uitofp .f32 (cmpi .eq (addi (iotaInDim S8x8 32 0) (broadcastInDim S8x8 ![] bcast_S_S8x8 (constantI S_ 32 0#32))) (iotaInDim S8x8 32 1))

theorem same_apply (a b : Fin 8) : same (ix2 a b) = if a.val = b.val then 1 else 0 := by
  have e : same (ix2 a b) = (((Scalar.cmpi .eq ((BitVec.ofNat 32 a.val) + 0#32) (BitVec.ofNat 32 b.val)).toNat : ℝ) : EReal) := by
    pointwise [same]
    rfl
  have n : ∀ a b : Fin 8, (Scalar.cmpi .eq ((BitVec.ofNat 32 a.val) + 0#32) (BitVec.ofNat 32 b.val)).toNat = if a.val = b.val then 1 else 0 := by decide
  rw [e, n]
  split <;> simp

/-- The same weights for each of eight groups, with zeros between. -/
def groupsA (e : Vec Ideal S8x8 .f32) (w : Vec Ideal S16x64 .f32) : Vec Ideal S128x512 .f32 :=
  shapeCast S128x512
    (mulf (broadcastInDim S8x16x8x64 ![0, 1, 2, 3] bcast_S8x1x8x1_S8x16x8x64_0_1_2_3
        (broadcastInDim S8x1x8x1 ![0, 2] bcast_S8x8_S8x1x8x1_0_2 e))
      (broadcastInDim S8x16x8x64 ![0, 1, 2, 3] bcast_S1x16x1x64_S8x16x8x64_0_1_2_3
        (broadcastInDim S1x16x1x64 ![1, 3] bcast_S16x64_S1x16x1x64_1_3 w)) : FVec Ideal S8x16x8x64 .f32) shapeCasts_S8x16x8x64_S128x512

def groupsB (e : Vec Ideal S8x8 .f32) (w : Vec Ideal S64x64 .f32) : Vec Ideal S512x512 .f32 :=
  shapeCast S512x512
    (mulf (broadcastInDim S8x64x8x64 ![0, 1, 2, 3] bcast_S8x1x8x1_S8x64x8x64_0_1_2_3
        (broadcastInDim S8x1x8x1 ![0, 2] bcast_S8x8_S8x1x8x1_0_2 e))
      (broadcastInDim S8x64x8x64 ![0, 1, 2, 3] bcast_S1x64x1x64_S8x64x8x64_0_1_2_3
        (broadcastInDim S1x64x1x64 ![1, 3] bcast_S64x64_S1x64x1x64_1_3 w)) : FVec Ideal S8x64x8x64 .f32) shapeCasts_S8x64x8x64_S512x512

theorem groupsA_apply (e : Vec Ideal S8x8 .f32) (w : Vec Ideal S16x64 .f32) (l : Fin 128) (g : Fin 8) (k : Fin 64) :
    groupsA e w (ix2 l (unit g k)) = e (ix2 ⟨l.val / 16, by omega⟩ g) * w (ix2 ⟨l.val % 16, by omega⟩ k) := by
  pointwise [groupsA, unit]

theorem groupsB_apply (e : Vec Ideal S8x8 .f32) (w : Vec Ideal S64x64 .f32) (l : Fin 512) (g : Fin 8) (k : Fin 64) :
    groupsB e w (ix2 l (unit g k)) = e (ix2 ⟨l.val / 64, by omega⟩ g) * w (ix2 ⟨l.val % 64, by omega⟩ k) := by
  pointwise [groupsB, unit]

/-- A vector of 64 repeated for the groups. -/
def repeated (b : Vec Ideal S64 .f32) : Vec Ideal S1x512 .f32 :=
  shapeCast S1x512 (broadcastInDim S1x1x8x64 ![0, 1, 2, 3] bcast_S1x1x1x64_S1x1x8x64_0_1_2_3
    (shapeCast S1x1x1x64 (broadcastInDim S1x64 ![1] bcast_S64_S1x64_1 b : FVec Ideal S1x64 .f32) shapeCasts_S1x64_S1x1x1x64 : FVec Ideal S1x1x1x64 .f32)
    : FVec Ideal S1x1x8x64 .f32) shapeCasts_S1x1x8x64_S1x512

theorem repeated_apply (b : Vec Ideal S64 .f32) (g : Fin 8) (k : Fin 64) : repeated b (ix2 0 (unit g k)) = b (ix1 k) := by
  pointwise [repeated, unit]

/-- One row above fifteen of the padding value. -/
def under (w : FVec Ideal S1x64 .f32) (v : FVec Ideal S_ .f32) : FVec Ideal S16x64 .f32 :=
  pad S16x64 ![0, 0] ![15, 0] ![0, 0] w v pads_S1x64_S16x64_0150_000 h_S_

theorem under_apply (w : FVec Ideal S1x64 .f32) (v : FVec Ideal S_ .f32) (r : Fin 16) (k : Fin 64) :
    under w v (ix2 r k) = if r.val = 0 then w (ix2 0 k) else v ix0 := by
  pointwise [under]
  by_cases h : r.val = 0
  · rw [dif_pos (by omega), if_pos h]
    exact congrArg w (congrArg (fun q => ix2 q k) (Fin.ext h))
  · rw [dif_neg (by omega), if_neg h]
    exact congrArg v (funext fun a => a.elim0)

variable (m : (ℓ : Loc nD τ sig) → Buf (Elt Ideal) ℓ) (c : Dev nD)

/-- What the host has before its last stretch of operations. -/
def lower : Valuation τ sig (Elt Ideal) :=
  StableHlo.after hostOps0_14 (StableHlo.after hostOps0_13 (StableHlo.after hostOps0_12 (StableHlo.after hostOps0_11
    (StableHlo.after hostOps0_10 (StableHlo.after hostOps0_9 (StableHlo.after hostOps0_8 (StableHlo.after hostOps0_7
      (StableHlo.after hostOps0_6 (StableHlo.after hostOps0_5 (StableHlo.after hostOps0_4 (StableHlo.after hostOps0_3
        (StableHlo.after hostOps0_2 (StableHlo.after hostOps0_1 (StableHlo.after hostOps0 fun b => m (c, b)))))))))))))))

theorem last_stretch (b : Ref sig .tc) : V m c b = StableHlo.after hostOps0_15 (lower m c) b := rfl

section
variable (σ : Valuation τ sig (Elt Ideal))
theorem time_stack : StableHlo.after hostOps0_15 σ main_v63 = stackA (σ main_v24) := rfl
theorem cosine_stack : StableHlo.after hostOps0_15 σ main_v70 = stackA (σ main_v26) := rfl
theorem sine_stack : StableHlo.after hostOps0_15 σ main_v77 = stackA (σ main_v28) := rfl
theorem second_stack : StableHlo.after hostOps0_15 σ main_v84 = stackB (σ main_v33) := rfl
theorem third_stack : StableHlo.after hostOps0_15 σ main_v91 = stackB (σ main_v38) := rfl
theorem off3_lane : StableHlo.after hostOps0_15 σ main_v42 = repeated (σ main_v5) := rfl
theorem freq_lane : StableHlo.after hostOps0_15 σ main_v46 = repeated (σ main_v7) := rfl
theorem off2_lane : StableHlo.after hostOps0_15 σ main_v37 = σ main_v37 := rfl
theorem off1_lane : StableHlo.after hostOps0_15 σ main_v32 = σ main_v32 := rfl
theorem band_lane : StableHlo.after hostOps0_15 σ main_v18 = σ main_v18 := rfl
end

theorem time_term : lower m c main_v24 = groupsA same (under (extractStridedSlice S1x64 ![0, 0] (lower m c main_v0) slices_S33x64_S1x64_0_0)
  (sitofp .f32 (constantI S_ 32 0#32))) := rfl

theorem cosine_term : lower m c main_v26 = groupsA same (extractStridedSlice S16x64 ![1, 0] (lower m c main_v0) slices_S33x64_S16x64_1_0) := rfl
theorem sine_term : lower m c main_v28 = groupsA same (extractStridedSlice S16x64 ![17, 0] (lower m c main_v0) slices_S33x64_S16x64_17_0) := rfl
theorem second_term : lower m c main_v33 = groupsB same (lower m c main_v2) := rfl
theorem third_term : lower m c main_v38 = groupsB same (lower m c main_v4) := rfl
theorem off1_term : lower m c main_v32 = repeated (lower m c main_v1) := rfl
theorem off2_term : lower m c main_v37 = repeated (lower m c main_v3) := rfl

/-! The arguments without their leading axis. -/

theorem flat33_apply (v : Vec Ideal S1x33x64 .f32) (x : Fin 33) (k : Fin 64) :
    shapeCast S33x64 v shapeCasts_S1x33x64_S33x64 (ix2 x k) = v (ix3 0 x k) := by
  pointwise

theorem flat64_apply (v : Vec Ideal S1x64x64 .f32) (x k : Fin 64) :
    shapeCast S64x64 v shapeCasts_S1x64x64_S64x64 (ix2 x k) = v (ix3 0 x k) := by
  pointwise

theorem w1_term : lower m c main_v0 = shapeCast S33x64 (m ((c : Thread nD τ).loc main_arg0)) shapeCasts_S1x33x64_S33x64 := rfl
theorem w2_term : lower m c main_v2 = shapeCast S64x64 (m ((c : Thread nD τ).loc main_arg2)) shapeCasts_S1x64x64_S64x64 := rfl
theorem w3_term : lower m c main_v4 = shapeCast S64x64 (m ((c : Thread nD τ).loc main_arg4)) shapeCasts_S1x64x64_S64x64 := rfl

theorem flat_apply (v : Vec Ideal S1x64 .f32) (k : Fin 64) : shapeCast S64 v shapeCasts_S1x64_S64 (ix1 k) = v (ix2 0 k) := by
  pointwise

theorem b1_term : lower m c main_v1 = shapeCast S64 (m ((c : Thread nD τ).loc main_arg1)) shapeCasts_S1x64_S64 := rfl
theorem b2_term : lower m c main_v3 = shapeCast S64 (m ((c : Thread nD τ).loc main_arg3)) shapeCasts_S1x64_S64 := rfl
theorem b3_term : lower m c main_v5 = shapeCast S64 (m ((c : Thread nD τ).loc main_arg5)) shapeCasts_S1x64_S64 := rfl
theorem fr_term : lower m c main_v7 = shapeCast S64 (m ((c : Thread nD τ).loc main_arg7)) shapeCasts_S1x64_S64 := rfl

/-- The last weights of one direction. -/
def sideOf (w : Vec Ideal S1x64x2048 .f32) : FVec Ideal S64x2x2x512 .f32 :=
  shapeCast S64x2x2x512 (shapeCast S64x2048 w shapeCasts_S1x64x2048_S64x2048 : FVec Ideal S64x2048 .f32) shapeCasts_S64x2048_S64x2x2x512

def aheadHalf (w : FVec Ideal S64x2x2x512 .f32) : FVec Ideal S64x1024 .f32 :=
  shapeCast S64x1024 (shapeCast S64x2x512 (extractStridedSlice S64x2x1x512 ![0, 0, 0, 0] w slices_S64x2x2x512_S64x2x1x512_0_0_0_0
    : FVec Ideal S64x2x1x512 .f32) shapeCasts_S64x2x1x512_S64x2x512 : FVec Ideal S64x2x512 .f32) shapeCasts_S64x2x512_S64x1024

def backHalf (w : FVec Ideal S64x2x2x512 .f32) : FVec Ideal S64x1024 .f32 :=
  shapeCast S64x1024 (shapeCast S64x2x512 (extractStridedSlice S64x2x1x512 ![0, 0, 1, 0] w slices_S64x2x2x512_S64x2x1x512_0_0_1_0
    : FVec Ideal S64x2x1x512 .f32) shapeCasts_S64x2x1x512_S64x2x512 : FVec Ideal S64x2x512 .f32) shapeCasts_S64x2x512_S64x1024

theorem sideOf_apply (w : Vec Ideal S1x64x2048 .f32) (x : Fin 64) (a u : Fin 2) (z : Fin 512) :
    sideOf w (ix4 x a u z) = w (ix3 0 x ⟨a.val * 1024 + u.val * 512 + z.val, by omega⟩) := by
  pointwise [sideOf]

theorem aheadHalf_apply (w : FVec Ideal S64x2x2x512 .f32) (x : Fin 64) (z : Fin 1024) :
    aheadHalf w (ix2 x z) = w (ix4 x ⟨z.val / 512, by omega⟩ 0 ⟨z.val % 512, by omega⟩) := by
  pointwise [aheadHalf]

theorem backHalf_apply (w : FVec Ideal S64x2x2x512 .f32) (x : Fin 64) (z : Fin 1024) :
    backHalf w (ix2 x z) = w (ix4 x ⟨z.val / 512, by omega⟩ 1 ⟨z.val % 512, by omega⟩) := by
  pointwise [backHalf]

theorem ahead_stack (σ : Valuation τ sig (Elt Ideal)) : StableHlo.after hostOps0_15 σ main_v98 = stackC (aheadHalf (σ main_v21)) := rfl
theorem back_stack (σ : Valuation τ sig (Elt Ideal)) : StableHlo.after hostOps0_15 σ main_v105 = stackC (backHalf (σ main_v21)) := rfl
theorem side_term : lower m c main_v21 = sideOf (m ((c : Thread nD τ).loc main_arg6)) := rfl

/-- The decays of both halves of the columns. -/
def doubled (d : FVec Ideal S512 .f32) : FVec Ideal S1x1024 .f32 :=
  broadcastInDim S1x1024 ![1] bcast_S1024_S1x1024_1 (shapeCast S1024 (broadcastInDim S2x512 ![0, 1] bcast_S1x512_S2x512_0_1
    (shapeCast S1x512 d shapeCasts_S512_S1x512 : FVec Ideal S1x512 .f32) : FVec Ideal S2x512 .f32) shapeCasts_S2x512_S1024 : FVec Ideal S1024 .f32)

theorem doubled_apply (d : FVec Ideal S512 .f32) (z : Fin 1024) : doubled d (ix2 0 z) = d (ix1 ⟨z.val % 512, by omega⟩) := by
  pointwise [doubled]

/-- The bands of all groups. -/
def allBands (b : FVec Ideal S16 .f32) : FVec Ideal S1x128 .f32 :=
  shapeCast S1x128 (broadcastInDim S1x1x8x16 ![0, 1, 2, 3] bcast_S1x1x1x16_S1x1x8x16_0_1_2_3
    (shapeCast S1x1x1x16 (broadcastInDim S1x16 ![1] bcast_S16_S1x16_1 b : FVec Ideal S1x16 .f32) shapeCasts_S1x16_S1x1x1x16 : FVec Ideal S1x1x1x16 .f32)
    : FVec Ideal S1x1x8x16 .f32) shapeCasts_S1x1x8x16_S1x128

theorem allBands_apply (b : FVec Ideal S16 .f32) (l : Fin 128) : allBands b (ix2 0 l) = b (ix1 ⟨l.val % 16, by omega⟩) := by
  pointwise [allBands]

theorem decay_lane (σ : Valuation τ sig (Elt Ideal)) : StableHlo.after hostOps0_15 σ main_v56 = doubled (σ main_v20) := rfl
theorem band_term : lower m c main_v18 = allBands (lower m c main_v14) := rfl

/-! The first layer's rows. -/

theorem topRow_apply (w : FVec Ideal S33x64 .f32) (k : Fin 64) : extractStridedSlice S1x64 ![0, 0] w slices_S33x64_S1x64_0_0 (ix2 0 k) = w (ix2 0 k) := by
  pointwise
theorem cosRows_apply (w : FVec Ideal S33x64 .f32) (x : Fin 16) (k : Fin 64) :
    extractStridedSlice S16x64 ![1, 0] w slices_S33x64_S16x64_1_0 (ix2 x k) = w (ix2 ⟨1 + x.val, by omega⟩ k) := by
  pointwise
theorem sinRows_apply (w : FVec Ideal S33x64 .f32) (x : Fin 16) (k : Fin 64) :
    extractStridedSlice S16x64 ![17, 0] w slices_S33x64_S16x64_17_0 (ix2 x k) = w (ix2 ⟨17 + x.val, by omega⟩ k) := by
  pointwise

theorem zero_pad : (sitofp .f32 (constantI S_ 32 0#32) : FVec Ideal S_ .f32) ix0 = 0 := by
  show ((((0#32 : BitVec 32).toInt : ℝ) : EReal)) = 0
  simp

/-- A product with the identity of eight. -/
theorem same_mul (a b : Fin 8) (x : EReal) : same (ix2 a b) * x = if a.val = b.val then x else 0 := by
  rw [same_apply]
  split
  · exact one_mul x
  · exact zero_mul x

/-! The layouts at an entry. -/

abbrev W1 : S1x33x64.Idx → EReal := m ((c : Thread nD τ).loc main_arg0)
abbrev W2 : S1x64x64.Idx → EReal := m ((c : Thread nD τ).loc main_arg2)
abbrev W3 : S1x64x64.Idx → EReal := m ((c : Thread nD τ).loc main_arg4)
abbrev Wo : S1x64x2048.Idx → EReal := m ((c : Thread nD τ).loc main_arg6)
abbrev B1 : S1x64.Idx → EReal := m ((c : Thread nD τ).loc main_arg1)
abbrev B2 : S1x64.Idx → EReal := m ((c : Thread nD τ).loc main_arg3)
abbrev B3 : S1x64.Idx → EReal := m ((c : Thread nD τ).loc main_arg5)
abbrev Fr : S1x64.Idx → EReal := m ((c : Thread nD τ).loc main_arg7)

theorem time_host (l : Fin 128) (g : Fin 8) (k : Fin 64) : (V m c main_v63 : S2x128x512.Idx → EReal) (ix3 0 l (unit g k))
    = if l.val / 16 = g.val then (if l.val % 16 = 0 then W1 m c (ix3 0 0 k) else 0) else 0 := by
  refine (congrFun ((last_stretch m c main_v63).trans (time_stack _)) _).trans ?_
  rw [stackA_first, time_term, groupsA_apply, same_mul, under_apply, topRow_apply, w1_term, flat33_apply, zero_pad]

theorem cosine_host (l : Fin 128) (g : Fin 8) (k : Fin 64) : (V m c main_v70 : S2x128x512.Idx → EReal) (ix3 0 l (unit g k))
    = if l.val / 16 = g.val then W1 m c (ix3 0 ⟨1 + l.val % 16, by omega⟩ k) else 0 := by
  refine (congrFun ((last_stretch m c main_v70).trans (cosine_stack _)) _).trans ?_
  rw [stackA_first, cosine_term, groupsA_apply, same_mul, cosRows_apply, w1_term, flat33_apply]

theorem sine_host (l : Fin 128) (g : Fin 8) (k : Fin 64) : (V m c main_v77 : S2x128x512.Idx → EReal) (ix3 0 l (unit g k))
    = if l.val / 16 = g.val then W1 m c (ix3 0 ⟨17 + l.val % 16, by omega⟩ k) else 0 := by
  refine (congrFun ((last_stretch m c main_v77).trans (sine_stack _)) _).trans ?_
  rw [stackA_first, sine_term, groupsA_apply, same_mul, sinRows_apply, w1_term, flat33_apply]

theorem second_host (l : Fin 512) (g : Fin 8) (k : Fin 64) : (V m c main_v84 : S2x512x512.Idx → EReal) (ix3 0 l (unit g k))
    = if l.val / 64 = g.val then W2 m c (ix3 0 ⟨l.val % 64, by omega⟩ k) else 0 := by
  refine (congrFun ((last_stretch m c main_v84).trans (second_stack _)) _).trans ?_
  rw [stackB_first, second_term, groupsB_apply, same_mul, w2_term, flat64_apply]

theorem third_host (l : Fin 512) (g : Fin 8) (k : Fin 64) : (V m c main_v91 : S2x512x512.Idx → EReal) (ix3 0 l (unit g k))
    = if l.val / 64 = g.val then W3 m c (ix3 0 ⟨l.val % 64, by omega⟩ k) else 0 := by
  refine (congrFun ((last_stretch m c main_v91).trans (third_stack _)) _).trans ?_
  rw [stackB_first, third_term, groupsB_apply, same_mul, w3_term, flat64_apply]

theorem off1_host (g : Fin 8) (k : Fin 64) : (V m c main_v32 : S1x512.Idx → EReal) (ix2 0 (unit g k)) = B1 m c (ix2 0 k) := by
  refine (congrFun ((last_stretch m c main_v32).trans (off1_lane _)) _).trans ?_
  rw [off1_term, repeated_apply, b1_term, flat_apply]

theorem off2_host (g : Fin 8) (k : Fin 64) : (V m c main_v37 : S1x512.Idx → EReal) (ix2 0 (unit g k)) = B2 m c (ix2 0 k) := by
  refine (congrFun ((last_stretch m c main_v37).trans (off2_lane _)) _).trans ?_
  rw [off2_term, repeated_apply, b2_term, flat_apply]

theorem off3_host (g : Fin 8) (k : Fin 64) : (V m c main_v42 : S1x512.Idx → EReal) (ix2 0 (unit g k)) = B3 m c (ix2 0 k) := by
  refine (congrFun ((last_stretch m c main_v42).trans (off3_lane _)) _).trans ?_
  rw [repeated_apply, b3_term, flat_apply]

theorem freq_host (g : Fin 8) (k : Fin 64) : (V m c main_v46 : S1x512.Idx → EReal) (ix2 0 (unit g k)) = Fr m c (ix2 0 k) := by
  refine (congrFun ((last_stretch m c main_v46).trans (freq_lane _)) _).trans ?_
  rw [repeated_apply, fr_term, flat_apply]

theorem ahead_host (x : Fin 64) (z : Fin 1024) :
    (V m c main_v98 : S2x64x1024.Idx → EReal) (ix3 0 x z) = Wo m c (ix3 0 x (col 0 z)) := by
  refine (congrFun ((last_stretch m c main_v98).trans (ahead_stack _)) _).trans ?_
  rw [stackC_first, aheadHalf_apply, side_term, sideOf_apply]
  rfl

theorem back_host (x : Fin 64) (z : Fin 1024) :
    (V m c main_v105 : S2x64x1024.Idx → EReal) (ix3 0 x z) = Wo m c (ix3 0 x (col 1 z)) := by
  refine (congrFun ((last_stretch m c main_v105).trans (back_stack _)) _).trans ?_
  rw [stackC_first, backHalf_apply, side_term, sideOf_apply]
  rfl

theorem decay_host (z : Fin 1024) : (V m c main_v56 : S1x1024.Idx → EReal) (ix2 0 z) = (lower m c main_v20 : S512.Idx → EReal) (ix1 ⟨z.val % 512, by omega⟩) := by
  refine (congrFun ((last_stretch m c main_v56).trans (decay_lane _)) _).trans ?_
  rw [doubled_apply]

theorem band_host (l : Fin 128) : (V m c main_v18 : S1x128.Idx → EReal) (ix2 0 l) = (lower m c main_v14 : S16.Idx → EReal) (ix1 ⟨l.val % 16, by omega⟩) := by
  refine (congrFun ((last_stretch m c main_v18).trans (band_lane _)) _).trans ?_
  rw [band_term, allBands_apply]

/-! Every point reads the whole of what the host laid out. -/

theorem idx : ∀ t : Fin cfg0.N,
    win0_0.index t = ![0, 0] ∧ win0_1.index t = ![0, 0, 0] ∧ win0_2.index t = ![0, 0, 0] ∧ win0_3.index t = ![0, 0, 0]
    ∧ win0_4.index t = ![0, 0] ∧ win0_5.index t = ![0, 0, 0] ∧ win0_6.index t = ![0, 0] ∧ win0_7.index t = ![0, 0, 0]
    ∧ win0_8.index t = ![0, 0] ∧ win0_9.index t = ![0, 0] ∧ win0_10.index t = ![0, 0, 0] ∧ win0_11.index t = ![0, 0, 0]
    ∧ win0_12.index t = ![0, 0] ∧ win0_13.index t = ![t.val, 0] ∧ win0_14.index t = ![t.val, 0] ∧ (grid0.coords t 0).val = t.val :=
  (by decide +kernel : ∀ t : Fin grid0.N,
    win0_0.index t = ![0, 0] ∧ win0_1.index t = ![0, 0, 0] ∧ win0_2.index t = ![0, 0, 0] ∧ win0_3.index t = ![0, 0, 0]
    ∧ win0_4.index t = ![0, 0] ∧ win0_5.index t = ![0, 0, 0] ∧ win0_6.index t = ![0, 0] ∧ win0_7.index t = ![0, 0, 0]
    ∧ win0_8.index t = ![0, 0] ∧ win0_9.index t = ![0, 0] ∧ win0_10.index t = ![0, 0, 0] ∧ win0_11.index t = ![0, 0, 0]
    ∧ win0_12.index t = ![0, 0] ∧ win0_13.index t = ![t.val, 0] ∧ win0_14.index t = ![t.val, 0] ∧ (grid0.coords t 0).val = t.val)

theorem read0 (t : Fin cfg0.N) (l : Fin 128) : iblk m c 0 t (ix2 0 l) = V m c main_v18 (ix2 0 l) := by blk_ext [iblk, idx t]
theorem read1 (t : Fin cfg0.N) (u : Fin 2) (l : Fin 128) (j : Fin 512) : iblk m c 1 t (ix3 u l j) = V m c main_v63 (ix3 u l j) := by blk_ext [iblk, idx t]
theorem read2 (t : Fin cfg0.N) (u : Fin 2) (l : Fin 128) (j : Fin 512) : iblk m c 2 t (ix3 u l j) = V m c main_v70 (ix3 u l j) := by blk_ext [iblk, idx t]
theorem read3 (t : Fin cfg0.N) (u : Fin 2) (l : Fin 128) (j : Fin 512) : iblk m c 3 t (ix3 u l j) = V m c main_v77 (ix3 u l j) := by blk_ext [iblk, idx t]
theorem read4 (t : Fin cfg0.N) (j : Fin 512) : iblk m c 4 t (ix2 0 j) = V m c main_v32 (ix2 0 j) := by blk_ext [iblk, idx t]
theorem read5 (t : Fin cfg0.N) (u : Fin 2) (l j : Fin 512) : iblk m c 5 t (ix3 u l j) = V m c main_v84 (ix3 u l j) := by blk_ext [iblk, idx t]
theorem read6 (t : Fin cfg0.N) (j : Fin 512) : iblk m c 6 t (ix2 0 j) = V m c main_v37 (ix2 0 j) := by blk_ext [iblk, idx t]
theorem read7 (t : Fin cfg0.N) (u : Fin 2) (l j : Fin 512) : iblk m c 7 t (ix3 u l j) = V m c main_v91 (ix3 u l j) := by blk_ext [iblk, idx t]
theorem read8 (t : Fin cfg0.N) (j : Fin 512) : iblk m c 8 t (ix2 0 j) = V m c main_v42 (ix2 0 j) := by blk_ext [iblk, idx t]
theorem read9 (t : Fin cfg0.N) (j : Fin 512) : iblk m c 9 t (ix2 0 j) = V m c main_v46 (ix2 0 j) := by blk_ext [iblk, idx t]
theorem read10 (t : Fin cfg0.N) (u : Fin 2) (l : Fin 64) (j : Fin 1024) : iblk m c 10 t (ix3 u l j) = V m c main_v98 (ix3 u l j) := by blk_ext [iblk, idx t]
theorem read11 (t : Fin cfg0.N) (u : Fin 2) (l : Fin 64) (j : Fin 1024) : iblk m c 11 t (ix3 u l j) = V m c main_v105 (ix3 u l j) := by blk_ext [iblk, idx t]
theorem read12 (t : Fin cfg0.N) (j : Fin 1024) : iblk m c 12 t (ix2 0 j) = V m c main_v56 (ix2 0 j) := by blk_ext [iblk, idx t]

theorem lt_points (t : Fin cfg0.N) : t.val < 8 := t.isLt

/-- The array's row at a point's row. -/
def rowOf (t : Fin cfg0.N) (r : Fin 512) : Fin 4096 := ⟨t.val * 512 + r, by have := lt_points t; omega⟩

theorem sums_place (t : Fin cfg0.N) (r : Fin 512) (z : Fin 1024) : ((cfg0.win 13).blk t).view.emb (ix2 r z) = ix2 (rowOf t r) z := by
  blk_ext [idx t, rowOf]

theorem diffs_place (t : Fin cfg0.N) (r : Fin 512) (z : Fin 1024) : ((cfg0.win 14).blk t).view.emb (ix2 r z) = ix2 (rowOf t r) z := by
  blk_ext [idx t, rowOf]

/-- The bands and the decays that the host counts out. -/
def Bands (k : Fin 16) : EReal := (lower m c main_v14 : S16.Idx → EReal) (ix1 k)
def Decays (k : Fin 512) : EReal := (lower m c main_v20 : S512.Idx → EReal) (ix1 k)

/-- Every point's blocks are laid out as the body expects, if the last weights are real numbers. -/
theorem layout (ho : Plain (Wo m c)) (t : Fin cfg0.N) :
    Layout (Bands m c) (W1 m c) (B1 m c) (W2 m c) (B2 m c) (W3 m c) (B3 m c) (Fr m c) (Wo m c) (Decays m c)
      (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) where
  plain := ho
  band l := (read0 m c t l).trans (band_host m c l)
  time l g k := (read1 m c t 0 l _).trans (time_host m c l g k)
  cosine l g k := (read2 m c t 0 l _).trans (cosine_host m c l g k)
  sine l g k := (read3 m c t 0 l _).trans (sine_host m c l g k)
  second l g k := (read5 m c t 0 l _).trans (second_host m c l g k)
  third l g k := (read7 m c t 0 l _).trans (third_host m c l g k)
  off1 g k := (read4 m c t _).trans (off1_host m c g k)
  off2 g k := (read6 m c t _).trans (off2_host m c g k)
  off3 g k := (read8 m c t _).trans (off3_host m c g k)
  freq g k := (read9 m c t _).trans (freq_host m c g k)
  wAhead x z := (read10 m c t 0 x z).trans (ahead_host m c x z)
  wBack x z := (read11 m c t 0 x z).trans (back_host m c x z)
  decay z := (read12 m c t z).trans (decay_host m c z)
  pieces1 l j := by
    rw [read1, read1, (last_stretch m c main_v63).trans (time_stack _)]
    exact stackA_rest _ l j
  pieces2 l j := by
    rw [read2, read2, (last_stretch m c main_v70).trans (cosine_stack _)]
    exact stackA_rest _ l j
  pieces3 l j := by
    rw [read3, read3, (last_stretch m c main_v77).trans (sine_stack _)]
    exact stackA_rest _ l j
  pieces5 l j := by
    rw [read5, read5, (last_stretch m c main_v84).trans (second_stack _)]
    exact stackB_rest _ l j
  pieces7 l j := by
    rw [read7, read7, (last_stretch m c main_v91).trans (third_stack _)]
    exact stackB_rest _ l j
  pieces10 l j := by
    rw [read10, read10, (last_stretch m c main_v98).trans (ahead_stack _)]
    exact stackC_rest _ l j
  pieces11 l j := by
    rw [read11, read11, (last_stretch m c main_v105).trans (back_stack _)]
    exact stackC_rest _ l j

/-- The results' entries. -/
def sumsRow (y : Fin 4096) (z : Fin 1024) : EReal :=
  ahead (net (Bands m c) (W1 m c) (B1 m c) (W2 m c) (B2 m c) (W3 m c) (B3 m c) (Fr m c)) (Wo m c) (Decays m c) y.val z
    + back (net (Bands m c) (W1 m c) (B1 m c) (W2 m c) (B2 m c) (W3 m c) (B3 m c) (Fr m c)) (Wo m c) (Decays m c) y.val z

def diffsRow (y : Fin 4096) (z : Fin 1024) : EReal :=
  ahead (net (Bands m c) (W1 m c) (B1 m c) (W2 m c) (B2 m c) (W3 m c) (B3 m c) (Fr m c)) (Wo m c) (Decays m c) y.val z
    - back (net (Bands m c) (W1 m c) (B1 m c) (W2 m c) (B2 m c) (W3 m c) (B3 m c) (Fr m c)) (Wo m c) (Decays m c) y.val z

section
variable (ho : Plain (Wo m c))
include ho

theorem sums_block (t : Fin cfg0.N) (r : Fin 512) (z : Fin 1024) :
    out0_13 (grid0.coords t) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (ix2 r z) = sumsRow m c (rowOf t r) z := by
  refine (out_sums (layout m c ho t) _ r z).trans ?_
  rw [(idx t).2.2.2.2.2.2.2.2.2.2.2.2.2.2.2]
  rfl

theorem diffs_block (t : Fin cfg0.N) (r : Fin 512) (z : Fin 1024) :
    out0_14 (grid0.coords t) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (ix2 r z) = diffsRow m c (rowOf t r) z := by
  refine (out_diffs (layout m c ho t) _ r z).trans ?_
  rw [(idx t).2.2.2.2.2.2.2.2.2.2.2.2.2.2.2]
  rfl

/-- The first result holds the sums of both directions. -/
theorem sums_eq : (dats m 0 c).arrAt 13 cfg0.N = fun y => sumsRow m c (y 0) (y 1) := by
  refine (dats m 0 c).arrAt_eq_of_covers 13 _ (by decide +kernel) fun t hf y => ?_
  blk_simp
  rw [after0_13]
  obtain ⟨r, z, rfl⟩ : ∃ (r : Fin 512) (z : Fin 1024), y = ix2 r z := ⟨y 0, y 1, eq_ix2 y⟩
  rw [sums_place]
  exact sums_block m c ho t r z

/-- The second holds the differences. -/
theorem diffs_eq : (dats m 0 c).arrAt 14 cfg0.N = fun y => diffsRow m c (y 0) (y 1) := by
  refine (dats m 0 c).arrAt_eq_of_covers 14 _ (by decide +kernel) fun t hf y => ?_
  blk_simp
  rw [after0_14]
  obtain ⟨r, z, rfl⟩ : ∃ (r : Fin 512) (z : Fin 1024), y = ix2 r z := ⟨y 0, y 1, eq_ix2 y⟩
  rw [diffs_place]
  exact diffs_block m c ho t r z

end

end Cert.Kernel5Ideal.Filt

end
-- ==== Proof.FiltRef.lean ====
/-
  The reference's filters at an index.
-/
module

public import proofs.«01_k».proof.Proof.Gen.Reference5Ideal.Read
public import proofs.«01_k».proof.Proof.FiltSpec
public import Idealize.ShloMosaic.Lib.Pointwise

@[expose] public section

set_option maxRecDepth 65536

noncomputable section

namespace Cert.Reference5Ideal.Filt

open Cert.Reference5Ideal Cert.Reference5Ideal.Gen Cert.Reference5Ideal.Read Idealize.ShloMosaic Idealize.ShloMosaic.TcCoe Idealize.SL.Sem
open Cert.AttnMath Cert.FiltSpec
open scoped BigOperators

variable (x0 : (⟨S1x33x64, .f32⟩ : BufTy).Contents (Elt Ideal)) (x1 : (⟨S1x64, .f32⟩ : BufTy).Contents (Elt Ideal))
  (x2 : (⟨S1x64x64, .f32⟩ : BufTy).Contents (Elt Ideal)) (x3 : (⟨S1x64, .f32⟩ : BufTy).Contents (Elt Ideal))
  (x4 : (⟨S1x64x64, .f32⟩ : BufTy).Contents (Elt Ideal)) (x5 : (⟨S1x64, .f32⟩ : BufTy).Contents (Elt Ideal))
  (x6 : (⟨S1x64x2048, .f32⟩ : BufTy).Contents (Elt Ideal)) (x7 : (⟨S1x64, .f32⟩ : BufTy).Contents (Elt Ideal))

/-- The bands and the decays. -/
def bands (k : Fin 16) : EReal := (val_main_v3 (F := Ideal) : S16.Idx → EReal) (ix1 k)
def decays (k : Fin 512) : EReal := (val_main_v51 (F := Ideal) : S512.Idx → EReal) (ix1 k)

theorem count_apply (y : Fin 4096) : (val_main_v0 (F := Ideal) : S4096.Idx → EReal) (ix1 y) = pos y.val := by
  have e : (val_main_v0 (F := Ideal) : S4096.Idx → EReal) (ix1 y) = ((((BitVec.ofNat 32 y.val).toInt : ℝ)) : EReal) := rfl
  have n : (BitVec.ofNat 32 y.val).toInt = (y.val : ℤ) := by
    rw [BitVec.toInt_eq_toNat_of_lt (by rw [BitVec.toNat_ofNat]; omega), BitVec.toNat_ofNat]
    omega
  rw [e, n, pos]
  norm_cast

theorem time_apply (y : Fin 4096) : (val_main_v2 (F := Ideal) : S4096.Idx → EReal) (ix1 y) = pos y.val * step := by
  rw [val_main_v2_apply, val_main_v1_apply, val_main_cst_apply, count_apply]
  rfl

theorem angle_apply (y : Fin 4096) (k : Fin 16) : (val_main_v10 (F := Ideal) : S4096x16.Idx → EReal) (ix2 y k) = turn * pos y.val * bands k := by
  have e : (val_main_v10 (F := Ideal) : S4096x16.Idx → EReal) (ix2 y k)
      = turn * (val_main_v0 (F := Ideal) : S4096.Idx → EReal) (ix1 y) * (val_main_v3 (F := Ideal) : S16.Idx → EReal) (ix1 k) := by
    unfold val_main_v10 val_main_v9 val_main_v8 val_main_v7 val_main_v6 val_main_v5 val_main_v4
    pointwise
    rfl
  rw [e, count_apply]
  rfl

theorem features_apply (y : Fin 4096) (l : Fin 33) : (val_main_v15 (F := Ideal) : S4096x33.Idx → EReal) (ix2 y l)
    = if l.val < 1 then pos y.val * step else if h' : l.val < 17 then Ideal.cos (turn * pos y.val * bands ⟨l.val - 1, by omega⟩)
      else 0 - Ideal.sin (turn * pos y.val * bands ⟨l.val - 17, by omega⟩) := by
  unfold val_main_v15
  pointwise
  have e11 (q : Fin 1) : (val_main_v11 (F := Ideal) : S4096x1.Idx → EReal) (ix2 y q) = pos y.val * step := by
    rw [← time_apply]
    unfold val_main_v11
    pointwise
  have e12 (q : Fin 16) : (val_main_v12 (F := Ideal) : S4096x16.Idx → EReal) (ix2 y q) = Ideal.cos (turn * pos y.val * bands q) := by
    rw [← angle_apply]
    rfl
  have e14 (q : Fin 16) : (val_main_v14 (F := Ideal) : S4096x16.Idx → EReal) (ix2 y q) = 0 - Ideal.sin (turn * pos y.val * bands q) := by
    rw [← angle_apply, zero_sub]
    rfl
  by_cases h : l.val < 1
  · rw [dif_pos h, if_pos h]
    exact e11 _
  by_cases h' : l.val < 17
  · rw [dif_neg h, dif_pos (by omega), if_neg h, dif_pos h']
    exact e12 _
  · rw [dif_neg h, dif_neg (by omega), if_neg h, dif_neg h']
    refine (e14 _).trans ?_
    congr 4

/-- A sum over the 33 features: the cosines, the sines and the time. -/
theorem sum_features (f : Fin 33 → EReal) :
    ∑ l, f l = ∑ k : Fin 16, f ⟨1 + k.val, by omega⟩ + ∑ k : Fin 16, f ⟨17 + k.val, by omega⟩ + f 0 := by
  rw [Fin.sum_univ_succ, add_comm, Fin.sum_univ_add (fun l : Fin (16 + 16) => f (Fin.succ l))]
  refine congrArg (· + f 0) (congrArg₂ (· + ·) ?_ ?_)
  · exact Finset.sum_congr rfl fun k _ => congrArg f (Fin.ext (Nat.add_comm _ _))
  · exact Finset.sum_congr rfl fun k _ => congrArg f (Fin.ext (by show 16 + k.val + 1 = 17 + k.val; omega))

/-- A vector of 64 in every row. -/
theorem off_apply (v : Vec Ideal S1x64 .f32) (y : Fin 4096) (k : Fin 64) :
    broadcastInDim S4096x64 ![0, 1] bcast_S1x64_S4096x64_0_1 (broadcastInDim S1x64 ![1] bcast_S64_S1x64_1
      (shapeCast S64 v shapeCasts_S1x64_S64 : FVec Ideal S64 .f32) : FVec Ideal S1x64 .f32) (ix2 y k) = v (ix2 0 k) := by
  pointwise

theorem first_apply (y : Fin 4096) (k : Fin 64) : (val_main_v26 (F := Ideal) x0 x1 x7 : S4096x64.Idx → EReal) (ix2 y k)
    = first bands (fun x k => x0 (ix3 0 x k)) (fun k => x1 (ix2 0 k)) (fun k => x7 (ix2 0 k)) (pos y.val) k := by
  have ew (l : Fin 33) : (val_main_v17 (F := Ideal) x0 : S33x64.Idx → EReal) (ix2 l k) = x0 (ix3 0 l k) := by
    unfold val_main_v17
    pointwise
  have el (l : Fin 33) : lidx_main_v18 (ix2 y k) l = ix2 y l := eq_ix2 _
  have er (l : Fin 33) : ridx_main_v18 (ix2 y k) l = ix2 l k := eq_ix2 _
  have ed : (val_main_v18 (F := Ideal) x0 : S4096x64.Idx → EReal) (ix2 y k)
      = ∑ d : Fin 16, Ideal.cos (turn * pos y.val * bands d) * x0 (ix3 0 ⟨1 + d.val, by omega⟩ k)
        + ∑ d : Fin 16, (0 - Ideal.sin (turn * pos y.val * bands d)) * x0 (ix3 0 ⟨17 + d.val, by omega⟩ k) + pos y.val * step * x0 (ix3 0 0 k) := by
    rw [val_main_v18_apply, sum_features]
    simp only [el, er, ew, features_apply]
    refine congrArg₂ (· + ·) (congrArg₂ (· + ·) (Finset.sum_congr rfl fun d _ => ?_) (Finset.sum_congr rfl fun d _ => ?_)) ?_
    · rw [if_neg (by omega), dif_pos (by omega)]
      exact congrArg (fun q => Ideal.cos (turn * pos y.val * bands q) * x0 (ix3 0 ⟨1 + d.val, by omega⟩ k)) (Fin.ext (Nat.add_sub_cancel_left ..))
    · rw [if_neg (by omega), dif_neg (by omega)]
      exact congrArg (fun q => (0 - Ideal.sin (turn * pos y.val * bands q)) * x0 (ix3 0 ⟨17 + d.val, by omega⟩ k))
        (Fin.ext (Nat.add_sub_cancel_left ..))
    · rfl
  rw [first, ← ed]
  have eo : (val_main_v21 (F := Ideal) x1 : S4096x64.Idx → EReal) (ix2 y k) = x1 (ix2 0 k) := off_apply x1 y k
  have ef : (val_main_v24 (F := Ideal) x7 : S4096x64.Idx → EReal) (ix2 y k) = x7 (ix2 0 k) := off_apply x7 y k
  rw [← eo, ← ef]
  rfl

/-- A matrix of 64 rows without its leading one. -/
theorem flat_apply (w : Vec Ideal S1x64x64 .f32) (x k : Fin 64) :
    (shapeCast S64x64 w shapeCasts_S1x64x64_S64x64 : FVec Ideal S64x64 .f32) (ix2 x k) = w (ix3 0 x k) := by
  pointwise

theorem second_apply (y : Fin 4096) (k : Fin 64) : (val_main_v36 (F := Ideal) x0 x1 x2 x3 x7 : S4096x64.Idx → EReal) (ix2 y k)
    = layer (fun x k => x2 (ix3 0 x k)) (fun k => x3 (ix2 0 k)) (fun k => x7 (ix2 0 k))
        (first bands (fun x k => x0 (ix3 0 x k)) (fun k => x1 (ix2 0 k)) (fun k => x7 (ix2 0 k)) (pos y.val)) k := by
  have el (l : Fin 64) : lidx_main_v28 (ix2 y k) l = ix2 y l := eq_ix2 _
  have er (l : Fin 64) : ridx_main_v28 (ix2 y k) l = ix2 l k := eq_ix2 _
  have ed := val_main_v28_apply x0 x1 x2 x7 (ix2 y k)
  simp only [el, er, first_apply] at ed
  have eo : (val_main_v31 (F := Ideal) x3 : S4096x64.Idx → EReal) (ix2 y k) = x3 (ix2 0 k) := off_apply x3 y k
  have ef : (val_main_v34 (F := Ideal) x7 : S4096x64.Idx → EReal) (ix2 y k) = x7 (ix2 0 k) := off_apply x7 y k
  have ew (l : Fin 64) : (val_main_v27 (F := Ideal) x2 : S64x64.Idx → EReal) (ix2 l k) = x2 (ix3 0 l k) := flat_apply x2 l k
  simp only [ew] at ed
  rw [layer, ← ed, ← eo, ← ef]
  rfl

theorem third_apply (y : Fin 4096) (k : Fin 64) : (val_main_v46 (F := Ideal) x0 x1 x2 x3 x4 x5 x7 : S4096x64.Idx → EReal) (ix2 y k)
    = net bands x0 x1 x2 x3 x4 x5 x7 (pos y.val) k := by
  have el (l : Fin 64) : lidx_main_v38 (ix2 y k) l = ix2 y l := eq_ix2 _
  have er (l : Fin 64) : ridx_main_v38 (ix2 y k) l = ix2 l k := eq_ix2 _
  have ed := val_main_v38_apply x0 x1 x2 x3 x4 x7 (ix2 y k)
  simp only [el, er, second_apply] at ed
  have eo : (val_main_v41 (F := Ideal) x5 : S4096x64.Idx → EReal) (ix2 y k) = x5 (ix2 0 k) := off_apply x5 y k
  have ef : (val_main_v44 (F := Ideal) x7 : S4096x64.Idx → EReal) (ix2 y k) = x7 (ix2 0 k) := off_apply x7 y k
  have ew (l : Fin 64) : (val_main_v37 (F := Ideal) x4 : S64x64.Idx → EReal) (ix2 l k) = x4 (ix3 0 l k) := flat_apply x4 l k
  simp only [ew] at ed
  rw [net, layer, ← ed, ← eo, ← ef]
  rfl

/-- The taps of all columns at all positions. -/
theorem taps_apply (y : Fin 4096) (a u : Fin 2) (e : Fin 512) :
    (val_main_v61 (F := Ideal) x0 x1 x2 x3 x4 x5 x6 x7 : S4096x2x2x512.Idx → EReal) (ix4 y a u e)
      = tap (net bands x0 x1 x2 x3 x4 x5 x7 (pos y.val)) (fun x => x6 (ix3 0 x ⟨a.val * 1024 + u.val * 512 + e.val, by omega⟩)) (decays e) (pos y.val) := by
  have e49 : (val_main_v49 (F := Ideal) x0 x1 x2 x3 x4 x5 x6 x7 : S4096x2x2x512.Idx → EReal) (ix4 y a u e)
      = (val_main_v48 (F := Ideal) x0 x1 x2 x3 x4 x5 x6 x7 : S4096x2048.Idx → EReal) (ix2 y ⟨a.val * 1024 + u.val * 512 + e.val, by omega⟩) := by
    unfold val_main_v49
    generalize val_main_v48 (F := Ideal) x0 x1 x2 x3 x4 x5 x6 x7 = v
    pointwise
  have el (q : Fin 2048) (l : Fin 64) : lidx_main_v48 (ix2 y q) l = ix2 y l := eq_ix2 _
  have er (q : Fin 2048) (l : Fin 64) : ridx_main_v48 (ix2 y q) l = ix2 l q := eq_ix2 _
  have ew (q : Fin 2048) (l : Fin 64) : (val_main_v47 (F := Ideal) x6 : S64x2048.Idx → EReal) (ix2 l q) = x6 (ix3 0 l q) := by
    unfold val_main_v47
    pointwise
  have ed := val_main_v48_apply x0 x1 x2 x3 x4 x5 x6 x7 (ix2 y ⟨a.val * 1024 + u.val * 512 + e.val, by omega⟩)
  simp only [el, er, ew, third_apply] at ed
  have e57 : (val_main_v57 (F := Ideal) : S4096x512.Idx → EReal) (ix2 y e) = (0 - pos y.val * step) * decays e := by
    rw [← time_apply, zero_sub]
    unfold val_main_v57 val_main_v56 val_main_v55 val_main_v54 val_main_v53 val_main_v52 decays
    pointwise
  have e60 : (val_main_v60 (F := Ideal) : S4096x2x2x512.Idx → EReal) (ix4 y a u e) = Ideal.exp ((0 - pos y.val * step) * decays e) := by
    rw [← e57]
    unfold val_main_v60 val_main_v59 val_main_v58
    generalize val_main_v57 (F := Ideal) = v
    pointwise
  rw [tap, ← ed, ← e60, ← e49]
  rfl

/-- The filters ahead, and the filters back: the first row nothing, then the rows from the last to the second. -/
theorem ahead_apply (y : Fin 4096) (a : Fin 2) (e : Fin 512) :
    (val_main_v63 (F := Ideal) x0 x1 x2 x3 x4 x5 x6 x7 : S4096x2x512.Idx → EReal) (ix3 y a e)
      = (val_main_v61 (F := Ideal) x0 x1 x2 x3 x4 x5 x6 x7 : S4096x2x2x512.Idx → EReal) (ix4 y a 0 e) := by
  unfold val_main_v63 val_main_v62
  generalize val_main_v61 (F := Ideal) x0 x1 x2 x3 x4 x5 x6 x7 = v
  pointwise

theorem back_apply (y : Fin 4096) (a : Fin 2) (e : Fin 512) :
    (val_main_v68 (F := Ideal) x0 x1 x2 x3 x4 x5 x6 x7 : S4096x2x512.Idx → EReal) (ix3 y a e)
      = if h : y.val = 0 then 0
        else (val_main_v61 (F := Ideal) x0 x1 x2 x3 x4 x5 x6 x7 : S4096x2x2x512.Idx → EReal) (ix4 ⟨4096 - y.val, by omega⟩ a 1 e) := by
  unfold val_main_v68 val_main_v67 val_main_v66 val_main_v65
  generalize val_main_v61 (F := Ideal) x0 x1 x2 x3 x4 x5 x6 x7 = v
  pointwise
  by_cases h : y.val = 0
  · rw [dif_pos (by omega), dif_pos h]
    show Ideal.ofBits .f32 0x00000000#32 = 0
    simp [Ideal.ofBits, Ideal.ieee]
  · rw [dif_neg (by omega), dif_neg h]
    congr 2
    refine Fin.ext ?_
    show 1 + (4095 - (y.val - 1 + 1)) = 4096 - y.val
    omega

theorem ahead_eq (y : Fin 4096) (z : Fin 1024) :
    (val_main_v63 (F := Ideal) x0 x1 x2 x3 x4 x5 x6 x7 : S4096x2x512.Idx → EReal) (ix3 y ⟨z.val / 512, by omega⟩ ⟨z.val % 512, by omega⟩)
      = ahead (net bands x0 x1 x2 x3 x4 x5 x7) x6 decays y.val z := by
  rw [ahead_apply, taps_apply]
  rfl

theorem back_eq (y : Fin 4096) (z : Fin 1024) :
    (val_main_v68 (F := Ideal) x0 x1 x2 x3 x4 x5 x6 x7 : S4096x2x512.Idx → EReal) (ix3 y ⟨z.val / 512, by omega⟩ ⟨z.val % 512, by omega⟩)
      = back (net bands x0 x1 x2 x3 x4 x5 x7) x6 decays y.val z := by
  rw [back_apply, back]
  by_cases h : y.val = 0
  · rw [dif_pos h, if_pos h]
  · rw [dif_neg h, if_neg h, taps_apply]
    rfl

/-- The results: the sums and the differences of both. -/
theorem sums_apply (y : Fin 4096) (z : Fin 1024) : (val_main_v71 (F := Ideal) x0 x1 x2 x3 x4 x5 x6 x7 : S4096x1024.Idx → EReal) (ix2 y z)
    = ahead (net bands x0 x1 x2 x3 x4 x5 x7) x6 decays y.val z + back (net bands x0 x1 x2 x3 x4 x5 x7) x6 decays y.val z := by
  have e : (val_main_v71 (F := Ideal) x0 x1 x2 x3 x4 x5 x6 x7 : S4096x1024.Idx → EReal) (ix2 y z)
      = (val_main_v63 (F := Ideal) x0 x1 x2 x3 x4 x5 x6 x7 : S4096x2x512.Idx → EReal) (ix3 y ⟨z.val / 512, by omega⟩ ⟨z.val % 512, by omega⟩)
        + (val_main_v68 (F := Ideal) x0 x1 x2 x3 x4 x5 x6 x7 : S4096x2x512.Idx → EReal) (ix3 y ⟨z.val / 512, by omega⟩ ⟨z.val % 512, by omega⟩) := by
    unfold val_main_v71 val_main_v70 val_main_v69
    generalize val_main_v63 (F := Ideal) x0 x1 x2 x3 x4 x5 x6 x7 = v
    generalize val_main_v68 (F := Ideal) x0 x1 x2 x3 x4 x5 x6 x7 = w
    pointwise
  rw [e, ahead_eq, back_eq]

theorem diffs_apply (y : Fin 4096) (z : Fin 1024) : (val_main_v74 (F := Ideal) x0 x1 x2 x3 x4 x5 x6 x7 : S4096x1024.Idx → EReal) (ix2 y z)
    = ahead (net bands x0 x1 x2 x3 x4 x5 x7) x6 decays y.val z - back (net bands x0 x1 x2 x3 x4 x5 x7) x6 decays y.val z := by
  have e : (val_main_v74 (F := Ideal) x0 x1 x2 x3 x4 x5 x6 x7 : S4096x1024.Idx → EReal) (ix2 y z)
      = (val_main_v63 (F := Ideal) x0 x1 x2 x3 x4 x5 x6 x7 : S4096x2x512.Idx → EReal) (ix3 y ⟨z.val / 512, by omega⟩ ⟨z.val % 512, by omega⟩)
        - (val_main_v68 (F := Ideal) x0 x1 x2 x3 x4 x5 x6 x7 : S4096x2x512.Idx → EReal) (ix3 y ⟨z.val / 512, by omega⟩ ⟨z.val % 512, by omega⟩) := by
    unfold val_main_v74 val_main_v73 val_main_v72
    generalize val_main_v63 (F := Ideal) x0 x1 x2 x3 x4 x5 x6 x7 = v
    generalize val_main_v68 (F := Ideal) x0 x1 x2 x3 x4 x5 x6 x7 = w
    pointwise
  rw [e, ahead_eq, back_eq]

end Cert.Reference5Ideal.Filt

end
-- ==== Proof.Plain.lean ====
/-
  What the precondition on the filters' last weights says: they are reals.
-/
module

public import proofs.«01_k».proof.Proof.Finite
public import proofs.«01_k».proof.Pre_plain
public import Idealize.ShloMosaic.Lib.Pointwise

@[expose] public section

set_option maxRecDepth 65536

noncomputable section

namespace Cert.Plain

open Idealize.ShloMosaic Cert.Finite

theorem facts : Cert.Pre_plain.Facts where
  bcast_S_S1x64x2048 := by decide

theorem real_of_pre [Cert.Pre_plain.Facts] (x0 : FVec Ideal Cert.Pre_plain.S1x33x64 .f32) (x1 : FVec Ideal Cert.Pre_plain.S1x64 .f32)
    (x2 : FVec Ideal Cert.Pre_plain.S1x64x64 .f32) (x3 : FVec Ideal Cert.Pre_plain.S1x64 .f32)
    (x4 : FVec Ideal Cert.Pre_plain.S1x64x64 .f32) (x5 : FVec Ideal Cert.Pre_plain.S1x64 .f32)
    (x6 : FVec Ideal Cert.Pre_plain.S1x64x2048 .f32) (x7 : FVec Ideal Cert.Pre_plain.S1x64 .f32)
    (h : Cert.Pre_plain.fn (F := Ideal) x0 x1 x2 x3 x4 x5 x6 x7 = fun _ => 1#1) (i : Cert.Pre_plain.S1x64x2048.Idx) :
    ((EReal.toReal (x6 i) : ℝ) : EReal) = x6 i := by
  have e : Ideal.cmp .olt (max (x6 i) (-(x6 i))) (Ideal.ofBits .f32 0x7F800000#32) = 1#1 := congrFun h i
  rw [inf_eq] at e
  exact real_of_abs_lt (lt_of_cmp e)

end Cert.Plain

end
-- ==== Proof.FiltSame.lean ====
/-
  The filters of the call and of the reference are the same: the bands and the decays are computed alike, and so both results'
  entries agree.
-/
module

public import proofs.«01_k».proof.Proof.FiltArray
public import proofs.«01_k».proof.Proof.FiltRef
public import proofs.«01_k».proof.Proof.Plain

@[expose] public section

set_option maxRecDepth 65536

noncomputable section

namespace Cert.FiltSame

open Idealize.ShloMosaic Idealize.ShloMosaic.TcCoe Idealize.SL.Sem
open Cert.FiltSpec Cert.Kernel5Ideal.Filt
open Cert.Reference5Ideal.Filt (bands decays)
open Cert.Reference5Ideal.Read (val_main_v71 val_main_v74)

variable (m : (ℓ : Loc Cert.Kernel5Ideal.nD Cert.Kernel5Ideal.τ Cert.Kernel5Ideal.sig) → Buf (Elt Ideal) ℓ) (c : Dev Cert.Kernel5Ideal.nD)

theorem bands_same : Bands m c = bands := by
  funext k
  rfl

theorem decays_same : Decays m c = decays := by
  funext k
  rfl

/-- An entry of either result. -/
theorem sums_row (y : Fin 4096) (z : Fin 1024) : sumsRow m c y z
    = (val_main_v71 (F := Ideal) (W1 m c) (B1 m c) (W2 m c) (B2 m c) (W3 m c) (B3 m c) (Wo m c) (Fr m c)
        : Cert.Reference5Ideal.S4096x1024.Idx → EReal) (ix2 y z) := by
  rw [Cert.Reference5Ideal.Filt.sums_apply, ← bands_same m c, ← decays_same m c]
  rfl

theorem diffs_row (y : Fin 4096) (z : Fin 1024) : diffsRow m c y z
    = (val_main_v74 (F := Ideal) (W1 m c) (B1 m c) (W2 m c) (B2 m c) (W3 m c) (B3 m c) (Wo m c) (Fr m c)
        : Cert.Reference5Ideal.S4096x1024.Idx → EReal) (ix2 y z) := by
  rw [Cert.Reference5Ideal.Filt.diffs_apply, ← bands_same m c, ← decays_same m c]
  rfl

variable (ho : Plain (Wo m c))
include ho

theorem sums_same : (Cert.Kernel5Ideal.Gen.dats m 0 c).arrAt 13 Cert.Kernel5Ideal.cfg0.N
    = val_main_v71 (F := Ideal) (W1 m c) (B1 m c) (W2 m c) (B2 m c) (W3 m c) (B3 m c) (Wo m c) (Fr m c) := by
  rw [sums_eq m c ho]
  funext i
  rw [eq_ix2 i]
  exact sums_row m c (i 0) (i 1)

theorem diffs_same : (Cert.Kernel5Ideal.Gen.dats m 0 c).arrAt 14 Cert.Kernel5Ideal.cfg0.N
    = val_main_v74 (F := Ideal) (W1 m c) (B1 m c) (W2 m c) (B2 m c) (W3 m c) (B3 m c) (Wo m c) (Fr m c) := by
  rw [diffs_eq m c ho]
  funext i
  rw [eq_ix2 i]
  exact diffs_row m c (i 0) (i 1)

end Cert.FiltSame

end
-- ==== Proof.lean ====
/-
  The proof of `Cert.Claim`: the frames are the generated ones, the idealizations rewrote nothing, and the arrays of the
  attention, of the input projection, of the merge, of the rotated queries and keys and of the filters equal their references', entry by entry.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Read
public import proofs.«01_k».proof.Proof.AttnArray
public import proofs.«01_k».proof.Proof.AttnRef
public import proofs.«01_k».proof.Proof.ProjArray
public import proofs.«01_k».proof.Proof.ProjRef
public import proofs.«01_k».proof.Proof.MergeArray
public import proofs.«01_k».proof.Proof.MergeRefShare
public import proofs.«01_k».proof.Proof.Finite
public import proofs.«01_k».proof.Proof.RopeArray
public import proofs.«01_k».proof.Proof.RopeRef
public import proofs.«01_k».proof.Proof.Tame
public import proofs.«01_k».proof.Proof.FiltSame
public import Idealize.ShloMosaic.Adequacy
public import Idealize.ShloMosaic.Init

@[expose] public section

noncomputable section

namespace Cert.Proof

open Idealize.ShloMosaic Idealize.SL.Sem

/-- From memories that agree on the arguments, with finite values and lambda, both programs end with the same attention. -/
theorem attention : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre hm
  refine ⟨fun c => (Cert.KernelIdeal.Gen.dats m 0 c).arrAt 5 Cert.KernelIdeal.cfg0.N, Cert.KernelIdeal.Value.run_blocks m g, ?_⟩
  refine (θ_run Cert.ReferenceIdeal.defs _ _).mono (fun r h c => ⟨?_, (h c).2⟩) (Cert.ReferenceIdeal.Value.run m' g')
  haveI := Cert.Finite.facts
  obtain ⟨hv, hl⟩ := Cert.Finite.real_of_pre _ _ _ _ (hpre c)
  refine (h c).1.trans ((Cert.ReferenceIdeal.Read.val_main_v69_eq m' c).trans ?_)
  refine Eq.trans ?_ (Cert.KernelIdeal.Attn.array_eq m c hv hl).symm
  rw [(hm c).1, (hm c).2.1, (hm c).2.2.1, (hm c).2.2.2]
  funext i
  rw [eq_ix2 i]
  exact Cert.ReferenceIdeal.Attn.result_apply _ _ _ _ _ _

/-- From memories that agree on the arguments, both programs end with the same input projection. -/
theorem projection : Cert.algebraic_Kernel2Ideal_Reference2Ideal (hKernel2Ideal := Cert.Kernel2Ideal.Gen.facts)
    (hReference2Ideal := Cert.Reference2Ideal.Gen.facts) := by
  intro m g m' g' _ hm
  refine ⟨fun c => (Cert.Kernel2Ideal.Gen.dats m 0 c).arrAt 3 Cert.Kernel2Ideal.cfg0.N, Cert.Kernel2Ideal.Value.run_blocks m g, ?_⟩
  refine (θ_run Cert.Reference2Ideal.defs _ _).mono (fun r h c => ⟨?_, (h c).2⟩) (Cert.Reference2Ideal.Value.run m' g')
  refine (h c).1.trans ((Cert.Reference2Ideal.Read.val_main_v17_eq _ _ _).trans ?_)
  refine Eq.trans ?_ (Cert.Kernel2Ideal.Proj.array_eq m c).symm
  rw [(hm c).1, (hm c).2.1, (hm c).2.2]
  funext i
  rw [eq_ix2 i]
  exact Cert.Reference2Ideal.Proj.result_apply _ _ _ _ _

/-- From memories that agree on the arguments, both programs end with the same merged rows, the same normalized rows and the
    same router's probabilities. -/
theorem merge : Cert.algebraic_Kernel3Ideal_Reference3Ideal (hKernel3Ideal := Cert.Kernel3Ideal.Gen.facts)
    (hReference3Ideal := Cert.Reference3Ideal.Gen.facts) := by
  intro m g m' g' _ hm
  refine ⟨fun c => (Cert.Kernel3Ideal.Gen.dats m 0 c).arrAt 10 Cert.Kernel3Ideal.cfg0.N,
    fun c => (Cert.Kernel3Ideal.Gen.dats m 0 c).arrAt 11 Cert.Kernel3Ideal.cfg0.N,
    fun c => (Cert.Kernel3Ideal.Gen.dats m 0 c).arrAt 12 Cert.Kernel3Ideal.cfg0.N, Cert.Kernel3Ideal.Value.run_blocks m g, ?_⟩
  refine (θ_run Cert.Reference3Ideal.defs _ _).mono (fun r h c => ⟨?_, ?_, ?_, (h c).2.2.2⟩) (Cert.Reference3Ideal.Value.run m' g')
  · refine (h c).1.trans (Eq.trans (Cert.Reference3Ideal.Read.val_main_v53_eq (m' ((c.tc : Thread _ _).loc Cert.Reference3Ideal.main_arg0))
      (m' ((c.tc : Thread _ _).loc Cert.Reference3Ideal.main_arg1)) (m' ((c.tc : Thread _ _).loc Cert.Reference3Ideal.main_arg2))
      (m' ((c.tc : Thread _ _).loc Cert.Reference3Ideal.main_arg3)) (m' ((c.tc : Thread _ _).loc Cert.Reference3Ideal.main_arg4))
      (m' ((c.tc : Thread _ _).loc Cert.Reference3Ideal.main_arg5)) (m' ((c.tc : Thread _ _).loc Cert.Reference3Ideal.main_arg6))) ?_)
    refine (Cert.Reference3Ideal.Merge.added_eq _ _ _ _ _ _ _).trans (Eq.trans ?_ (Cert.Kernel3Ideal.Merge.added_array m c).symm)
    obtain ⟨e0, e1, e2, e3, e4, e5, e6, e7, e8⟩ := hm c
    simp only [e0, e1, e2, e3, e4, e5, e6]
    rfl
  · refine (h c).2.1.trans ((Cert.Reference3Ideal.Read.val_main_v55_eq m' c).trans ?_)
    refine (Cert.Reference3Ideal.Merge.normed_eq _ _ _ _ _ _ _ _).trans (Eq.trans ?_ (Cert.Kernel3Ideal.Merge.normed_array m c).symm)
    obtain ⟨e0, e1, e2, e3, e4, e5, e6, e7, e8⟩ := hm c
    simp only [e0, e1, e2, e3, e4, e5, e6, e7]
    rfl
  · refine (h c).2.2.1.trans ((Cert.Reference3Ideal.Read.val_main_v56_eq m' c).trans ?_)
    refine (Cert.Reference3Ideal.Merge.share_eq _ _ _ _ _ _ _ _ _).trans (Eq.trans ?_ (Cert.Kernel3Ideal.Merge.share_array m c).symm)
    obtain ⟨e0, e1, e2, e3, e4, e5, e6, e7, e8⟩ := hm c
    simp only [e0, e1, e2, e3, e4, e5, e6, e7, e8]
    rfl

/-- From memories that agree on the arguments, with finite gains of the turned lanes, both programs end with the same queries and
    keys. -/
theorem rotation : Cert.algebraic_Kernel4Ideal_Reference4Ideal_pre_tame (hKernel4Ideal := Cert.Kernel4Ideal.Gen.facts)
    (hReference4Ideal := Cert.Reference4Ideal.Gen.facts) (hPre_tame := Cert.Tame.facts) := by
  intro m g m' g' hpre hm
  refine ⟨fun c => (Cert.Kernel4Ideal.Gen.dats m 0 c).arrAt 5 Cert.Kernel4Ideal.cfg0.N, Cert.Kernel4Ideal.Value.run_blocks m g, ?_⟩
  refine (θ_run Cert.Reference4Ideal.defs _ _).mono (fun r h c => ⟨?_, (h c).2⟩) (Cert.Reference4Ideal.Value.run m' g')
  haveI := Cert.Tame.facts
  refine (h c).1.trans ((Cert.Reference4Ideal.Read.val_main_v45_eq m' c).trans ?_)
  refine Eq.trans ?_ (Cert.Kernel4Ideal.Rope.array_eq m c (Cert.Tame.real_of_pre _ _ _ _ _ (hpre c))).symm
  rw [(hm c).1, (hm c).2.1, (hm c).2.2.1, (hm c).2.2.2.1, (hm c).2.2.2.2]
  funext i
  rw [eq_ix2 i]
  exact Cert.Reference4Ideal.Rope.result_apply _ _ _ _ _ _ _

/-- From memories that agree on the arguments, with finite last weights, both programs end with the same sums and the same differences
    of the filters ahead and back. -/
theorem filters : Cert.algebraic_Kernel5Ideal_Reference5Ideal_pre_plain (hKernel5Ideal := Cert.Kernel5Ideal.Gen.facts)
    (hReference5Ideal := Cert.Reference5Ideal.Gen.facts) (hPre_plain := Cert.Plain.facts) := by
  intro m g m' g' hpre hm
  refine ⟨fun c => (Cert.Kernel5Ideal.Gen.dats m 0 c).arrAt 13 Cert.Kernel5Ideal.cfg0.N,
    fun c => (Cert.Kernel5Ideal.Gen.dats m 0 c).arrAt 14 Cert.Kernel5Ideal.cfg0.N, Cert.Kernel5Ideal.Value.run_blocks m g, ?_⟩
  refine (θ_run Cert.Reference5Ideal.defs _ _).mono (fun r h c => ⟨?_, ?_, (h c).2.2⟩) (Cert.Reference5Ideal.Value.run m' g')
  all_goals
    haveI := Cert.Plain.facts
    have ho := Cert.Plain.real_of_pre _ _ _ _ _ _ _ _ (hpre c)
    obtain ⟨e0, e1, e2, e3, e4, e5, e6, e7⟩ := hm c
  · refine (h c).1.trans ((Cert.Reference5Ideal.Read.val_main_v71_eq m' c).trans ?_)
    refine Eq.trans ?_ (Cert.FiltSame.sums_same m c (fun _ _ => ho _)).symm
    rw [e0, e1, e2, e3, e4, e5, e6, e7]
  · refine (h c).2.1.trans ((Cert.Reference5Ideal.Read.val_main_v74_eq m' c).trans ?_)
    refine Eq.trans ?_ (Cert.FiltSame.diffs_same m c (fun _ _ => ho _)).symm
    rw [e0, e1, e2, e3, e4, e5, e6, e7]

/-! The references leave their arguments unchanged; they declare no semaphore. -/

theorem referenceFrame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

theorem reference2Frame : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run m ρ)

theorem reference3Frame : Cert.quiescent_Reference3Ideal (hReference3Ideal := Cert.Reference3Ideal.Gen.facts) := fun m ρ _ =>
  (θ_run Cert.Reference3Ideal.defs _ _).mono (fun r h => ⟨fun c => (h c).2.2.2, sem_eq_zero_of_no_sems (by decide) r.2⟩)
    (Cert.Reference3Ideal.Value.run m ρ)

theorem reference4Frame : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run m ρ)

theorem reference5Frame : Cert.quiescent_Reference5Ideal (hReference5Ideal := Cert.Reference5Ideal.Gen.facts) := fun m ρ _ =>
  (θ_run Cert.Reference5Ideal.defs _ _).mono (fun r h => ⟨fun c => (h c).2.2, sem_eq_zero_of_no_sems (by decide) r.2⟩)
    (Cert.Reference5Ideal.Value.run m ρ)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Finite.facts, Cert.Tame.facts, Cert.Plain.facts,
    fun m ρ _ => Cert.Kernel.Gen.frame m ρ, fun m ρ _ => Cert.KernelIdeal.Gen.frame m ρ, fun m ρ _ => Cert.KernelIdeal.Gen.frame m ρ,
    fun m ρ _ => referenceFrame m ρ trivial, fun m ρ _ => referenceFrame m ρ trivial,
    fun m ρ _ => Cert.Kernel2.Gen.frame m ρ, fun m ρ _ => Cert.Kernel2Ideal.Gen.frame m ρ, reference2Frame,
    fun m ρ _ => Cert.Kernel3.Gen.frame m ρ, fun m ρ _ => Cert.Kernel3Ideal.Gen.frame m ρ, reference3Frame,
    fun m ρ _ => Cert.Kernel4.Gen.frame m ρ, fun m ρ _ => Cert.Kernel4Ideal.Gen.frame m ρ, fun m ρ _ => Cert.Kernel4Ideal.Gen.frame m ρ,
    fun m ρ _ => reference4Frame m ρ trivial, fun m ρ _ => reference4Frame m ρ trivial,
    fun m ρ _ => Cert.Kernel5.Gen.frame m ρ, fun m ρ _ => Cert.Kernel5Ideal.Gen.frame m ρ, fun m ρ _ => Cert.Kernel5Ideal.Gen.frame m ρ,
    fun m ρ _ => reference5Frame m ρ trivial, fun m ρ _ => reference5Frame m ρ trivial,
    trivial, attention, trivial, projection, trivial, merge, trivial, rotation, trivial, filters⟩

end Cert.Proof

end
